-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v28)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v48_0)) (v1 : (c : Dev Cert.Kernel4Ideal.nD) → Buf (Elt Ideal) ((c.tc : Thread Cert.Kernel4Ideal.nD Cert.Kernel4Ideal.τ).loc Cert.Kernel4Ideal.main_v48_1)) (v2 : (c : Dev Cert.Kernel4Ideal.nD) → Buf (Elt Ideal) ((c.tc : Thread Cert.Kernel4Ideal.nD Cert.Kernel4Ideal.τ).loc Cert.Kernel4Ideal.main_v48_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_0) = v0 c
          ∧ r.2.mem ((c.tc : Thread Cert.Kernel4Ideal.nD Cert.Kernel4Ideal.τ).loc Cert.Kernel4Ideal.main_v48_1) = v1 c
          ∧ r.2.mem ((c.tc : Thread Cert.Kernel4Ideal.nD Cert.Kernel4Ideal.τ).loc Cert.Kernel4Ideal.main_v48_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S2x4x1024x512 : Shape := ⟨4, ![2, 4, 1024, 512]⟩
abbrev S2x4x512x1024 : Shape := ⟨4, ![2, 4, 512, 1024]⟩
abbrev S1024x512 : Shape := ⟨2, ![1024, 512]⟩
abbrev S512x1024 : Shape := ⟨2, ![512, 1024]⟩
abbrev S2x1024x512 : Shape := ⟨3, ![2, 1024, 512]⟩
abbrev S2x512x1024 : Shape := ⟨3, ![2, 512, 1024]⟩
abbrev S2x1x1024x512 : Shape := ⟨4, ![2, 1, 1024, 512]⟩
abbrev S2x1x512x1024 : Shape := ⟨4, ![2, 1, 512, 1024]⟩
abbrev S512x512 : Shape := ⟨2, ![512, 512]⟩
abbrev S1x512x1024 : Shape := ⟨3, ![1, 512, 1024]⟩
abbrev S1x1024x512 : Shape := ⟨3, ![1, 1024, 512]⟩
abbrev S1x1x1024x512 : Shape := ⟨4, ![1, 1, 1024, 512]⟩
abbrev S1x1x512x1024 : Shape := ⟨4, ![1, 1, 512, 1024]⟩
abbrev S512 : Shape := ⟨1, ![512]⟩
abbrev S512x1 : Shape := ⟨2, ![512, 1]⟩

abbrev nBuf : Space → Nat
  | .hbm => 39
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S1024x4096, .bf16⟩
  | .hbm, ⟨26, _⟩ => ⟨S1024x8x512, .bf16⟩
  | .hbm, ⟨27, _⟩ => ⟨S8x1024x512, .bf16⟩
  | .hbm, ⟨28, _⟩ => ⟨S4096x1024, .bf16⟩
  | .hbm, ⟨29, _⟩ => ⟨S8x512x1024, .bf16⟩
  | .hbm, ⟨30, _⟩ => ⟨S1024x4096, .f32⟩
  | .hbm, ⟨31, _⟩ => ⟨S1024x4096, .bf16⟩
  | .hbm, ⟨32, _⟩ => ⟨S4096x4096, .bf16⟩
  | .hbm, ⟨33, _⟩ => ⟨S4096x1024, .bf16⟩
  | .hbm, ⟨34, _⟩ => ⟨S1x1024, .f32⟩
  | .hbm, ⟨35, _⟩ => ⟨S4096x1024, .f32⟩
  | .hbm, ⟨36, _⟩ => ⟨S2x4x1024x512, .bf16⟩
  | .hbm, ⟨37, _⟩ => ⟨S2x4x512x1024, .bf16⟩
  | .hbm, ⟨38, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S2x1024x512, .bf16⟩
  | .local _ .vmem, ⟨12, _⟩ => ⟨S2x512x1024, .bf16⟩
  | .local _ .vmem, ⟨13, _⟩ => ⟨S512x1024, .f32⟩
  | .local _ .vmem, ⟨14, _⟩ => ⟨S512x1024, .f32⟩
  | .local _ .vmem, ⟨15, _⟩ => ⟨S2x1x1024x512, .bf16⟩
  | .local _ .vmem, ⟨16, _⟩ => ⟨S2x1x1024x512, .bf16⟩
  | .local _ .vmem, ⟨17, _⟩ => ⟨S2x1x512x1024, .bf16⟩
  | .local _ .vmem, ⟨18, _⟩ => ⟨S2x1x512x1024, .bf16⟩
  | .local _ .vmem, ⟨19, _⟩ => ⟨S1x1024, .f32⟩
  | .local _ .vmem, ⟨20, _⟩ => ⟨S4096x1024, .f32⟩
  | .local _ .vmem, ⟨21, _⟩ => ⟨S2x1024x512, .f32⟩
  | .local _ .vmem, ⟨22, _⟩ => ⟨S2x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_cond2 (i : grid0.Coords) : BitVec 1 :=
  let arg0 : BitVec 32 := BitVec.ofNat 32 (i 0).val
  let c0_i32_4 : BitVec 32 := 0#32
  let v9 : BitVec 1 := Scalar.cmpi .eq arg0 c0_i32_4
  let v10 : BitVec 32 := Scalar.extui v9
  let c0_i32_5 : BitVec 32 := 0#32
  let v11 : BitVec 1 := Scalar.cmpi .ne v10 c0_i32_5
  v11

def k0_off1 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v85 : Index := Scalar.indexCast v5
  let c0_58 : Index := 0#32
  ![v85.toNat, 0]
def k0_off2 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v71 : Index := Scalar.indexCast v5
  let c0_53 : Index := 0#32
  ![v71.toNat, 0]
def k0_cond4 (i : grid0.Coords) : BitVec 1 :=
  let arg0 : BitVec 32 := BitVec.ofNat 32 (i 0).val
  let c3_i32 : BitVec 32 := 3#32
  let v81 : BitVec 1 := Scalar.cmpi .eq arg0 c3_i32
  let v82 : BitVec 32 := Scalar.extui v81
  let c0_i32_56 : BitVec 32 := 0#32
  let v83 : BitVec 1 := Scalar.cmpi .ne v82 c0_i32_56
  v83

def k0_off3 (i : grid0.Coords) : Fin 2 → Nat :=
  let arg1 : BitVec 32 := BitVec.ofNat 32 (i 1).val
  let c512_i32 : BitVec 32 := 512#32
  let v4 : BitVec 32 := Scalar.muli arg1 c512_i32
  let v5 : BitVec 32 := v4
  let v96 : Index := Scalar.indexCast v5
  let c0_64 : Index := 0#32
  ![v96.toNat, 0]
def k0_cond3 (i : grid0.Coords) : BitVec 1 :=
  let arg1 : BitVec 32 := BitVec.ofNat 32 (i 1).val
  let c7_i32 : BitVec 32 := 7#32
  let v78 : BitVec 1 := Scalar.cmpi .eq arg1 c7_i32
  let v79 : BitVec 32 := Scalar.extui v78
  let c0_i32_55 : BitVec 32 := 0#32
  let v80 : BitVec 1 := Scalar.cmpi .ne v79 c0_i32_55
  v80

def k0_cond5 (i : grid0.Coords) : BitVec 1 :=
  let arg1 : BitVec 32 := BitVec.ofNat 32 (i 1).val
  let c0_i32_57 : BitVec 32 := 0#32
  let v84 : BitVec 1 := Scalar.cmpi .eq arg1 c0_i32_57
  let v85 : BitVec 32 := Scalar.extui v84
  let c0_i32_58 : BitVec 32 := 0#32
  let v86 : BitVec 1 := Scalar.cmpi .ne v85 c0_i32_58
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S2x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x4x2x512 : Shape := ⟨4, ![1024, 4, 2, 512]⟩
abbrev S2x4x1024x512 : Shape := ⟨4, ![2, 4, 1024, 512]⟩
abbrev S4x2x512x1024 : Shape := ⟨4, ![4, 2, 512, 1024]⟩
abbrev S2x4x512x1024 : Shape := ⟨4, ![2, 4, 512, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024x4096, .f32⟩
  | .hbm, ⟨39, _⟩ => ⟨S4096x1024, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S1024x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1024x4x2x512, .f32⟩
  | .hbm, ⟨77, _⟩ => ⟨S2x4x1024x512, .f32⟩
  | .hbm, ⟨78, _⟩ => ⟨S4x2x512x1024, .f32⟩
  | .hbm, ⟨79, _⟩ => ⟨S2x4x512x1024, .f32⟩
  | .hbm, ⟨80, _⟩ => ⟨S2x4x1024x512, .bf16⟩
  | .hbm, ⟨81, _⟩ => ⟨S2x4x512x1024, .bf16⟩
  | .hbm, ⟨82, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel2.lean ====
abbrev S4096x1024 : Shape := ⟨2, ![4096, 1024]⟩
abbrev S4096x384 : Shape := ⟨2, ![4096, 384]⟩
abbrev S4096x256 : Shape := ⟨2, ![4096, 256]⟩
abbrev S1024x1024 : Shape := ⟨2, ![1024, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1x1024 : Shape := ⟨2, ![1, 1024]⟩
abbrev S4096x4096 : Shape := ⟨2, ![4096, 4096]⟩
abbrev S1024x384 : Shape := ⟨2, ![1024, 384]⟩
abbrev S1024x256 : Shape := ⟨2, ![1024, 256]⟩
abbrev S2x1024x512 : Shape := ⟨3, ![2, 1024, 512]⟩
abbrev S2x512x1024 : Shape := ⟨3, ![2, 512, 1024]⟩
abbrev S384x1024 : Shape := ⟨2, ![384, 1024]⟩
abbrev S256x1024 : Shape := ⟨2, ![256, 1024]⟩
abbrev S1024x1 : Shape := ⟨2, ![1024, 1]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 22
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x384, .f32⟩
  | .hbm, ⟨2, _⟩ => ⟨S4096x256, .f32⟩
  | .hbm, ⟨3, _⟩ => ⟨S4096x384, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S4096x1024, .bf16⟩
  | .hbm, ⟨12, _⟩ => ⟨S8x512x1024, .bf16⟩
  | .hbm, ⟨13, _⟩ => ⟨S4096x384, .bf16⟩
  | .hbm, ⟨14, _⟩ => ⟨S4096x256, .bf16⟩
  | .hbm, ⟨15, _⟩ => ⟨S4096x384, .bf16⟩
  | .hbm, ⟨16, _⟩ => ⟨S1024x1024, .bf16⟩
  | .hbm, ⟨17, _⟩ => ⟨S1x1024, .f32⟩
  | .hbm, ⟨18, _⟩ => ⟨S4096x1024, .f32⟩
  | .hbm, ⟨19, _⟩ => ⟨S1024x4096, .bf16⟩
  | .hbm, ⟨20, _⟩ => ⟨S4096x1024, .f32⟩
  | .hbm, ⟨21, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x256, .bf16⟩
  | .local _ .vmem, ⟨5, _⟩ => ⟨S1024x256, .bf16⟩
  | .local _ .vmem, ⟨6, _⟩ => ⟨S1024x384, .bf16⟩
  | .local _ .vmem, ⟨7, _⟩ => ⟨S1024x384, .bf16⟩
  | .local _ .vmem, ⟨8, _⟩ => ⟨S1024x1024, .bf16⟩
  | .local _ .vmem, ⟨9, _⟩ => ⟨S1x1024, .f32⟩
  | .local _ .vmem, ⟨10, _⟩ => ⟨S2x1024x512, .bf16⟩
  | .local _ .vmem, ⟨11, _⟩ => ⟨S2x1024x512, .bf16⟩
  | .local _ .vmem, ⟨12, _⟩ => ⟨S2x512x1024, .bf16⟩
  | .local _ .vmem, ⟨13, _⟩ => ⟨S2x512x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_25 : BitVec 32 := 0#32
  let v36 : BitVec 1 := Scalar.cmpi .ne v35 c0_i32_25
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4096x1024 : Shape := ⟨2, ![4096, 1024]⟩
abbrev S4096x384 : Shape := ⟨2, ![4096, 384]⟩
abbrev S4096x256 : Shape := ⟨2, ![4096, 256]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x384, .f32⟩
  | .hbm, ⟨2, _⟩ => ⟨S4096x256, .f32⟩
  | .hbm, ⟨3, _⟩ => ⟨S4096x384, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S1024x4096, .f32⟩
  | .hbm, ⟨35, _⟩ => ⟨S1024x4096, .bf16⟩
  | .hbm, ⟨36, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2832 : Shape := ⟨2, ![1024, 2832]⟩
abbrev S4096x2832 : Shape := ⟨2, ![4096, 2832]⟩
abbrev S4096x192 : Shape := ⟨2, ![4096, 192]⟩
abbrev S4096x384 : Shape := ⟨2, ![4096, 384]⟩
abbrev S4096x16 : Shape := ⟨2, ![4096, 16]⟩
abbrev S4096x512 : Shape := ⟨2, ![4096, 512]⟩
abbrev S_ : Shape := ⟨0, ![]⟩
abbrev S4096x256 : Shape := ⟨2, ![4096, 256]⟩
abbrev S4096x128 : Shape := ⟨2, ![4096, 128]⟩
abbrev S1x1024 : Shape := ⟨2, ![1, 1024]⟩
abbrev S1024x3072 : Shape := ⟨2, ![1024, 3072]⟩
abbrev S512x1024 : Shape := ⟨2, ![512, 1024]⟩
abbrev S512x256 : Shape := ⟨2, ![512, 256]⟩
abbrev S512x384 : Shape := ⟨2, ![512, 384]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x3072 : Shape := ⟨2, ![512, 3072]⟩

abbrev nBuf : Space → Nat
  | .hbm => 51
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2832, .f32⟩
  | .hbm, ⟨3, _⟩ => ⟨S4096x2832, .f32⟩
  | .hbm, ⟨4, _⟩ => ⟨S4096x192, .f32⟩
  | .hbm, ⟨5, _⟩ => ⟨S4096x192, .f32⟩
  | .hbm, ⟨6, _⟩ => ⟨S4096x384, .f32⟩
  | .hbm, ⟨7, _⟩ => ⟨S4096x384, .f32⟩
  | .hbm, ⟨8, _⟩ => ⟨S4096x16, .f32⟩
  | .hbm, ⟨9, _⟩ => ⟨S4096x512, .f32⟩
  | .hbm, ⟨10, _⟩ => ⟨S4096x384, .f32⟩
  | .hbm, ⟨11, _⟩ => ⟨S4096x384, .f32⟩
  | .hbm, ⟨12, _⟩ => ⟨S4096x384, .f32⟩
  | .hbm, ⟨13, _⟩ => ⟨S_, .i32⟩
  | .hbm, ⟨14, _⟩ => ⟨S_, .f32⟩
  | .hbm, ⟨15, _⟩ => ⟨S4096x256, .f32⟩
  | .hbm, ⟨16, _⟩ => ⟨S4096x256, .bf16⟩
  | .hbm, ⟨17, _⟩ => ⟨S_, .i32⟩
  | .hbm, ⟨18, _⟩ => ⟨S_, .f32⟩
  | .hbm, ⟨19, _⟩ => ⟨S4096x256, .f32⟩
  | .hbm, ⟨20, _⟩ => ⟨S4096x256, .bf16⟩
  | .hbm, ⟨21, _⟩ => ⟨S_, .i32⟩
  | .hbm, ⟨22, _⟩ => ⟨S_, .f32⟩
  | .hbm, ⟨23, _⟩ => ⟨S4096x384, .f32⟩
  | .hbm, ⟨24, _⟩ => ⟨S4096x384, .bf16⟩
  | .hbm, ⟨25, _⟩ => ⟨S_, .i32⟩
  | .hbm, ⟨26, _⟩ => ⟨S_, .f32⟩
  | .hbm, ⟨27, _⟩ => ⟨S4096x384, .f32⟩
  | .hbm, ⟨28, _⟩ => ⟨S4096x384, .bf16⟩
  | .hbm, ⟨29, _⟩ => ⟨S_, .i32⟩
  | .hbm, ⟨30, _⟩ => ⟨S_, .f32⟩
  | .hbm, ⟨31, _⟩ => ⟨S4096x512, .f32⟩
  | .hbm, ⟨32, _⟩ => ⟨S4096x512, .bf16⟩
  | .hbm, ⟨33, _⟩ => ⟨S_, .i32⟩
  | .hbm, ⟨34, _⟩ => ⟨S_, .f32⟩
  | .hbm, ⟨35, _⟩ => ⟨S4096x384, .f32⟩
  | .hbm, ⟨36, _⟩ => ⟨S4096x384, .bf16⟩
  | .hbm, ⟨37, _⟩ => ⟨S_, .i32⟩
  | .hbm, ⟨38, _⟩ => ⟨S_, .f32⟩
  | .hbm, ⟨39, _⟩ => ⟨S4096x384, .f32⟩
  | .hbm, ⟨40, _⟩ => ⟨S4096x384, .bf16⟩
  | .hbm, ⟨41, _⟩ => ⟨S_, .i32⟩
  | .hbm, ⟨42, _⟩ => ⟨S_, .f32⟩
  | .hbm, ⟨43, _⟩ => ⟨S4096x384, .f32⟩
  | .hbm, ⟨44, _⟩ => ⟨S4096x384, .bf16⟩
  | .hbm, ⟨45, _⟩ => ⟨S_, .i32⟩
  | .hbm, ⟨46, _⟩ => ⟨S_, .f32⟩
  | .hbm, ⟨47, _⟩ => ⟨S4096x128, .f32⟩
  | .hbm, ⟨48, _⟩ => ⟨S4096x128, .bf16⟩
  | .hbm, ⟨49, _⟩ => ⟨S1x1024, .f32⟩
  | .hbm, ⟨50, _⟩ => ⟨S1024x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x512, .bf16⟩
  | .local _ .vmem, ⟨12, _⟩ => ⟨S512x512, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x128, .bf16⟩
  | .local _ .vmem, ⟨20, _⟩ => ⟨S512x128, .bf16⟩
  | .local _ .vmem, ⟨21, _⟩ => ⟨S1024x3072, .bf16⟩
  | .local _ .vmem, ⟨22, _⟩ => ⟨S1024x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call2_v0 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call3_v0 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call4_v0 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_call5_v0 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_call6_v0 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_call7_v0 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_call8_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_29 : BitVec 32 := 0#32
  let v47 : BitVec 1 := Scalar.cmpi .ne v46 c0_i32_29
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4096x1024 : Shape := ⟨2, ![4096, 1024]⟩
abbrev S1024 : Shape := ⟨1, ![1024]⟩
abbrev S1024x2832 : Shape := ⟨2, ![1024, 2832]⟩
abbrev S4096x2832 : Shape := ⟨2, ![4096, 2832]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2832x1024 : Shape := ⟨2, ![2832, 1024]⟩
abbrev S1024x192 : Shape := ⟨2, ![1024, 192]⟩
abbrev S1024x384 : Shape := ⟨2, ![1024, 384]⟩
abbrev S1024x16 : Shape := ⟨2, ![1024, 16]⟩
abbrev S1024x1664 : Shape := ⟨2, ![1024, 1664]⟩
abbrev S1024x256 : Shape := ⟨2, ![1024, 256]⟩
abbrev S1024x128 : Shape := ⟨2, ![1024, 128]⟩
abbrev S1024x3072 : Shape := ⟨2, ![1024, 3072]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2832, .f32⟩
  | .hbm, ⟨3, _⟩ => ⟨S4096x2832, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2832, .f32⟩
  | .hbm, ⟨21, _⟩ => ⟨S2832x1024, .f32⟩
  | .hbm, ⟨22, _⟩ => ⟨S1024x2832, .f32⟩
  | .hbm, ⟨23, _⟩ => ⟨S1024x192, .f32⟩
  | .hbm, ⟨24, _⟩ => ⟨S1024x192, .f32⟩
  | .hbm, ⟨25, _⟩ => ⟨S1024x384, .f32⟩
  | .hbm, ⟨26, _⟩ => ⟨S1024x384, .f32⟩
  | .hbm, ⟨27, _⟩ => ⟨S1024x16, .f32⟩
  | .hbm, ⟨28, _⟩ => ⟨S1024x1664, .f32⟩
  | .hbm, ⟨29, _⟩ => ⟨S_, .i32⟩
  | .hbm, ⟨30, _⟩ => ⟨S_, .f32⟩
  | .hbm, ⟨31, _⟩ => ⟨S1024x256, .f32⟩
  | .hbm, ⟨32, _⟩ => ⟨S_, .i32⟩
  | .hbm, ⟨33, _⟩ => ⟨S_, .f32⟩
  | .hbm, ⟨34, _⟩ => ⟨S1024x256, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x3072, .f32⟩
  | .hbm, ⟨39, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_c_3 : Ref sig .tc := ⟨.hbm, 35, rfl⟩
abbrev main_call2_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2832 : Shape := ⟨2, ![1024, 2832]⟩
abbrev S4096x2832 : Shape := ⟨2, ![4096, 2832]⟩
abbrev S4096x192 : Shape := ⟨2, ![4096, 192]⟩
abbrev S4096x384 : Shape := ⟨2, ![4096, 384]⟩
abbrev S4096x16 : Shape := ⟨2, ![4096, 16]⟩
abbrev S4096x512 : Shape := ⟨2, ![4096, 512]⟩
abbrev S_ : Shape := ⟨0, ![]⟩
abbrev S4096x256 : Shape := ⟨2, ![4096, 256]⟩
abbrev S4096x128 : Shape := ⟨2, ![4096, 128]⟩
abbrev S1024x192 : Shape := ⟨2, ![1024, 192]⟩
abbrev S1024x384 : Shape := ⟨2, ![1024, 384]⟩
abbrev S1024x16 : Shape := ⟨2, ![1024, 16]⟩
abbrev S1024x512 : Shape := ⟨2, ![1024, 512]⟩
abbrev S1024x256 : Shape := ⟨2, ![1024, 256]⟩
abbrev S1024x128 : Shape := ⟨2, ![1024, 128]⟩
abbrev S1024x3072 : Shape := ⟨2, ![1024, 3072]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x3072 : Shape := ⟨2, ![512, 3072]⟩

abbrev nBuf : Space → Nat
  | .hbm => 92
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2832, .f32⟩
  | .hbm, ⟨3, _⟩ => ⟨S4096x1024, .f32⟩
  | .hbm, ⟨4, _⟩ => ⟨S4096x2832, .f32⟩
  | .hbm, ⟨5, _⟩ => ⟨S4096x192, .f32⟩
  | .hbm, ⟨6, _⟩ => ⟨S4096x192, .f32⟩
  | .hbm, ⟨7, _⟩ => ⟨S4096x384, .f32⟩
  | .hbm, ⟨8, _⟩ => ⟨S4096x384, .f32⟩
  | .hbm, ⟨9, _⟩ => ⟨S4096x16, .f32⟩
  | .hbm, ⟨10, _⟩ => ⟨S4096x512, .f32⟩
  | .hbm, ⟨11, _⟩ => ⟨S4096x384, .f32⟩
  | .hbm, ⟨12, _⟩ => ⟨S4096x384, .f32⟩
  | .hbm, ⟨13, _⟩ => ⟨S4096x384, .f32⟩
  | .hbm, ⟨14, _⟩ => ⟨S_, .i32⟩
  | .hbm, ⟨15, _⟩ => ⟨S_, .f32⟩
  | .hbm, ⟨16, _⟩ => ⟨S4096x256, .f32⟩
  | .hbm, ⟨17, _⟩ => ⟨S4096x256, .bf16⟩
  | .hbm, ⟨18, _⟩ => ⟨S_, .i32⟩
  | .hbm, ⟨19, _⟩ => ⟨S_, .f32⟩
  | .hbm, ⟨20, _⟩ => ⟨S4096x256, .f32⟩
  | .hbm, ⟨21, _⟩ => ⟨S4096x256, .bf16⟩
  | .hbm, ⟨22, _⟩ => ⟨S_, .i32⟩
  | .hbm, ⟨23, _⟩ => ⟨S_, .f32⟩
  | .hbm, ⟨24, _⟩ => ⟨S4096x384, .f32⟩
  | .hbm, ⟨25, _⟩ => ⟨S4096x384, .bf16⟩
  | .hbm, ⟨26, _⟩ => ⟨S_, .i32⟩
  | .hbm, ⟨27, _⟩ => ⟨S_, .f32⟩
  | .hbm, ⟨28, _⟩ => ⟨S4096x384, .f32⟩
  | .hbm, ⟨29, _⟩ => ⟨S4096x384, .bf16⟩
  | .hbm, ⟨30, _⟩ => ⟨S_, .i32⟩
  | .hbm, ⟨31, _⟩ => ⟨S_, .f32⟩
  | .hbm, ⟨32, _⟩ => ⟨S4096x512, .f32⟩
  | .hbm, ⟨33, _⟩ => ⟨S4096x512, .bf16⟩
  | .hbm, ⟨34, _⟩ => ⟨S_, .i32⟩
  | .hbm, ⟨35, _⟩ => ⟨S_, .f32⟩
  | .hbm, ⟨36, _⟩ => ⟨S4096x384, .f32⟩
  | .hbm, ⟨37, _⟩ => ⟨S4096x384, .bf16⟩
  | .hbm, ⟨38, _⟩ => ⟨S_, .i32⟩
  | .hbm, ⟨39, _⟩ => ⟨S_, .f32⟩
  | .hbm, ⟨40, _⟩ => ⟨S4096x384, .f32⟩
  | .hbm, ⟨41, _⟩ => ⟨S4096x384, .bf16⟩
  | .hbm, ⟨42, _⟩ => ⟨S_, .i32⟩
  | .hbm, ⟨43, _⟩ => ⟨S_, .f32⟩
  | .hbm, ⟨44, _⟩ => ⟨S4096x384, .f32⟩
  | .hbm, ⟨45, _⟩ => ⟨S4096x384, .bf16⟩
  | .hbm, ⟨46, _⟩ => ⟨S_, .i32⟩
  | .hbm, ⟨47, _⟩ => ⟨S_, .f32⟩
  | .hbm, ⟨48, _⟩ => ⟨S4096x128, .f32⟩
  | .hbm, ⟨49, _⟩ => ⟨S4096x128, .bf16⟩
  | .hbm, ⟨50, _⟩ => ⟨S1024x192, .f32⟩
  | .hbm, ⟨51, _⟩ => ⟨S1024x192, .f32⟩
  | .hbm, ⟨52, _⟩ => ⟨S1024x384, .f32⟩
  | .hbm, ⟨53, _⟩ => ⟨S1024x384, .f32⟩
  | .hbm, ⟨54, _⟩ => ⟨S1024x16, .f32⟩
  | .hbm, ⟨55, _⟩ => ⟨S1024x512, .f32⟩
  | .hbm, ⟨56, _⟩ => ⟨S1024x384, .f32⟩
  | .hbm, ⟨57, _⟩ => ⟨S1024x384, .f32⟩
  | .hbm, ⟨58, _⟩ => ⟨S1024x384, .f32⟩
  | .hbm, ⟨59, _⟩ => ⟨S_, .i32⟩
  | .hbm, ⟨60, _⟩ => ⟨S_, .f32⟩
  | .hbm, ⟨61, _⟩ => ⟨S1024x256, .f32⟩
  | .hbm, ⟨62, _⟩ => ⟨S_, .i32⟩
  | .hbm, ⟨63, _⟩ => ⟨S_, .f32⟩
  | .hbm, ⟨64, _⟩ => ⟨S1024x256, .f32⟩
  | .hbm, ⟨65, _⟩ => ⟨S_, .i32⟩
  | .hbm, ⟨66, _⟩ => ⟨S_, .f32⟩
  | .hbm, ⟨67, _⟩ => ⟨S1024x384, .f32⟩
  | .hbm, ⟨68, _⟩ => ⟨S_, .i32⟩
  | .hbm, ⟨69, _⟩ => ⟨S_, .f32⟩
  | .hbm, ⟨70, _⟩ => ⟨S1024x384, .f32⟩
  | .hbm, ⟨71, _⟩ => ⟨S_, .i32⟩
  | .hbm, ⟨72, _⟩ => ⟨S_, .f32⟩
  | .hbm, ⟨73, _⟩ => ⟨S1024x512, .f32⟩
  | .hbm, ⟨74, _⟩ => ⟨S_, .i32⟩
  | .hbm, ⟨75, _⟩ => ⟨S_, .f32⟩
  | .hbm, ⟨76, _⟩ => ⟨S1024x384, .f32⟩
  | .hbm, ⟨77, _⟩ => ⟨S_, .i32⟩
  | .hbm, ⟨78, _⟩ => ⟨S_, .f32⟩
  | .hbm, ⟨79, _⟩ => ⟨S1024x384, .f32⟩
  | .hbm, ⟨80, _⟩ => ⟨S_, .i32⟩
  | .hbm, ⟨81, _⟩ => ⟨S_, .f32⟩
  | .hbm, ⟨82, _⟩ => ⟨S1024x384, .f32⟩
  | .hbm, ⟨83, _⟩ => ⟨S_, .i32⟩
  | .hbm, ⟨84, _⟩ => ⟨S_, .f32⟩
  | .hbm, ⟨85, _⟩ => ⟨S1024x128, .f32⟩
  | .hbm, ⟨86, _⟩ => ⟨S1024x3072, .f32⟩
  | .hbm, ⟨87, _⟩ => ⟨S1024x3072, .bf16⟩
  | .hbm, ⟨88, _⟩ => ⟨S1x1024, .f32⟩
  | .hbm, ⟨89, _⟩ => ⟨S4096x1024, .f32⟩
  | .hbm, ⟨90, _⟩ => ⟨S4096x1024, .bf16⟩
  | .hbm, ⟨91, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3072, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x512, .bf16⟩
  | .local _ .vmem, ⟨15, _⟩ => ⟨S512x512, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S512x384, .bf16⟩
  | .local _ .vmem, ⟨22, _⟩ => ⟨S512x128, .bf16⟩
  | .local _ .vmem, ⟨23, _⟩ => ⟨S512x128, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_call4_v0 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_call5_v0 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_call6_v0 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_call7_v0 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_call8_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_call9_v0 : Ref sig .tc := ⟨.hbm, 60, rfl⟩
abbrev main_v36 : Ref sig .tc := ⟨.hbm, 61, rfl⟩
abbrev main_c_9 : Ref sig .tc := ⟨.hbm, 62, rfl⟩
abbrev main_call10_v0 : Ref sig .tc := ⟨.hbm, 63, rfl⟩
abbrev main_v37 : Ref sig .tc := ⟨.hbm, 64, rfl⟩
abbrev main_c_10 : Ref sig .tc := ⟨.hbm, 65, rfl⟩
abbrev main_call11_v0 : Ref sig .tc := ⟨.hbm, 66, rfl⟩
abbrev main_v38 : Ref sig .tc := ⟨.hbm, 67, rfl⟩
abbrev main_c_11 : Ref sig .tc := ⟨.hbm, 68, rfl⟩
abbrev main_call12_v0 : Ref sig .tc := ⟨.hbm, 69, rfl⟩
abbrev main_v39 : Ref sig .tc := ⟨.hbm, 70, rfl⟩
abbrev main_c_12 : Ref sig .tc := ⟨.hbm, 71, rfl⟩
abbrev main_call13_v0 : Ref sig .tc := ⟨.hbm, 72, rfl⟩
abbrev main_v40 : Ref sig .tc := ⟨.hbm, 73, rfl⟩
abbrev main_c_13 : Ref sig .tc := ⟨.hbm, 74, rfl⟩
abbrev main_call14_v0 : Ref sig .tc := ⟨.hbm, 75, rfl⟩
abbrev main_v41 : Ref sig .tc := ⟨.hbm, 76, rfl⟩
abbrev main_c_14 : Ref sig .tc := ⟨.hbm, 77, rfl⟩
abbrev main_call15_v0 : Ref sig .tc := ⟨.hbm, 78, rfl⟩
abbrev main_v42 : Ref sig .tc := ⟨.hbm, 79, rfl⟩
abbrev main_c_15 : Ref sig .tc := ⟨.hbm, 80, rfl⟩
abbrev main_call16_v0 : Ref sig .tc := ⟨.hbm, 81, rfl⟩
abbrev main_v43 : Ref sig .tc := ⟨.hbm, 82, rfl⟩
abbrev main_c_16 : Ref sig .tc := ⟨.hbm, 83, rfl⟩
abbrev main_call17_v0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48_0 : Ref sig .tc := ⟨.hbm, 89, rfl⟩
abbrev main_v48_1 : Ref sig .tc := ⟨.hbm, 90, rfl⟩
abbrev main_v48_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S4096x1024 : Shape := ⟨2, ![4096, 1024]⟩
abbrev S1024 : Shape := ⟨1, ![1024]⟩
abbrev S1024x2832 : Shape := ⟨2, ![1024, 2832]⟩
abbrev S4096x2832 : Shape := ⟨2, ![4096, 2832]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2832, .f32⟩
  | .hbm, ⟨3, _⟩ => ⟨S4096x1024, .f32⟩
  | .hbm, ⟨4, _⟩ => ⟨S4096x2832, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2832, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Math.lean ====
module

public import Idealize.ShloMosaic.Lib.Pointwise
public import Mathlib.Tactic.Ring
public import Mathlib.Tactic.Linarith
public import Mathlib.Tactic.NormNum

@[expose] public section

noncomputable section

namespace Cert.Mlp

open Idealize.ShloMosaic

/-! ## The literals -/

theorem ofBits_1024 : Ideal.ofBits .f32 0x44800000#32 = ((1024 : ℝ) : EReal) := by
  simp [Ideal.ofBits, Ideal.ieee]; norm_num; rw [← EReal.coe_mul]; congr 1; norm_num
theorem ofBits_two : Ideal.ofBits .f32 0x40000000#32 = ((2 : ℝ) : EReal) := by
  simp [Ideal.ofBits, Ideal.ieee]; norm_num; rw [← EReal.coe_mul]; congr 1; norm_num
theorem ofBits_neg_half : Ideal.ofBits .f32 0xBF000000#32 = ((-(1 / 2) : ℝ) : EReal) := by
  simp [Ideal.ofBits, Ideal.ieee]; norm_num; rw [← EReal.coe_mul]; congr 1; norm_num
theorem ofBits_eps : ∃ e : ℝ, 0 < e ∧ Ideal.ofBits .f32 0x358637BD#32 = (e : EReal) := by
  refine ⟨_, ?_, by simp [Ideal.ofBits, Ideal.ieee]; rfl⟩
  norm_num

/-- Division by 1024. -/
theorem div_1024 (x : EReal) : Ideal.div x (Ideal.ofBits .f32 0x44800000#32) = x * ((1 / 1024 : ℝ) : EReal) := by
  rw [ofBits_1024, Ideal.div, if_neg (by norm_num)]
  congr 1
  rw [← EReal.coe_inv]; norm_num

/-! ## Extended reals -/

theorem add_self (x : EReal) : x + x = x * ((2 : ℝ) : EReal) := by
  induction x using EReal.rec with
  | bot => rw [EReal.bot_mul_coe_of_pos (by norm_num)]; rfl
  | coe x => rw [← EReal.coe_add, ← EReal.coe_mul]; congr 1; ring
  | top => rw [EReal.top_mul_coe_of_pos (by norm_num)]; rfl

theorem neg_halves (x : EReal) (q : ℝ) : x * ((-(1 / 2) * q : ℝ) : EReal) + x * ((-(1 / 2) * q : ℝ) : EReal) = -(x * (q : EReal)) := by
  rw [add_self, mul_assoc, ← EReal.coe_mul, show -(1 / 2) * q * 2 = -q by ring, EReal.coe_neg, mul_neg]

/-- A finite nonnegative factor moves out of a sum. -/
theorem sum_mul_right {ι : Type} (s : Finset ι) (f : ι → EReal) (r : ℝ) (hr : 0 ≤ r) : ∑ i ∈ s, f i * (r : EReal) = (∑ i ∈ s, f i) * (r : EReal) := by
  classical
  induction s using Finset.induction with
  | empty => simp
  | insert a s ha ih =>
    rw [Finset.sum_insert ha, Finset.sum_insert ha, ih, mul_comm (f a + _),
      EReal.left_distrib_of_nonneg_of_ne_top (EReal.coe_nonneg.mpr hr) (EReal.coe_ne_top r), mul_comm (f a), mul_comm (∑ i ∈ s, f i)]

theorem mul_self_nonneg (x : EReal) : 0 ≤ x * x := by
  induction x using EReal.rec with
  | bot => simp
  | coe x => rw [← EReal.coe_mul]; exact_mod_cast _root_.mul_self_nonneg x
  | top => simp

/-! ## The hidden layer's gradient: the relu squared -/

/-- The gradient through the squared relu, as the reference selects it and as the kernel multiplies it out. -/
theorem relu_sq_grad (p d : EReal) : (if 0 < p then max p 0 * d + d * max p 0 else 0) = d * (Ideal.ofBits .f32 0x40000000#32 * max p 0) := by
  rw [ofBits_two]
  split
  · rw [mul_comm (max p 0) d, add_self, mul_assoc, mul_comm (max p 0)]
  · rename_i h
    rw [max_eq_right (not_lt.mp h), mul_zero, mul_zero]

/-! ## The norm's gradient -/

section Norm
variable (h z : Fin 1024 → EReal)

/-- The mean square of a row plus the norm's constant, -/
def V : EReal := Ideal.div (∑ k, h k * h k) (Ideal.ofBits .f32 0x44800000#32) + Ideal.ofBits .f32 0x358637BD#32
/-- the row's scale, -/
def R : EReal := Ideal.rsqrt (V h)

theorem V_cases : V h = ⊤ ∨ ∃ v : ℝ, 0 < v ∧ V h = (v : EReal) := by
  obtain ⟨e, he, hE⟩ := ofBits_eps
  unfold V
  rw [hE, div_1024]
  have hs : 0 ≤ (∑ k, h k * h k) * ((1 / 1024 : ℝ) : EReal) :=
    EReal.mul_nonneg (Finset.sum_nonneg fun k _ => mul_self_nonneg (h k)) (EReal.coe_nonneg.mpr (by norm_num))
  generalize (∑ k, h k * h k) * ((1 / 1024 : ℝ) : EReal) = s at hs
  induction s using EReal.rec with
  | bot => simp at hs
  | coe x => exact .inr ⟨x + e, by have := EReal.coe_nonneg.mp hs; linarith, (EReal.coe_add x e).symm⟩
  | top => exact .inl rfl

/-- The two forms of the gradient through the norm, at one entry: the kernel's, which scales once, and the one the product rule gives, which adds the scale's own
    gradient twice. -/
theorem norm_grad (y : EReal) (k : Fin 1024) (c : EReal)
    (hc : c = Ideal.div ((∑ j, h j * z j) * (Ideal.ofBits .f32 0xBF000000#32 * Ideal.div (R h) (V h))) (Ideal.ofBits .f32 0x44800000#32)) :
    y + z k * R h + h k * c + c * h k
      = y + R h * (z k - h k * R h * Ideal.div (∑ j, z j * (h j * R h)) (Ideal.ofBits .f32 0x44800000#32)) := by
  rw [div_1024] at hc ⊢
  rw [ofBits_neg_half] at hc
  rcases V_cases h with hv | ⟨v, hv, hV⟩
  · have hR : R h = 0 := by unfold R; rw [hv]; rfl
    have hc0 : c = 0 := by rw [hc, hR, hv]; simp [Ideal.div]
    rw [hR, hc0]; simp
  · have hs : 0 < Real.sqrt v := Real.sqrt_pos.mpr hv
    have hR : R h = (((Real.sqrt v)⁻¹ : ℝ) : EReal) := by
      unfold R; rw [hV, Ideal.rsqrt_coe, if_neg (not_lt.mpr hv.le), if_neg hv.ne']
    have hr : 0 < (Real.sqrt v)⁻¹ := inv_pos.mpr hs
    have hvr : v⁻¹ = (Real.sqrt v)⁻¹ * (Real.sqrt v)⁻¹ := by rw [← mul_inv, Real.mul_self_sqrt hv.le]
    generalize hq : (Real.sqrt v)⁻¹ = r at hR hr hvr
    have hS : ∑ j, z j * (h j * (r : EReal)) = (∑ j, h j * z j) * (r : EReal) := by
      rw [← sum_mul_right _ _ r hr.le]
      exact Finset.sum_congr rfl fun j _ => by rw [← mul_assoc, mul_comm (z j)]
    have hd : Ideal.div (r : EReal) (v : EReal) = ((r * (r * r) : ℝ) : EReal) := by
      rw [Ideal.div, if_neg (by exact_mod_cast hv.ne'), ← EReal.coe_inv, ← EReal.coe_mul, hvr]
    rw [hR, hV, hd] at hc
    rw [hR, hS]
    generalize ∑ j, h j * z j = S at hc ⊢
    have e1 : h k * c = h k * S * ((-(1 / 2) * (r * (r * r) * (1 / 1024)) : ℝ) : EReal) := by
      rw [hc, mul_assoc S, ← EReal.coe_mul, ← EReal.coe_mul, ← mul_assoc]; congr 2; ring
    have e2 : (r : EReal) * (h k * (r : EReal) * (S * (r : EReal) * ((1 / 1024 : ℝ) : EReal))) = h k * S * ((r * (r * r) * (1 / 1024) : ℝ) : EReal) := by
      rw [EReal.coe_mul, EReal.coe_mul r, EReal.coe_mul r]; ac_rfl
    rw [mul_comm c, add_assoc, e1, neg_halves, sub_eq_add_neg, EReal.left_distrib_of_nonneg_of_ne_top (EReal.coe_nonneg.mpr hr.le) (EReal.coe_ne_top r),
      mul_neg, e2, mul_comm (z k), add_assoc]

end Norm

/-! ## The layer -/

section Layer
variable (h y wd : Fin 4096 → Fin 1024 → EReal) (g : Fin 1024 → EReal) (wu : Fin 1024 → Fin 4096 → EReal)

/-- The row scaled, -/
def Xh (t : Fin 4096) (k : Fin 1024) : EReal := h t k * R (h t)
/-- the normed input, -/
def Xn (t : Fin 4096) (k : Fin 1024) : EReal := Xh h t k * g k
/-- the activation before it is squared, -/
def A (t : Fin 4096) (n : Fin 4096) : EReal := max (∑ k, Xn h g t k * wu k n) 0
/-- the gradient of what the activation is taken of, -/
def Du (t : Fin 4096) (n : Fin 4096) : EReal := (∑ k, y t k * wd n k) * (Ideal.ofBits .f32 0x40000000#32 * A h g wu t n)
/-- of the normed input, -/
def Dx (t : Fin 4096) (k : Fin 1024) : EReal := ∑ n, Du h y wd g wu t n * wu k n
/-- of the layer's input, -/
def Out (t : Fin 4096) (k : Fin 1024) : EReal :=
  y t k + R (h t) * (Dx h y wd g wu t k * g k - h t k * R (h t) * Ideal.div (∑ j, Dx h y wd g wu t j * g j * (h t j * R (h t))) (Ideal.ofBits .f32 0x44800000#32))
/-- of the up-projection, -/
def Up (k : Fin 1024) (n : Fin 4096) : EReal := ∑ t, Xn h g t k * Du h y wd g wu t n
/-- of the down-projection, -/
def Down (n : Fin 4096) (k : Fin 1024) : EReal := ∑ t, A h g wu t n * A h g wu t n * y t k
/-- and of the norm's weight. -/
def Gam (k : Fin 1024) : EReal := ∑ t, Dx h y wd g wu t k * (h t k * R (h t))

theorem up_comm (k : Fin 1024) (n : Fin 4096) : ∑ t, Du h y wd g wu t n * Xn h g t k = Up h y wd g wu k n := Finset.sum_congr rfl fun _ _ => mul_comm _ _
theorem gam_comm (k : Fin 1024) : ∑ t, Xh h t k * Dx h y wd g wu t k = Gam h y wd g wu k := Finset.sum_congr rfl fun _ _ => mul_comm _ _

end Layer

end Cert.Mlp
-- ==== Proof.Arrays.lean ====
module

public import proofs.«01_k».proof.Proof.Gen.KernelIdeal.Frame
public import proofs.«01_k».proof.Proof.Math
public import Idealize.ShloMosaic.Lib.StableHlo.ReadAt

@[expose] public section

set_option maxRecDepth 16384

noncomputable section

namespace Cert.KernelIdeal.Body

open Cert Cert.KernelIdeal Cert.KernelIdeal.Gen
open Idealize.ShloMosaic Idealize.ShloMosaic.TcCoe

variable (m : (ℓ : Loc nD τ sig) → Buf (Elt Ideal) ℓ) (c : Dev nD)

/-! ## The arguments, and the arrays the region is launched on -/

def aH : FVec Ideal S4096x1024 .f32 := m ((c.tc : Thread nD τ).loc main_arg0)
def aG : FVec Ideal S1024 .f32 := m ((c.tc : Thread nD τ).loc main_arg1)
def aWu : FVec Ideal S1024x4096 .f32 := m ((c.tc : Thread nD τ).loc main_arg2)
def aWd : FVec Ideal S4096x1024 .f32 := m ((c.tc : Thread nD τ).loc main_arg3)
def aY : FVec Ideal S4096x1024 .f32 := m ((c.tc : Thread nD τ).loc main_arg4)

abbrev cH : Fin 4096 → Fin 1024 → EReal := fun t k => aH m c (ix2 t k)
abbrev cG : Fin 1024 → EReal := fun k => aG m c (ix1 k)
abbrev cWu : Fin 1024 → Fin 4096 → EReal := fun k n => aWu m c (ix2 k n)
abbrev cWd : Fin 4096 → Fin 1024 → EReal := fun n k => aWd m c (ix2 n k)
abbrev cY : Fin 4096 → Fin 1024 → EReal := fun t k => aY m c (ix2 t k)

set_option maxHeartbeats 4000000

/-- The arrays the region is launched on: the normed input transposed, the activations, and the arguments, the two weights cut into eight blocks. -/
theorem arrays : (∀ (k : Fin 1024) (t : Fin 4096), V m c main_v21 (ix2 k t) = Mlp.Xn (cH m c) (cG m c) t k)
    ∧ (∀ t n : Fin 4096, V m c main_v22 (ix2 t n) = Mlp.A (cH m c) (cG m c) (cWu m c) t n)
    ∧ (∀ (t : Fin 4096) (k : Fin 1024), V m c main_v23 (ix2 t k) = cY m c t k)
    ∧ (∀ (o : Fin 1) (k : Fin 1024), V m c main_v24 (ix2 o k) = cG m c k)
    ∧ (∀ (e : Fin 8) (k : Fin 1024) (q : Fin 512), V m c main_v17 (ix3 e k q) = cWu m c k ⟨e.val * 512 + q.val, by omega⟩)
    ∧ (∀ (e : Fin 8) (q : Fin 512) (k : Fin 1024), V m c main_v19 (ix3 e q k) = cWd m c ⟨e.val * 512 + q.val, by omega⟩ k) := by
  refine ⟨?_, ?_, ?_, ?_, ?_, ?_⟩ <;> intros <;>
  · unfold V; simp only [List.flatten_cons, List.flatten_nil, List.append_nil, List.cons_append]
    after_reads_at
    rfl
theorem VH (t : Fin 4096) (k : Fin 1024) : V m c main_arg0 (ix2 t k) = cH m c t k := congrFun (V_main_arg0 m c) _
theorem VY (t : Fin 4096) (k : Fin 1024) : V m c main_arg4 (ix2 t k) = cY m c t k := congrFun (V_main_arg4 m c) _

end Cert.KernelIdeal.Body
-- ==== Proof.Tiles.lean ====
module

public import Idealize.ShloMosaic.Lib.Pipeline
public import Idealize.ShloMosaic.Lib.Pointwise

@[expose] public section

/-! # The element a block's element is: an index from its coordinates, a coordinate from the block's index

A window's block at a point reads its array through `emb`, whose coordinate along an axis is the
block's index there times the block's size, plus the element's own coordinate. -/

namespace Cert.Tiles

open Idealize.ShloMosaic

theorem ext2 {N M : ℕ} {f : Shape.Idx ⟨2, ![N, M]⟩} {a : Fin N} {b : Fin M} (h0 : (f 0).val = a.val) (h1 : (f 1).val = b.val) : f = ix2 a b :=
  funext fun k => Fin.ext (match k with | ⟨0, _⟩ => h0 | ⟨1, _⟩ => h1)

theorem ext3 {N M L : ℕ} {f : Shape.Idx ⟨3, ![N, M, L]⟩} {a : Fin N} {b : Fin M} {d : Fin L}
    (h0 : (f 0).val = a.val) (h1 : (f 1).val = b.val) (h2 : (f 2).val = d.val) : f = ix3 a b d :=
  funext fun k => Fin.ext (match k with | ⟨0, _⟩ => h0 | ⟨1, _⟩ => h1 | ⟨2, _⟩ => h2)

theorem ext4 {N M L K : ℕ} {f : Shape.Idx ⟨4, ![N, M, L, K]⟩} {a : Fin N} {b : Fin M} {d : Fin L} {e : Fin K}
    (h0 : (f 0).val = a.val) (h1 : (f 1).val = b.val) (h2 : (f 2).val = d.val) (h3 : (f 3).val = e.val) : f = ix4 a b d e :=
  funext fun k => Fin.ext (match k with | ⟨0, _⟩ => h0 | ⟨1, _⟩ => h1 | ⟨2, _⟩ => h2 | ⟨3, _⟩ => h3)

/-- Every index is one of its coordinates. -/
theorem all2 {N M : ℕ} {P : Shape.Idx ⟨2, ![N, M]⟩ → Prop} (h : ∀ a b, P (ix2 a b)) (i) : P i := by
  rw [show i = ix2 (i 0) (i 1) from ext2 rfl rfl]; exact h _ _
theorem all4 {N M L K : ℕ} {P : Shape.Idx ⟨4, ![N, M, L, K]⟩ → Prop} (h : ∀ a b d e, P (ix4 a b d e)) (i) : P i := by
  rw [show i = ix4 (i 0) (i 1) (i 2) (i 3) from ext4 rfl rfl rfl rfl]; exact h _ _ _ _

/-- What an embedding takes an element to is among the elements it reaches. -/
theorem mem_of {α β : Type} [Fintype α] (f : α ↪ β) {j : α} {i : β} (e : f j = i) : i ∈ Finset.univ.map f :=
  e ▸ Finset.mem_map_of_mem f (Finset.mem_univ j)

/-- Along an axis the block does not move on, -/
theorem still {i n k : ℕ} (h : i = 0) : i * n + 1 * k = k := by rw [h]; omega
/-- and along one where its index is `j`. -/
theorem move {i j n k : ℕ} (h : i = j) : i * n + 1 * k = j * n + k := by rw [h]; omega

end Cert.Tiles
-- ==== Proof.Payloads.lean ====
module

public import proofs.«01_k».proof.Proof.Gen.KernelIdeal.Skeleton
public import Idealize.ShloMosaic.Lib.Pointwise

@[expose] public section

set_option maxRecDepth 16384

noncomputable section

/-! # What each store of the body writes, element by element over the extended reals -/

namespace Cert.KernelIdeal.Body

open Cert.KernelIdeal Cert.KernelIdeal.Gen
open Idealize.ShloMosaic Idealize.ShloMosaic.TcCoe

/-- A row's reciprocal root mean square. -/
theorem pay8_apply (h) (t : Fin 512) (o : Fin 1) :
    k0_pay8 (F := Ideal) h (ix2 t o) = Ideal.rsqrt (Ideal.div (∑ k : Fin 1024, h (ix2 t k) * h (ix2 t k)) (Ideal.ofBits .f32 0x44800000#32) + Ideal.ofBits .f32 0x358637BD#32) := by
  pointwise [k0_pay8]

/-- The input gradient's row. -/
theorem pay10_apply (h x g y) (t : Fin 512) (o : Fin 1024) :
    k0_pay10 (F := Ideal) h x g y (ix2 t o) = y (ix2 t o) + k0_pay8 h (ix2 t 0) * (x (ix2 t o) * g (ix2 0 o)
      - h (ix2 t o) * k0_pay8 h (ix2 t 0) * Ideal.div (∑ k : Fin 1024, x (ix2 t k) * g (ix2 0 k) * (h (ix2 t k) * k0_pay8 h (ix2 t 0))) (Ideal.ofBits .f32 0x44800000#32)) := by
  pointwise [k0_pay10, k0_pay9]
/-- A block's share of the norm's weight gradient. -/
theorem pay11_apply (h x g) (t : Fin 1) (o : Fin 1024) :
    k0_pay11 (F := Ideal) h x g (ix2 t o) = g (ix2 t o) + ∑ r : Fin 512, x (ix2 r o) * (h (ix2 r o) * k0_pay8 h (ix2 r 0)) := by
  pointwise [k0_pay11, k0_pay9]
/-- The gradient of the hidden layer's input, over the left columns, -/
theorem pay18_apply (h x g) (t : Fin 512) (o : Fin 512) :
    k0_pay18 (F := Ideal) h x g (ix2 t o) = (∑ k : Fin 1024, h (ix2 t k) * g (ix3 0 o k)) * (Ideal.ofBits .f32 0x40000000#32 * x (ix2 t o)) := by
  pointwise [k0_pay18, k0_pay13, k0_pay17]
/-- and over the right ones. -/
theorem pay23_apply (h x g) (t : Fin 512) (o : Fin 512) :
    k0_pay23 (F := Ideal) (k0_pay13 h) x g (ix2 t o) = (∑ k : Fin 1024, h (ix2 t k) * g (ix3 0 o k)) * (Ideal.ofBits .f32 0x40000000#32 * x (ix2 t o)) := by
  pointwise [k0_pay23, k0_pay13, k0_pay22]
/-- A block's share of the up-projection's gradient, first half, -/
theorem pay20_apply (h x g) (z : Fin 1) (t : Fin 1024) (o : Fin 512) :
    k0_pay20 (F := Ideal) (k0_pay12 h) x g (ix3 z t o) = g (ix3 0 t o) + ∑ r : Fin 512, h (ix2 t r) * x (ix2 r o) := by
  pointwise [k0_pay20, k0_pay12]
/-- and second. -/
theorem pay1_apply (h x g) (z : Fin 1) (t : Fin 1024) (o : Fin 512) :
    k0_pay1 (F := Ideal) (k0_pay12 h) x (k0_pay25 g) (ix3 z t o) = g (ix3 0 t o) + ∑ r : Fin 512, h (ix2 t r) * x (ix2 r o) := by
  pointwise [k0_pay1, k0_pay12, k0_pay25]
/-- A block's share of the down-projection's gradient, first half, -/
theorem pay19_apply (h x g) (z : Fin 1) (t : Fin 512) (o : Fin 1024) :
    k0_pay19 (F := Ideal) h x g (ix3 z t o) = g (ix3 0 t o) + ∑ r : Fin 512, x (ix2 r t) * x (ix2 r t) * h (ix2 r o) := by
  pointwise [k0_pay19, k0_pay13, k0_pay17]
/-- and second. -/
theorem pay24_apply (h x g) (z : Fin 1) (t : Fin 512) (o : Fin 1024) :
    k0_pay24 (F := Ideal) (k0_pay13 h) x g (ix3 z t o) = g (ix3 0 t o) + ∑ r : Fin 512, x (ix2 r t) * x (ix2 r t) * h (ix2 r o) := by
  pointwise [k0_pay24, k0_pay13, k0_pay22]
/-- A pair of hidden blocks' share of the normalised input's gradient. -/
theorem pay2_apply (h a x g y) (t : Fin 512) (o : Fin 1024) :
    k0_pay2 (F := Ideal) (k0_pay21 h a) x g y (ix2 t o)
      = y (ix2 t o) + (∑ q : Fin 512, h (ix2 t q) * a (ix3 0 o q) + ∑ q : Fin 512, x (ix2 t q) * g (ix3 0 o q)) := by
  pointwise [k0_pay2, k0_pay21]
theorem pay3_apply (h) (z z' : Fin 1) (t : Fin 1024) (o : Fin 512) : k0_pay3 (F := Ideal) h (ix4 z z' t o) = h (ix3 0 t o) := by
  pointwise [k0_pay3]
theorem pay5_apply (h) (z z' : Fin 1) (t : Fin 1024) (o : Fin 512) : k0_pay5 (F := Ideal) h (ix4 z z' t o) = h (ix3 0 t o) := by
  pointwise [k0_pay5]
theorem pay4_apply (h) (z z' : Fin 1) (t : Fin 512) (o : Fin 1024) : k0_pay4 (F := Ideal) h (ix4 z z' t o) = h (ix3 0 t o) := by
  pointwise [k0_pay4]
theorem pay6_apply (h) (z z' : Fin 1) (t : Fin 512) (o : Fin 1024) : k0_pay6 (F := Ideal) h (ix4 z z' t o) = h (ix3 0 t o) := by
  pointwise [k0_pay6]
theorem pay7_apply (t : Fin 1) (o : Fin 1024) : k0_pay7 (F := Ideal) (ix2 t o) = 0 := by
  pointwise [k0_pay7]
theorem pay14_apply (s : Fin 2) (t : Fin 1024) (o : Fin 512) : k0_pay14 (F := Ideal) (ix3 s t o) = 0 := by
  pointwise [k0_pay14]
theorem pay15_apply (s : Fin 2) (t : Fin 512) (o : Fin 1024) : k0_pay15 (F := Ideal) (ix3 s t o) = 0 := by
  pointwise [k0_pay15]
theorem pay16_apply (t : Fin 512) (o : Fin 1024) : k0_pay16 (F := Ideal) (ix2 t o) = 0 := by
  pointwise [k0_pay16]

end Cert.KernelIdeal.Body
-- ==== Proof.State.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.VecWindow

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What one grid point does to the buffers, as functions of vectors -/

open VecWindow (window put)

/-! ## Loads and stores as windows -/

section Views
variable {Val : EltTy → Type} {sg : RefSig} {κ : Kind} {sp : Space} {s : Shape} {e : EltTy}

theorem readAt_window (v : View sg κ sp s e) (f : v.ty.Contents Val) {off size : Fin s.rank → ℕ} (inb : ∀ a, off a + size a ≤ s.size a) :
    v.readAt Val (Rect.unit off size inb).toLoadRect f = window (v.read Val f) off size inb := View.readAt_unit v f inb rfl inb

theorem readCov_window [∀ e, Nonempty (Val e)] (v : View sg κ sp s e) (L : List (View.Piece Val s e)) {off size : Fin s.rank → ℕ} (inb : ∀ a, off a + size a ≤ s.size a) :
    v.readCov L (Rect.unit off size inb).toLoadRect = window (v.read Val (v.writes Val v.junk L)) off size inb := View.readAt_unit v _ inb rfl inb

theorem window_full {α : Type} {s : Shape} (x : s.Idx → α) (off : Fin s.rank → ℕ) (inb : ∀ a, off a + s.size a ≤ s.size a) : window x off s.size inb = x :=
  funext fun z => congrArg x (Rect.emb_unit_full inb z)

theorem put_full {α : Type} {s : Shape} (x : s.Idx → α) (off : Fin s.rank → ℕ) (inb : ∀ a, off a + s.size a ≤ s.size a) (w : s.Idx → α) : put x off s.size w = w := by
  have h := VecWindow.window_put_same x off s.size inb w
  rwa [window_full] at h

theorem window_S1024x512 {α : Type} (x : S1024x512.Idx → α) (inb : ∀ a, (![0, 0] : Fin S1024x512.rank → ℕ) a + ![1024, 512] a ≤ S1024x512.size a) : window x ![0, 0] ![1024, 512] inb = x := window_full x _ inb
theorem put_S1024x512 {α : Type} (x : S1024x512.Idx → α) (w : S1024x512.Idx → α) : put x ![0, 0] ![1024, 512] w = w := put_full x _ (by decide) w
theorem window_S512x1024 {α : Type} (x : S512x1024.Idx → α) (inb : ∀ a, (![0, 0] : Fin S512x1024.rank → ℕ) a + ![512, 1024] a ≤ S512x1024.size a) : window x ![0, 0] ![512, 1024] inb = x := window_full x _ inb
theorem put_S512x1024 {α : Type} (x : S512x1024.Idx → α) (w : S512x1024.Idx → α) : put x ![0, 0] ![512, 1024] w = w := put_full x _ (by decide) w
theorem window_S1x1024 {α : Type} (x : S1x1024.Idx → α) (inb : ∀ a, (![0, 0] : Fin S1x1024.rank → ℕ) a + ![1, 1024] a ≤ S1x1024.size a) : window x ![0, 0] ![1, 1024] inb = x := window_full x _ inb
theorem put_S1x1024 {α : Type} (x : S1x1024.Idx → α) (w : S1x1024.Idx → α) : put x ![0, 0] ![1, 1024] w = w := put_full x _ (by decide) w
theorem window_S2x1024x512 {α : Type} (x : S2x1024x512.Idx → α) (inb : ∀ a, (![0, 0, 0] : Fin S2x1024x512.rank → ℕ) a + ![2, 1024, 512] a ≤ S2x1024x512.size a) : window x ![0, 0, 0] ![2, 1024, 512] inb = x := window_full x _ inb
theorem put_S2x1024x512 {α : Type} (x : S2x1024x512.Idx → α) (w : S2x1024x512.Idx → α) : put x ![0, 0, 0] ![2, 1024, 512] w = w := put_full x _ (by decide) w
theorem window_S2x512x1024 {α : Type} (x : S2x512x1024.Idx → α) (inb : ∀ a, (![0, 0, 0] : Fin S2x512x1024.rank → ℕ) a + ![2, 512, 1024] a ≤ S2x512x1024.size a) : window x ![0, 0, 0] ![2, 512, 1024] inb = x := window_full x _ inb
theorem put_S2x512x1024 {α : Type} (x : S2x512x1024.Idx → α) (w : S2x512x1024.Idx → α) : put x ![0, 0, 0] ![2, 512, 1024] w = w := put_full x _ (by decide) w
/-- The second half does not see a store into the first. -/
theorem window_put_S2x1024x512 {α : Type} (x : S2x1024x512.Idx → α) (w : S1x1024x512.Idx → α) (inb) : window (put x ![0, 0, 0] ![1, 1024, 512] w) ![1, 0, 0] ![1, 1024, 512] inb = window x ![1, 0, 0] ![1, 1024, 512] inb :=
  VecWindow.window_put_of_disjoint (s := S2x1024x512) x _ _ _ _ inb w 0 (by decide)
/-- The first half does not see a store into the second. -/
theorem window_put'_S2x1024x512 {α : Type} (x : S2x1024x512.Idx → α) (w : S1x1024x512.Idx → α) (inb) : window (put x ![1, 0, 0] ![1, 1024, 512] w) ![0, 0, 0] ![1, 1024, 512] inb = window x ![0, 0, 0] ![1, 1024, 512] inb :=
  VecWindow.window_put_of_disjoint (s := S2x1024x512) x _ _ _ _ inb w 0 (by decide)
/-- The second half does not see a store into the first. -/
theorem window_put_S2x512x1024 {α : Type} (x : S2x512x1024.Idx → α) (w : S1x512x1024.Idx → α) (inb) : window (put x ![0, 0, 0] ![1, 512, 1024] w) ![1, 0, 0] ![1, 512, 1024] inb = window x ![1, 0, 0] ![1, 512, 1024] inb :=
  VecWindow.window_put_of_disjoint (s := S2x512x1024) x _ _ _ _ inb w 0 (by decide)
/-- The first half does not see a store into the second. -/
theorem window_put'_S2x512x1024 {α : Type} (x : S2x512x1024.Idx → α) (w : S1x512x1024.Idx → α) (inb) : window (put x ![1, 0, 0] ![1, 512, 1024] w) ![0, 0, 0] ![1, 512, 1024] inb = window x ![0, 0, 0] ![1, 512, 1024] inb :=
  VecWindow.window_put_of_disjoint (s := S2x512x1024) x _ _ _ _ inb w 0 (by decide)

end Views

/-- Half `s` of a pair of up-projection blocks. -/
abbrev half0U {α : Type} (x : S2x1024x512.Idx → α) : S1x1024x512.Idx → α := window x ![0, 0, 0] S1x1024x512.size inb_S2x1024x512_S1x1024x512_0_0_0
abbrev half1U {α : Type} (x : S2x1024x512.Idx → α) : S1x1024x512.Idx → α := window x ![1, 0, 0] S1x1024x512.size inb_S2x1024x512_S1x1024x512_1_0_0
/-- Half `s` of a pair of down-projection blocks. -/
abbrev half0D {α : Type} (x : S2x512x1024.Idx → α) : S1x512x1024.Idx → α := window x ![0, 0, 0] S1x512x1024.size inb_S2x512x1024_S1x512x1024_0_0_0
abbrev half1D {α : Type} (x : S2x512x1024.Idx → α) : S1x512x1024.Idx → α := window x ![1, 0, 0] S1x512x1024.size inb_S2x512x1024_S1x512x1024_1_0_0
/-- The left and the right half of the activation block's columns. -/
abbrev left (x : Vec F S512x1024 .bf16) : Vec F S512x512 .bf16 := window x ![0, 0] S512x512.size inb_S512x1024_S512x512_0_0
abbrev right (x : Vec F S512x1024 .bf16) : Vec F S512x512 .bf16 := window x ![0, 512] S512x512.size inb_S512x1024_S512x512_0_512
/-- The point's 512 rows of the accumulator of the normalised input's gradient. -/
abbrev rows (i : grid0.Coords) (x : Vec F S4096x1024 .f32) : Vec F S512x1024 .f32 := window x (k0_off2 i) S512x1024.size (k0_off2_inb i)

/-- The three offsets of a point's rows are one. -/
theorem window_off3 {α : Type} (i : grid0.Coords) (x : S4096x1024.Idx → α) (inb) : window x (k0_off3 i) ![512, 1024] inb = window x (k0_off2 i) ![512, 1024] inb := rfl

/-- A point's rows just stored are what is loaded back. -/
theorem window_put_rows {α : Type} (i : grid0.Coords) (x : S4096x1024.Idx → α) (w : S512x1024.Idx → α) (inb) : window (put x (k0_off2 i) ![512, 1024] w) (k0_off2 i) ![512, 1024] inb = w :=
  VecWindow.window_put_same (s := S4096x1024) x _ _ inb w

/-- The gradient of the hidden layer's input over the left half of the block, -/
def du0 (dyb a : Vec F S512x1024 .bf16) (wd : Vec F S2x512x1024 .bf16) : Vec F S512x512 .bf16 := k0_pay18 dyb (left a) (half0D wd)
/-- and over the right half. -/
def du1 (dyb a : Vec F S512x1024 .bf16) (wd : Vec F S2x512x1024 .bf16) : Vec F S512x512 .bf16 := k0_pay23 (k0_pay13 dyb) (right a) (half1D wd)

/-- The up-projection's accumulator as the point's products find it: cleared at the first block of rows. -/
def uReset (i : grid0.Coords) (s : Vec F S2x1024x512 .f32) : Vec F S2x1024x512 .f32 := if k0_cond5 i = 1#1 then k0_pay14 else s
/-- The up-projection's accumulator after the point. -/
def uNext (i : grid0.Coords) (xt : Vec F S1024x512 .bf16) (dyb a : Vec F S512x1024 .bf16) (wd : Vec F S2x512x1024 .bf16) (s : Vec F S2x1024x512 .f32) : Vec F S2x1024x512 .f32 :=
  put (put (uReset i s) ![0, 0, 0] S1x1024x512.size (k0_pay20 (k0_pay12 xt) (du0 dyb a wd) (half0U (uReset i s))))
    ![1, 0, 0] S1x1024x512.size (k0_pay1 (k0_pay12 xt) (du1 dyb a wd) (k0_pay25 (half1U (uReset i s))))

/-- The down-projection's accumulator as the point's products find it. -/
def dReset (i : grid0.Coords) (s : Vec F S2x512x1024 .f32) : Vec F S2x512x1024 .f32 := if k0_cond5 i = 1#1 then k0_pay15 else s
/-- The down-projection's accumulator after the point. -/
def dNext (i : grid0.Coords) (dyb a : Vec F S512x1024 .bf16) (s : Vec F S2x512x1024 .f32) : Vec F S2x512x1024 .f32 :=
  put (put (dReset i s) ![0, 0, 0] S1x512x1024.size (k0_pay19 dyb (left a) (half0D (dReset i s))))
    ![1, 0, 0] S1x512x1024.size (k0_pay24 (k0_pay13 dyb) (right a) (half1D (dReset i s)))

/-- The rows' accumulator as the point's products find it: its rows cleared in the first sweep. -/
def xReset (i : grid0.Coords) (s : Vec F S4096x1024 .f32) : Vec F S4096x1024 .f32 :=
  if k0_cond2 i = 1#1 then put s (k0_off2 i) S512x1024.size k0_pay16 else s
/-- The rows' accumulator after the point. -/
def xNext (i : grid0.Coords) (dyb a : Vec F S512x1024 .bf16) (wd : Vec F S2x512x1024 .bf16) (wu : Vec F S2x1024x512 .bf16) (s : Vec F S4096x1024 .f32) : Vec F S4096x1024 .f32 :=
  put (xReset i s) (k0_off2 i) S512x1024.size (k0_pay2 (k0_pay21 (du0 dyb a wd) (half0U wu)) (du1 dyb a wd) (half1U wu) (rows i (xReset i s)))

/-- The up-projection's result block after the point: written at the last block of rows, from the accumulator. -/
def uOut (i : grid0.Coords) (u : Vec F S2x1024x512 .f32) (o : Vec F S2x1x1024x512 .bf16) : Vec F S2x1x1024x512 .bf16 :=
  if k0_cond3 i = 1#1 then put (put o ![0, 0, 0, 0] S1x1x1024x512.size (k0_pay3 (half0U u))) ![1, 0, 0, 0] S1x1x1024x512.size (k0_pay5 (half1U u)) else o
/-- The down-projection's result block after the point. -/
def dOut (i : grid0.Coords) (u : Vec F S2x512x1024 .f32) (o : Vec F S2x1x512x1024 .bf16) : Vec F S2x1x512x1024 .bf16 :=
  if k0_cond3 i = 1#1 then put (put o ![0, 0, 0, 0] S1x1x512x1024.size (k0_pay4 (half0D u))) ![1, 0, 0, 0] S1x1x512x1024.size (k0_pay6 (half1D u)) else o
/-- The input gradient's block after the point: written in the last sweep. -/
def xOut (i : grid0.Coords) (h1 dy : Vec F S512x1024 .f32) (g : Vec F S1x1024 .f32) (x : Vec F S4096x1024 .f32) (o : Vec F S512x1024 .f32) : Vec F S512x1024 .f32 :=
  if k0_cond4 i = 1#1 then k0_pay10 h1 (rows i x) g dy else o
/-- The weight gradient of the norm after the point: accumulated in the last sweep. -/
def gOut (i : grid0.Coords) (h1 : Vec F S512x1024 .f32) (x : Vec F S4096x1024 .f32) (o : Vec F S1x1024 .f32) : Vec F S1x1024 .f32 :=
  if k0_cond4 i = 1#1 then k0_pay11 h1 (rows i x) (if k0_cond5 i = 1#1 then k0_pay7 else o) else o

end Cert.KernelIdeal.Body
-- ==== Proof.Sweep.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.State

@[expose] public section

set_option maxRecDepth 16384

noncomputable section

namespace Cert.KernelIdeal.Body

open Cert.KernelIdeal.Gen
open Idealize.ShloMosaic Idealize.ShloMosaic.TcCoe Idealize.ShloMosaic.Tactic
open VecWindow (window put)

variable {F : FTy → Type} [FloatOps F]
variable (m : (ℓ : Loc nD τ sig) → Buf (Elt F) ℓ)

/-! ## Which branch a point takes -/

theorem hcond2 : ∀ t : Fin cfg0.N, k0_cond2 (grid0.coords t) = 1#1 ↔ t.val < 8 := by decide +kernel
theorem hcond3 : ∀ t : Fin cfg0.N, k0_cond3 (grid0.coords t) = 1#1 ↔ t.val % 8 = 7 := by decide +kernel
theorem hcond4 : ∀ t : Fin cfg0.N, k0_cond4 (grid0.coords t) = 1#1 ↔ 24 ≤ t.val := by decide +kernel
theorem hcond5 : ∀ t : Fin cfg0.N, k0_cond5 (grid0.coords t) = 1#1 ↔ t.val % 8 = 0 := by decide +kernel
theorem hoff2 : ∀ t : Fin cfg0.N, k0_off2 (grid0.coords t) = ![512 * (t.val % 8), 0] := by decide +kernel
theorem flush8 : ∀ t : Fin cfg0.N, (cfg0.win 8).flush t = true ↔ 24 ≤ t.val := by decide +kernel

/-! ## The accumulators along the grid -/

/-- The point after `n` points. -/
def pt (n : ℕ) : Fin cfg0.N := ⟨n % 32, lt_of_lt_of_eq (Nat.mod_lt _ (by decide)) N_0.symm⟩

theorem pt_val (t : Fin cfg0.N) : pt t.val = t := Fin.ext (Nat.mod_eq_of_lt (lt_of_lt_of_eq t.isLt N_0))

/-- The windows' blocks at a point, by the names of what they hold. -/
abbrev bXt (c : Dev nD) (t : Fin cfg0.N) : Vec F S1024x512 .bf16 := iblk m c 0 t
abbrev bA (c : Dev nD) (t : Fin cfg0.N) : Vec F S512x1024 .bf16 := iblk m c 1 t
abbrev bH (c : Dev nD) (t : Fin cfg0.N) : Vec F S512x1024 .f32 := iblk m c 2 t
abbrev bY (c : Dev nD) (t : Fin cfg0.N) : Vec F S512x1024 .f32 := iblk m c 3 t
abbrev bYb (c : Dev nD) (t : Fin cfg0.N) : Vec F S512x1024 .bf16 := iblk m c 4 t
abbrev bG (c : Dev nD) (t : Fin cfg0.N) : Vec F S1x1024 .f32 := iblk m c 5 t
abbrev bWu (c : Dev nD) (t : Fin cfg0.N) : Vec F S2x1024x512 .bf16 := iblk m c 6 t
abbrev bWd (c : Dev nD) (t : Fin cfg0.N) : Vec F S2x512x1024 .bf16 := iblk m c 7 t

/-- The up-projection's accumulator after `n` points, -/
def uS (c : Dev nD) : ℕ → Vec F S2x1024x512 .f32
  | 0 => k0_pay14
  | n + 1 => uNext (grid0.coords (pt n)) (bXt m c (pt n)) (bYb m c (pt n)) (bA m c (pt n)) (bWd m c (pt n)) (uS c n)
/-- the down-projection's, -/
def dS (c : Dev nD) : ℕ → Vec F S2x512x1024 .f32
  | 0 => k0_pay15
  | n + 1 => dNext (grid0.coords (pt n)) (bYb m c (pt n)) (bA m c (pt n)) (dS c n)
/-- the rows', -/
def xS (c : Dev nD) : ℕ → Vec F S4096x1024 .f32
  | 0 => fun _ => Scalar.ofBits .f32 0x00000000#32
  | n + 1 => xNext (grid0.coords (pt n)) (bYb m c (pt n)) (bA m c (pt n)) (bWd m c (pt n)) (bWu m c (pt n)) (xS c n)
/-- and the norm's weight gradient. -/
def gS (c : Dev nD) : ℕ → Vec F S1x1024 .f32
  | 0 => k0_pay7
  | n + 1 => gOut (grid0.coords (pt n)) (bH m c (pt n)) (xS m c (n + 1)) (gS c n)

theorem uS_succ (c : Dev nD) (t : Fin cfg0.N) : uS m c (t.val + 1) = uNext (grid0.coords t) (bXt m c t) (bYb m c t) (bA m c t) (bWd m c t) (uS m c t.val) := by
  rw [uS, pt_val]
theorem dS_succ (c : Dev nD) (t : Fin cfg0.N) : dS m c (t.val + 1) = dNext (grid0.coords t) (bYb m c t) (bA m c t) (dS m c t.val) := by
  rw [dS, pt_val]
theorem xS_succ (c : Dev nD) (t : Fin cfg0.N) : xS m c (t.val + 1) = xNext (grid0.coords t) (bYb m c t) (bA m c t) (bWd m c t) (bWu m c t) (xS m c t.val) := by
  rw [xS, pt_val]
theorem gS_succ (c : Dev nD) (t : Fin cfg0.N) : gS m c (t.val + 1) = gOut (grid0.coords t) (bH m c t) (xS m c (t.val + 1)) (gS m c t.val) := by
  rw [gS, pt_val]

/-- A pair of result blocks of the up-projection's gradient from the accumulator. -/
def uBlk (u : Vec F S2x1024x512 .f32) : Vec F S2x1x1024x512 .bf16 :=
  put (put (fun _ => Scalar.ofBits .bf16 0x0000#16) ![0, 0, 0, 0] S1x1x1024x512.size (k0_pay3 (half0U u))) ![1, 0, 0, 0] S1x1x1024x512.size (k0_pay5 (half1U u))
/-- A pair of result blocks of the down-projection's gradient from the accumulator. -/
def dBlk (u : Vec F S2x512x1024 .f32) : Vec F S2x1x512x1024 .bf16 :=
  put (put (fun _ => Scalar.ofBits .bf16 0x0000#16) ![0, 0, 0, 0] S1x1x512x1024.size (k0_pay4 (half0D u))) ![1, 0, 0, 0] S1x1x512x1024.size (k0_pay6 (half1D u))

theorem uOut_last (i : grid0.Coords) (h : k0_cond3 i = 1#1) (u : Vec F S2x1024x512 .f32) (o) : uOut i u o = uBlk u := by
  unfold uOut uBlk; rw [if_pos h]
  funext y; unfold put
  have h0 : (y 0).val < 2 := (y 0).isLt
  by_cases h1 : ∀ a, (![1, 0, 0, 0] : Fin 4 → ℕ) a ≤ (y a).val ∧ (y a).val < (![1, 0, 0, 0] : Fin 4 → ℕ) a + S1x1x1024x512.size a
  · rw [dif_pos h1, dif_pos h1]
  · rw [dif_neg h1, dif_neg h1]
    have h2 : ∀ a, (![0, 0, 0, 0] : Fin 4 → ℕ) a ≤ (y a).val ∧ (y a).val < (![0, 0, 0, 0] : Fin 4 → ℕ) a + S1x1x1024x512.size a := by
      have l1 := (y 1).isLt; have l2 := (y 2).isLt; have l3 := (y 3).isLt
      simp only [Fin.forall_fin_succ, Fin.forall_fin_zero_pi] at h1 ⊢
      simp at h1 l1 l2 l3 ⊢; omega
    rw [dif_pos h2, dif_pos h2]

theorem dOut_last (i : grid0.Coords) (h : k0_cond3 i = 1#1) (u : Vec F S2x512x1024 .f32) (o) : dOut i u o = dBlk u := by
  unfold dOut dBlk; rw [if_pos h]
  funext y; unfold put
  have h0 : (y 0).val < 2 := (y 0).isLt
  by_cases h1 : ∀ a, (![1, 0, 0, 0] : Fin 4 → ℕ) a ≤ (y a).val ∧ (y a).val < (![1, 0, 0, 0] : Fin 4 → ℕ) a + S1x1x512x1024.size a
  · rw [dif_pos h1, dif_pos h1]
  · rw [dif_neg h1, dif_neg h1]
    have h2 : ∀ a, (![0, 0, 0, 0] : Fin 4 → ℕ) a ≤ (y a).val ∧ (y a).val < (![0, 0, 0, 0] : Fin 4 → ℕ) a + S1x1x512x1024.size a := by
      have l1 := (y 1).isLt; have l2 := (y 2).isLt; have l3 := (y 3).isLt
      simp only [Fin.forall_fin_succ, Fin.forall_fin_zero_pi] at h1 ⊢
      simp at h1 l1 l2 l3 ⊢; omega
    rw [dif_pos h2, dif_pos h2]

/-! ## What the accumulators hold before their first point does not matter -/

theorem uNext_found (c : Dev nD) (t : Fin cfg0.N) (s : Vec F S2x1024x512 .f32) (h : t.val ≠ 0 → s = uS m c t.val) :
    uNext (grid0.coords t) (bXt m c t) (bYb m c t) (bA m c t) (bWd m c t) s = uS m c (t.val + 1) := by
  rw [uS_succ]
  by_cases hz : t.val = 0
  · have h5 := (hcond5 t).mpr (by omega)
    unfold uNext uReset; simp only [if_pos h5]
  · rw [h hz]

theorem dNext_found (c : Dev nD) (t : Fin cfg0.N) (s : Vec F S2x512x1024 .f32) (h : t.val ≠ 0 → s = dS m c t.val) :
    dNext (grid0.coords t) (bYb m c t) (bA m c t) s = dS m c (t.val + 1) := by
  rw [dS_succ]
  by_cases hz : t.val = 0
  · have h5 := (hcond5 t).mpr (by omega)
    unfold dNext dReset; simp only [if_pos h5]
  · rw [h hz]

/-- Block `b` of 512 rows. -/
abbrev blk {α : Type} (b : ℕ) (hb : b < 8) (x : S4096x1024.Idx → α) : S512x1024.Idx → α :=
  window x ![512 * b, 0] S512x1024.size (fun a => by
    match a with
    | ⟨0, _⟩ => show 512 * b + 512 ≤ 4096; omega
    | ⟨1, _⟩ => show 0 + 1024 ≤ 1024; omega)

theorem window_off {α : Type} (x : S4096x1024.Idx → α) {off off' : Fin 2 → ℕ} (h : off = off') (inb inb') :
    (window (s := S4096x1024) x off S512x1024.size inb : S512x1024.Idx → α) = window (s := S4096x1024) x off' S512x1024.size inb' := by subst h; rfl

theorem rows_eq (t : Fin cfg0.N) (x : Vec F S4096x1024 .f32) : rows (grid0.coords t) x = blk (t.val % 8) (Nat.mod_lt _ (by decide)) x :=
  window_off x (hoff2 t) _ _

/-- The rows' accumulator at `s` is as it should be after `n` points: on the blocks of rows the sweep has reached. -/
def Agree (c : Dev nD) (n : ℕ) (s : Vec F S4096x1024 .f32) : Prop := ∀ b (hb : b < 8), b < n → blk b hb s = blk b hb (xS m c n)

theorem blk_xNext_ne (t : Fin cfg0.N) (dyb a : Vec F S512x1024 .bf16) (wd : Vec F S2x512x1024 .bf16) (wu : Vec F S2x1024x512 .bf16) (s : Vec F S4096x1024 .f32)
    (b : ℕ) (hb : b < 8) (hne : b ≠ t.val % 8) : blk b hb (xNext (grid0.coords t) dyb a wd wu s) = blk b hb s := by
  have h := hoff2 t
  have hd : (![512 * b, 0] : Fin 2 → ℕ) 0 + S512x1024.size 0 ≤ k0_off2 (grid0.coords t) 0 ∨ k0_off2 (grid0.coords t) 0 + S512x1024.size 0 ≤ (![512 * b, 0] : Fin 2 → ℕ) 0 := by
    rw [h]; show 512 * b + 512 ≤ 512 * (t.val % 8) ∨ 512 * (t.val % 8) + 512 ≤ 512 * b; omega
  unfold xNext xReset
  rw [blk, VecWindow.window_put_of_disjoint (s := S4096x1024) _ _ _ _ _ _ _ 0 hd]
  split
  · exact VecWindow.window_put_of_disjoint (s := S4096x1024) _ _ _ _ _ _ _ 0 hd
  · rfl

/-- The point's own rows, after it. -/
theorem rows_xNext (i : grid0.Coords) (dyb a : Vec F S512x1024 .bf16) (wd : Vec F S2x512x1024 .bf16) (wu : Vec F S2x1024x512 .bf16) (s : Vec F S4096x1024 .f32) :
    rows i (xNext i dyb a wd wu s)
      = k0_pay2 (k0_pay21 (du0 dyb a wd) (half0U wu)) (du1 dyb a wd) (half1U wu) (if k0_cond2 i = 1#1 then k0_pay16 else rows i s) := by
  unfold xNext
  rw [rows, VecWindow.window_put_same (s := S4096x1024)]
  congr 1
  unfold xReset
  split
  · exact VecWindow.window_put_same (s := S4096x1024) _ _ _ _ _
  · rfl

theorem xNext_found (c : Dev nD) (t : Fin cfg0.N) (s : Vec F S4096x1024 .f32) (h : Agree m c t.val s) :
    rows (grid0.coords t) (xNext (grid0.coords t) (bYb m c t) (bA m c t) (bWd m c t) (bWu m c t) s) = rows (grid0.coords t) (xS m c (t.val + 1)) := by
  rw [xS_succ, rows_xNext, rows_xNext]
  congr 1
  by_cases h2 : k0_cond2 (grid0.coords t) = 1#1
  · rw [if_pos h2, if_pos h2]
  · rw [if_neg h2, if_neg h2, rows_eq, rows_eq]
    have := mt (hcond2 t).mpr h2
    exact h _ _ (by omega)

theorem agree_succ (c : Dev nD) (t : Fin cfg0.N) (s : Vec F S4096x1024 .f32) (h : Agree m c t.val s) :
    Agree m c (t.val + 1) (xNext (grid0.coords t) (bYb m c t) (bA m c t) (bWd m c t) (bWu m c t) s) := by
  intro b hb hlt
  by_cases hbt : b = t.val % 8
  · subst hbt
    have := xNext_found m c t s h
    rwa [rows_eq, rows_eq] at this
  · rw [xS_succ, blk_xNext_ne t _ _ _ _ _ b hb hbt, blk_xNext_ne t _ _ _ _ _ b hb hbt]
    exact h b hb (by omega)

/-- The input gradient's block after a point of the last sweep. -/
def xBlk (c : Dev nD) (t : Fin cfg0.N) : Vec F S512x1024 .f32 :=
  k0_pay10 (bH m c t) (rows (grid0.coords t) (xS m c (t.val + 1))) (bG m c t) (bY m c t)

theorem gOut_found (c : Dev nD) (t : Fin cfg0.N) (s : Vec F S4096x1024 .f32) (hs : Agree m c t.val s) (o : Vec F S1x1024 .f32) (h4 : k0_cond4 (grid0.coords t) = 1#1)
    (ho : t.val ≠ 24 → o = gS m c t.val) :
    gOut (grid0.coords t) (bH m c t) (xNext (grid0.coords t) (bYb m c t) (bA m c t) (bWd m c t) (bWu m c t) s) o = gS m c (t.val + 1) := by
  rw [gS_succ]
  unfold gOut
  rw [if_pos h4, if_pos h4, xNext_found m c t s hs]
  by_cases h5 : k0_cond5 (grid0.coords t) = 1#1
  · rw [if_pos h5, if_pos h5]
  · rw [ho (fun e => h5 ((hcond5 t).mpr (by omega)))]

end Cert.KernelIdeal.Body
-- ==== Proof.Steps.lean ====
module

public import proofs.«01_k».proof.Proof.Payloads
public import proofs.«01_k».proof.Proof.Sweep

@[expose] public section

set_option maxRecDepth 16384

noncomputable section

/-! # What one point adds to each accumulator, element by element -/

namespace Cert.KernelIdeal.Body

open Cert.KernelIdeal Cert.KernelIdeal.Gen
open Idealize.ShloMosaic Idealize.ShloMosaic.TcCoe
open VecWindow (window put)

/-! ## The halves, read at an index -/

section Halves
variable {α : Type}

theorem U0 (x : S2x1024x512.Idx → α) (z : Fin 1) (k : Fin 1024) (q : Fin 512) : half0U x (ix3 z k q) = x (ix3 0 k q) :=
  congrArg x (funext fun a => Fin.ext (by
    match a with
    | ⟨0, _⟩ => show 0 + 1 * z.val = 0; omega
    | ⟨1, _⟩ => show 0 + 1 * k.val = k.val; omega
    | ⟨2, _⟩ => show 0 + 1 * q.val = q.val; omega))
theorem U1 (x : S2x1024x512.Idx → α) (z : Fin 1) (k : Fin 1024) (q : Fin 512) : half1U x (ix3 z k q) = x (ix3 1 k q) :=
  congrArg x (funext fun a => Fin.ext (by
    match a with
    | ⟨0, _⟩ => show 1 + 1 * z.val = 1; omega
    | ⟨1, _⟩ => show 0 + 1 * k.val = k.val; omega
    | ⟨2, _⟩ => show 0 + 1 * q.val = q.val; omega))
theorem D0 (x : S2x512x1024.Idx → α) (z : Fin 1) (q : Fin 512) (k : Fin 1024) : half0D x (ix3 z q k) = x (ix3 0 q k) :=
  congrArg x (funext fun a => Fin.ext (by
    match a with
    | ⟨0, _⟩ => show 0 + 1 * z.val = 0; omega
    | ⟨1, _⟩ => show 0 + 1 * q.val = q.val; omega
    | ⟨2, _⟩ => show 0 + 1 * k.val = k.val; omega))
theorem D1 (x : S2x512x1024.Idx → α) (z : Fin 1) (q : Fin 512) (k : Fin 1024) : half1D x (ix3 z q k) = x (ix3 1 q k) :=
  congrArg x (funext fun a => Fin.ext (by
    match a with
    | ⟨0, _⟩ => show 1 + 1 * z.val = 1; omega
    | ⟨1, _⟩ => show 0 + 1 * q.val = q.val; omega
    | ⟨2, _⟩ => show 0 + 1 * k.val = k.val; omega))
theorem left_apply (x : Vec Ideal S512x1024 .bf16) (r q : Fin 512) : left x (ix2 r q) = x (ix2 r ⟨(0 : Fin 2).val * 512 + q.val, by have := q.isLt; show 0 * 512 + q.val < 1024; omega⟩) :=
  congrArg x (funext fun a => Fin.ext (by
    match a with
    | ⟨0, _⟩ => show 0 + 1 * r.val = r.val; omega
    | ⟨1, _⟩ => show 0 + 1 * q.val = 0 * 512 + q.val; omega))
theorem right_apply (x : Vec Ideal S512x1024 .bf16) (r q : Fin 512) : right x (ix2 r q) = x (ix2 r ⟨(1 : Fin 2).val * 512 + q.val, by have := q.isLt; show 1 * 512 + q.val < 1024; omega⟩) :=
  congrArg x (funext fun a => Fin.ext (by
    match a with
    | ⟨0, _⟩ => show 0 + 1 * r.val = r.val; omega
    | ⟨1, _⟩ => show 512 + 1 * q.val = 1 * 512 + q.val; omega))
theorem blk_apply (x : S4096x1024.Idx → α) (b : ℕ) (hb : b < 8) (r : Fin 512) (k : Fin 1024) :
    blk b hb x (ix2 r k) = x (ix2 ⟨b * 512 + r.val, by omega⟩ k) :=
  congrArg x (funext fun a => Fin.ext (by
    match a with
    | ⟨0, _⟩ => show 512 * b + 1 * r.val = b * 512 + r.val; omega
    | ⟨1, _⟩ => show 0 + 1 * k.val = k.val; omega))

theorem half0U_put (x : S2x1024x512.Idx → α) (v w : S1x1024x512.Idx → α) : half0U (put (put x ![0, 0, 0] S1x1024x512.size v) ![1, 0, 0] S1x1024x512.size w) = v :=
  (window_put'_S2x1024x512 _ _ _).trans (VecWindow.window_put_same (s := S2x1024x512) _ _ _ _ _)
theorem half1U_put (x : S2x1024x512.Idx → α) (w : S1x1024x512.Idx → α) : half1U (put x ![1, 0, 0] S1x1024x512.size w) = w :=
  VecWindow.window_put_same (s := S2x1024x512) _ _ _ _ _
theorem half0D_put (x : S2x512x1024.Idx → α) (v w : S1x512x1024.Idx → α) : half0D (put (put x ![0, 0, 0] S1x512x1024.size v) ![1, 0, 0] S1x512x1024.size w) = v :=
  (window_put'_S2x512x1024 _ _ _).trans (VecWindow.window_put_same (s := S2x512x1024) _ _ _ _ _)
theorem half1D_put (x : S2x512x1024.Idx → α) (w : S1x512x1024.Idx → α) : half1D (put x ![1, 0, 0] S1x512x1024.size w) = w :=
  VecWindow.window_put_same (s := S2x512x1024) _ _ _ _ _
end Halves

/-! ## The gradient of the hidden layer's input over a point's block -/

/-- Row `r`, column `q` of half `s`. -/
def dE (dyb a : Vec Ideal S512x1024 .bf16) (wd : Vec Ideal S2x512x1024 .bf16) (s : Fin 2) (r q : Fin 512) : EReal :=
  (∑ k : Fin 1024, dyb (ix2 r k) * wd (ix3 s q k)) * (Ideal.ofBits .f32 0x40000000#32 * a (ix2 r ⟨s.val * 512 + q.val, by omega⟩))

variable (dyb a : Vec Ideal S512x1024 .bf16) (wd : Vec Ideal S2x512x1024 .bf16)

theorem du0_apply (r q : Fin 512) : du0 dyb a wd (ix2 r q) = dE dyb a wd 0 r q := by
  unfold du0 dE; rw [pay18_apply, left_apply]; simp only [D0]
theorem du1_apply (r q : Fin 512) : du1 dyb a wd (ix2 r q) = dE dyb a wd 1 r q := by
  unfold du1 dE; rw [pay23_apply, right_apply]; simp only [D1]

/-! ## The accumulators' steps -/

theorem uReset_apply (i : grid0.Coords) (u : Vec Ideal S2x1024x512 .f32) (s : Fin 2) (k : Fin 1024) (q : Fin 512) :
    uReset i u (ix3 s k q) = if k0_cond5 i = 1#1 then 0 else u (ix3 s k q) := by
  unfold uReset; split
  · exact pay14_apply s k q
  · rfl

theorem dReset_apply (i : grid0.Coords) (u : Vec Ideal S2x512x1024 .f32) (s : Fin 2) (q : Fin 512) (k : Fin 1024) :
    dReset i u (ix3 s q k) = if k0_cond5 i = 1#1 then 0 else u (ix3 s q k) := by
  unfold dReset; split
  · exact pay15_apply s q k
  · rfl

theorem uNext_apply (i : grid0.Coords) (xt : Vec Ideal S1024x512 .bf16) (u : Vec Ideal S2x1024x512 .f32) (s : Fin 2) (k : Fin 1024) (q : Fin 512) :
    uNext i xt dyb a wd u (ix3 s k q) = (if k0_cond5 i = 1#1 then 0 else u (ix3 s k q)) + ∑ r : Fin 512, xt (ix2 k r) * dE dyb a wd s r q := by
  match s with
  | 0 =>
    refine (U0 (uNext i xt dyb a wd u) 0 k q).symm.trans ?_; unfold uNext; rw [half0U_put, pay20_apply]; simp only [du0_apply]; rw [U0, uReset_apply]
  | 1 =>
    refine (U1 (uNext i xt dyb a wd u) 0 k q).symm.trans ?_; unfold uNext; rw [half1U_put, pay1_apply]; simp only [du1_apply]; rw [U1, uReset_apply]

theorem dNext_apply (i : grid0.Coords) (u : Vec Ideal S2x512x1024 .f32) (s : Fin 2) (q : Fin 512) (k : Fin 1024) :
    dNext i dyb a u (ix3 s q k) = (if k0_cond5 i = 1#1 then 0 else u (ix3 s q k))
      + ∑ r : Fin 512, a (ix2 r ⟨s.val * 512 + q.val, by omega⟩) * a (ix2 r ⟨s.val * 512 + q.val, by omega⟩) * dyb (ix2 r k) := by
  match s with
  | 0 =>
    refine (D0 (dNext i dyb a u) 0 q k).symm.trans ?_; unfold dNext; rw [half0D_put, pay19_apply, D0, dReset_apply]
    exact congrArg _ (Finset.sum_congr rfl fun r _ => by rw [left_apply])
  | 1 =>
    refine (D1 (dNext i dyb a u) 0 q k).symm.trans ?_; unfold dNext; rw [half1D_put, pay24_apply, D1, dReset_apply]
    exact congrArg _ (Finset.sum_congr rfl fun r _ => by rw [right_apply])

/-- A point's own rows after it. -/
theorem rows_next_apply (i : grid0.Coords) (wu : Vec Ideal S2x1024x512 .bf16) (x : Vec Ideal S4096x1024 .f32) (r : Fin 512) (k : Fin 1024) :
    rows i (xNext i dyb a wd wu x) (ix2 r k)
      = (if k0_cond2 i = 1#1 then 0 else rows i x (ix2 r k)) + ∑ s : Fin 2, ∑ q : Fin 512, dE dyb a wd s r q * wu (ix3 s k q) := by
  rw [rows_xNext, pay2_apply, Fin.sum_univ_two]
  simp only [du0_apply, du1_apply, U0, U1]
  congr 1
  split
  · exact pay16_apply r k
  · rfl

/-! ## The result blocks -/

theorem uBlk_apply (u : Vec Ideal S2x1024x512 .f32) (s : Fin 2) (z : Fin 1) (k : Fin 1024) (q : Fin 512) : uBlk u (ix4 s z k q) = u (ix3 s k q) := by
  have key : ∀ (v w : S1x1x1024x512.Idx → EReal) (x : S2x1x1024x512.Idx → EReal),
      put (put x ![0, 0, 0, 0] S1x1x1024x512.size v) ![1, 0, 0, 0] S1x1x1024x512.size w (ix4 s z k q) = if s = 0 then v (ix4 0 z k q) else w (ix4 0 z k q) := by
    intro v w x
    match s with
    | 0 =>
      have n1 : ¬ ∀ a : Fin 4, (![1, 0, 0, 0] : Fin 4 → ℕ) a ≤ ((ix4 (0 : Fin 2) z k q) a).val ∧ ((ix4 (0 : Fin 2) z k q) a).val < (![1, 0, 0, 0] : Fin 4 → ℕ) a + S1x1x1024x512.size a :=
        fun h => absurd (h 0).1 (by show ¬ 1 ≤ 0; omega)
      have p0 : ∀ a : Fin 4, (![0, 0, 0, 0] : Fin 4 → ℕ) a ≤ ((ix4 (0 : Fin 2) z k q) a).val ∧ ((ix4 (0 : Fin 2) z k q) a).val < (![0, 0, 0, 0] : Fin 4 → ℕ) a + S1x1x1024x512.size a := by
        intro a
        match a with
        | ⟨0, _⟩ => show 0 ≤ 0 ∧ 0 < 0 + 1; omega
        | ⟨1, _⟩ => show 0 ≤ z.val ∧ z.val < 0 + 1; omega
        | ⟨2, _⟩ => show 0 ≤ k.val ∧ k.val < 0 + 1024; omega
        | ⟨3, _⟩ => show 0 ≤ q.val ∧ q.val < 0 + 512; omega
      rw [if_pos rfl]
      refine (dif_neg n1).trans ((dif_pos p0).trans (congrArg v (funext fun a => Fin.ext ?_)))
      match a with
      | ⟨0, _⟩ => rfl
      | ⟨1, _⟩ => rfl
      | ⟨2, _⟩ => rfl
      | ⟨3, _⟩ => rfl
    | 1 =>
      have p0 : ∀ a : Fin 4, (![1, 0, 0, 0] : Fin 4 → ℕ) a ≤ ((ix4 (1 : Fin 2) z k q) a).val ∧ ((ix4 (1 : Fin 2) z k q) a).val < (![1, 0, 0, 0] : Fin 4 → ℕ) a + S1x1x1024x512.size a := by
        intro a
        match a with
        | ⟨0, _⟩ => show 1 ≤ 1 ∧ 1 < 1 + 1; omega
        | ⟨1, _⟩ => show 0 ≤ z.val ∧ z.val < 0 + 1; omega
        | ⟨2, _⟩ => show 0 ≤ k.val ∧ k.val < 0 + 1024; omega
        | ⟨3, _⟩ => show 0 ≤ q.val ∧ q.val < 0 + 512; omega
      rw [if_neg (by decide)]
      refine (dif_pos p0).trans (congrArg w (funext fun a => Fin.ext ?_))
      match a with
      | ⟨0, _⟩ => rfl
      | ⟨1, _⟩ => rfl
      | ⟨2, _⟩ => rfl
      | ⟨3, _⟩ => rfl
  unfold uBlk
  refine (key _ _ _).trans ?_
  match s with
  | 0 => rw [if_pos rfl, pay3_apply, U0]
  | 1 => rw [if_neg (by decide), pay5_apply, U1]

theorem dBlk_apply (u : Vec Ideal S2x512x1024 .f32) (s : Fin 2) (z : Fin 1) (q : Fin 512) (k : Fin 1024) : dBlk u (ix4 s z q k) = u (ix3 s q k) := by
  have key : ∀ (v w : S1x1x512x1024.Idx → EReal) (x : S2x1x512x1024.Idx → EReal),
      put (put x ![0, 0, 0, 0] S1x1x512x1024.size v) ![1, 0, 0, 0] S1x1x512x1024.size w (ix4 s z q k) = if s = 0 then v (ix4 0 z q k) else w (ix4 0 z q k) := by
    intro v w x
    match s with
    | 0 =>
      have n1 : ¬ ∀ a : Fin 4, (![1, 0, 0, 0] : Fin 4 → ℕ) a ≤ ((ix4 (0 : Fin 2) z q k) a).val ∧ ((ix4 (0 : Fin 2) z q k) a).val < (![1, 0, 0, 0] : Fin 4 → ℕ) a + S1x1x512x1024.size a :=
        fun h => absurd (h 0).1 (by show ¬ 1 ≤ 0; omega)
      have p0 : ∀ a : Fin 4, (![0, 0, 0, 0] : Fin 4 → ℕ) a ≤ ((ix4 (0 : Fin 2) z q k) a).val ∧ ((ix4 (0 : Fin 2) z q k) a).val < (![0, 0, 0, 0] : Fin 4 → ℕ) a + S1x1x512x1024.size a := by
        intro a
        match a with
        | ⟨0, _⟩ => show 0 ≤ 0 ∧ 0 < 0 + 1; omega
        | ⟨1, _⟩ => show 0 ≤ z.val ∧ z.val < 0 + 1; omega
        | ⟨2, _⟩ => show 0 ≤ q.val ∧ q.val < 0 + 512; omega
        | ⟨3, _⟩ => show 0 ≤ k.val ∧ k.val < 0 + 1024; omega
      rw [if_pos rfl]
      refine (dif_neg n1).trans ((dif_pos p0).trans (congrArg v (funext fun a => Fin.ext ?_)))
      match a with
      | ⟨0, _⟩ => rfl
      | ⟨1, _⟩ => rfl
      | ⟨2, _⟩ => rfl
      | ⟨3, _⟩ => rfl
    | 1 =>
      have p0 : ∀ a : Fin 4, (![1, 0, 0, 0] : Fin 4 → ℕ) a ≤ ((ix4 (1 : Fin 2) z q k) a).val ∧ ((ix4 (1 : Fin 2) z q k) a).val < (![1, 0, 0, 0] : Fin 4 → ℕ) a + S1x1x512x1024.size a := by
        intro a
        match a with
        | ⟨0, _⟩ => show 1 ≤ 1 ∧ 1 < 1 + 1; omega
        | ⟨1, _⟩ => show 0 ≤ z.val ∧ z.val < 0 + 1; omega
        | ⟨2, _⟩ => show 0 ≤ q.val ∧ q.val < 0 + 512; omega
        | ⟨3, _⟩ => show 0 ≤ k.val ∧ k.val < 0 + 1024; omega
      rw [if_neg (by decide)]
      refine (dif_pos p0).trans (congrArg w (funext fun a => Fin.ext ?_))
      match a with
      | ⟨0, _⟩ => rfl
      | ⟨1, _⟩ => rfl
      | ⟨2, _⟩ => rfl
      | ⟨3, _⟩ => rfl
  unfold dBlk
  refine (key _ _ _).trans ?_
  match s with
  | 0 => rw [if_pos rfl, pay4_apply, D0]
  | 1 => rw [if_neg (by decide), pay6_apply, D1]

end Cert.KernelIdeal.Body
-- ==== Proof.Blocks.lean ====
module

public import proofs.«01_k».proof.Proof.Arrays
public import proofs.«01_k».proof.Proof.Tiles
public import proofs.«01_k».proof.Proof.Steps

@[expose] public section

set_option maxRecDepth 16384

noncomputable section

/-! # The windows' blocks at a point, element by element

Point `t` is column `t / 8` of the hidden layer's eight-block pairs and row block `t % 8`. -/

namespace Cert.KernelIdeal.Body

open Cert Cert.KernelIdeal Cert.KernelIdeal.Gen
open Idealize.ShloMosaic Idealize.ShloMosaic.TcCoe

variable (m : (ℓ : Loc nD τ sig) → Buf (Elt Ideal) ℓ) (c : Dev nD)

theorem lt32 (t : Fin cfg0.N) : t.val < 32 := lt_of_lt_of_eq t.isLt N_0

/-- Where the windows' blocks lie, along each axis: point `t` is hidden block pair `t / 8` and row block `t % 8`;
the blocks of the last sweep alone are read from where the sweep starts. -/
theorem ix_0 : ∀ t : Fin cfg0.N, (cfg0.win 0).index t (0 : Fin 2) = 0 ∧ (cfg0.win 1).index t (0 : Fin 2) = t.val % 8
    ∧ ((cfg0.win 2).index t (0 : Fin 2) = if 24 ≤ t.val then t.val % 8 else 0) ∧ ((cfg0.win 3).index t (0 : Fin 2) = if 24 ≤ t.val then t.val % 8 else 0)
    ∧ (cfg0.win 4).index t (0 : Fin 2) = t.val % 8 ∧ (cfg0.win 5).index t (0 : Fin 2) = 0 ∧ (cfg0.win 6).index t (0 : Fin 3) = t.val / 8
    ∧ (cfg0.win 7).index t (0 : Fin 3) = t.val / 8 ∧ ((cfg0.win 8).index t (0 : Fin 2) = if 24 ≤ t.val then t.val % 8 else 0)
    ∧ (cfg0.win 9).index t (0 : Fin 4) = 0 ∧ (cfg0.win 10).index t (0 : Fin 4) = 0 ∧ (cfg0.win 11).index t (0 : Fin 2) = 0 := by decide +kernel
theorem ix_1 : ∀ t : Fin cfg0.N, (cfg0.win 0).index t (1 : Fin 2) = t.val % 8 ∧ (cfg0.win 1).index t (1 : Fin 2) = t.val / 8
    ∧ (cfg0.win 2).index t (1 : Fin 2) = 0 ∧ (cfg0.win 3).index t (1 : Fin 2) = 0 ∧ (cfg0.win 4).index t (1 : Fin 2) = 0 ∧ (cfg0.win 5).index t (1 : Fin 2) = 0
    ∧ (cfg0.win 6).index t (1 : Fin 3) = 0 ∧ (cfg0.win 7).index t (1 : Fin 3) = 0 ∧ (cfg0.win 8).index t (1 : Fin 2) = 0
    ∧ (cfg0.win 9).index t (1 : Fin 4) = t.val / 8 ∧ (cfg0.win 10).index t (1 : Fin 4) = t.val / 8 ∧ (cfg0.win 11).index t (1 : Fin 2) = 0 := by decide +kernel
theorem ix_2 : ∀ t : Fin cfg0.N, (cfg0.win 6).index t (2 : Fin 3) = 0 ∧ (cfg0.win 7).index t (2 : Fin 3) = 0
    ∧ (cfg0.win 9).index t (2 : Fin 4) = 0 ∧ (cfg0.win 10).index t (2 : Fin 4) = 0 ∧ (cfg0.win 9).index t (3 : Fin 4) = 0 ∧ (cfg0.win 10).index t (3 : Fin 4) = 0 := by decide +kernel

/-- Row `r` of the point's row block, -/
abbrev rowOf (t : Fin cfg0.N) (r : Fin 512) : Fin 4096 := ⟨(t.val % 8) * 512 + r.val, by omega⟩
/-- and column `q` of half `s` of its hidden blocks. -/
abbrev colOf (t : Fin cfg0.N) (s : Fin 2) (q : Fin 512) : Fin 4096 := ⟨(t.val / 8) * 1024 + s.val * 512 + q.val, by have := lt32 t; omega⟩

open Cert.Tiles (ext2 ext3 still move)

theorem xt_apply (t : Fin cfg0.N) (k : Fin 1024) (r : Fin 512) : bXt m c t (ix2 k r) = Mlp.Xn (cH m c) (cG m c) (rowOf t r) k :=
  (congrArg (V m c main_v21) (ext2 (still (ix_0 t).1) (move (ix_1 t).1))).trans ((arrays m c).1 k (rowOf t r))
theorem a_apply (t : Fin cfg0.N) (r : Fin 512) (s : Fin 2) (q : Fin 512) :
    bA m c t (ix2 r ⟨s.val * 512 + q.val, by omega⟩) = Mlp.A (cH m c) (cG m c) (cWu m c) (rowOf t r) (colOf t s q) :=
  (congrArg (V m c main_v22) (ext2 (move (ix_0 t).2.1) ((move (ix_1 t).2.1).trans (Nat.add_assoc _ _ _).symm))).trans ((arrays m c).2.1 (rowOf t r) (colOf t s q))
theorem h_apply (t : Fin cfg0.N) (ht : 24 ≤ t.val) (r : Fin 512) (k : Fin 1024) : bH m c t (ix2 r k) = cH m c (rowOf t r) k :=
  (congrArg (V m c main_arg0) (ext2 (move ((ix_0 t).2.2.1.trans (if_pos ht))) (still (ix_1 t).2.2.1))).trans (VH m c (rowOf t r) k)
theorem y_apply (t : Fin cfg0.N) (ht : 24 ≤ t.val) (r : Fin 512) (k : Fin 1024) : bY m c t (ix2 r k) = cY m c (rowOf t r) k :=
  (congrArg (V m c main_arg4) (ext2 (move ((ix_0 t).2.2.2.1.trans (if_pos ht))) (still (ix_1 t).2.2.2.1))).trans (VY m c (rowOf t r) k)
theorem yb_apply (t : Fin cfg0.N) (r : Fin 512) (k : Fin 1024) : bYb m c t (ix2 r k) = cY m c (rowOf t r) k :=
  (congrArg (V m c main_v23) (ext2 (move (ix_0 t).2.2.2.2.1) (still (ix_1 t).2.2.2.2.1))).trans ((arrays m c).2.2.1 (rowOf t r) k)
theorem g_apply (t : Fin cfg0.N) (o : Fin 1) (k : Fin 1024) : bG m c t (ix2 o k) = cG m c k :=
  (congrArg (V m c main_v24) (ext2 (still (ix_0 t).2.2.2.2.2.1) (still (ix_1 t).2.2.2.2.2.1))).trans ((arrays m c).2.2.2.1 o k)

/-- The pair's block `s` of the eight. -/
abbrev pairOf (t : Fin cfg0.N) (s : Fin 2) : Fin 8 := ⟨(t.val / 8) * 2 + s.val, by have := lt32 t; omega⟩
theorem pairOf_col (t : Fin cfg0.N) (s : Fin 2) (q : Fin 512) : (⟨(pairOf t s).val * 512 + q.val, by omega⟩ : Fin 4096) = colOf t s q :=
  Fin.ext (by show ((t.val / 8) * 2 + s.val) * 512 + q.val = (t.val / 8) * 1024 + s.val * 512 + q.val; omega)
theorem wu_apply (t : Fin cfg0.N) (s : Fin 2) (k : Fin 1024) (q : Fin 512) : bWu m c t (ix3 s k q) = cWu m c k (colOf t s q) :=
  ((congrArg (V m c main_v17) (ext3 (move (ix_0 t).2.2.2.2.2.2.1) (still (ix_1 t).2.2.2.2.2.2.1) (still (ix_2 t).1))).trans ((arrays m c).2.2.2.2.1 (pairOf t s) k q)).trans
    (congrArg (cWu m c k) (pairOf_col t s q))
theorem wd_apply (t : Fin cfg0.N) (s : Fin 2) (q : Fin 512) (k : Fin 1024) : bWd m c t (ix3 s q k) = cWd m c (colOf t s q) k :=
  ((congrArg (V m c main_v19) (ext3 (move (ix_0 t).2.2.2.2.2.2.2.1) (still (ix_1 t).2.2.2.2.2.2.2.1) (still (ix_2 t).2.1))).trans ((arrays m c).2.2.2.2.2 (pairOf t s) q k)).trans
    (congrArg (fun n => cWd m c n k) (pairOf_col t s q))

/-- The hidden gradient over the point's block is the mathematics' at the point's rows and columns. -/
theorem dE_block (t : Fin cfg0.N) (s : Fin 2) (r q : Fin 512) :
    dE (bYb m c t) (bA m c t) (bWd m c t) s r q = Mlp.Du (cH m c) (cY m c) (cWd m c) (cG m c) (cWu m c) (rowOf t r) (colOf t s q) := by
  unfold dE Mlp.Du
  rw [a_apply m c t r s q]
  congr 1
  exact Finset.sum_congr rfl fun k _ => by rw [yb_apply m c t r k, wd_apply m c t s q k]

end Cert.KernelIdeal.Body
-- ==== Proof.Totals.lean ====
module

public import proofs.«01_k».proof.Proof.Blocks
public import Idealize.ShloMosaic.Lib.Pointwise.Sums

@[expose] public section

set_option maxRecDepth 16384

noncomputable section

/-! # What the accumulators hold when they are written out: the whole sums -/

namespace Cert.KernelIdeal.Body

open Cert Cert.KernelIdeal Cert.KernelIdeal.Gen
open Idealize.ShloMosaic Idealize.ShloMosaic.TcCoe

variable (m : (ℓ : Loc nD τ sig) → Buf (Elt Ideal) ℓ) (c : Dev nD)

theorem pt_lt {n : ℕ} (h : n < 32) : (pt n).val = n := Nat.mod_eq_of_lt h

/-- A quantity cleared at the first of eight points and added to at each is the sum of what was added. -/
theorem run_sum (f g : ℕ → EReal) (b : ℕ) (h : ∀ i, i < 8 → f (b + i + 1) = (if i = 0 then 0 else f (b + i)) + g i) :
    ∀ i, i < 8 → f (b + i + 1) = ∑ i' ∈ Finset.range (i + 1), g i'
  | 0, _ => by rw [h 0 (by omega), if_pos rfl, zero_add, Finset.sum_range_one]
  | i + 1, hi => by
    rw [h (i + 1) hi, if_neg (by omega), Finset.sum_range_succ]
    exact congrArg (· + g (i + 1)) (run_sum f g b h i (by omega))

/-- The rows' 4096 are eight blocks of 512. -/
theorem sum_rows (f : Fin 4096 → EReal) : ∑ t, f t = ∑ i' ∈ Finset.range 8, ∑ r : Fin 512, f ⟨(i' % 8) * 512 + r.val, by omega⟩ := by
  rw [Fin.sum_univ_tiles 8 512 (by decide), Finset.sum_range]
  exact Finset.sum_congr rfl fun i _ => Finset.sum_congr rfl fun r _ => congrArg f (Fin.ext (by show i.val * 512 + r.val = (i.val % 8) * 512 + r.val; omega))

/-- The hidden columns' 4096 are four pairs of blocks of 512. -/
theorem sum_cols (f : Fin 4096 → EReal) :
    ∑ n, f n = ∑ j' ∈ Finset.range 4, ∑ s : Fin 2, ∑ q : Fin 512, f ⟨(j' % 4) * 1024 + s.val * 512 + q.val, by omega⟩ := by
  rw [Fin.sum_univ_tiles 4 1024 (by decide), Finset.sum_range]
  refine Finset.sum_congr rfl fun j _ => ?_
  rw [Fin.sum_univ_tiles 2 512 (by decide)]
  exact Finset.sum_congr rfl fun s _ => Finset.sum_congr rfl fun q _ =>
    congrArg f (Fin.ext (by show j.val * 1024 + (s.val * 512 + q.val) = (j.val % 4) * 1024 + s.val * 512 + q.val; omega))

/-- Column `q` of half `s` of pair `j`. -/
abbrev col (j : Fin 4) (s : Fin 2) (q : Fin 512) : Fin 4096 := ⟨j.val * 1024 + s.val * 512 + q.val, by omega⟩

theorem cond5_at (j i : ℕ) (hj : j < 4) (hi : i < 8) : k0_cond5 (grid0.coords (pt (8 * j + i))) = 1#1 ↔ i = 0 := by
  rw [hcond5, pt_lt (by omega)]; omega
theorem rowOf_at (j i : ℕ) (hj : j < 4) (hi : i < 8) (r : Fin 512) : rowOf (pt (8 * j + i)) r = ⟨(i % 8) * 512 + r.val, by omega⟩ :=
  Fin.ext (by show (pt (8 * j + i)).val % 8 * 512 + r.val = (i % 8) * 512 + r.val; rw [pt_lt (by omega)]; omega)
theorem colOf_at (j : Fin 4) (i : ℕ) (hi : i < 8) (s : Fin 2) (q : Fin 512) : colOf (pt (8 * j.val + i)) s q = col j s q :=
  Fin.ext (by show (pt (8 * j.val + i)).val / 8 * 1024 + s.val * 512 + q.val = j.val * 1024 + s.val * 512 + q.val; rw [pt_lt (by omega)]; omega)

/-- The up-projection's accumulator at the last row block of a column is its gradient there. -/
theorem uS_total (j : Fin 4) (s : Fin 2) (k : Fin 1024) (q : Fin 512) :
    uS m c (8 * j.val + 7 + 1) (ix3 s k q) = Mlp.Up (cH m c) (cY m c) (cWd m c) (cG m c) (cWu m c) k (col j s q) := by
  unfold Mlp.Up
  rw [sum_rows]
  refine run_sum (fun n => uS m c n (ix3 s k q)) _ (8 * j.val) (fun i hi => ?_) 7 (by omega)
  show uNext _ _ _ _ _ (uS m c (8 * j.val + i)) (ix3 s k q) = _
  rw [uNext_apply]
  have e : (k0_cond5 (grid0.coords (pt (8 * j.val + i))) = 1#1) = (i = 0) := propext (cond5_at j.val i j.isLt hi)
  simp only [e]
  refine congrArg _ (Finset.sum_congr rfl fun r _ => ?_)
  rw [xt_apply, dE_block, rowOf_at j.val i j.isLt hi, colOf_at j i hi]

/-- The down-projection's likewise. -/
theorem dS_total (j : Fin 4) (s : Fin 2) (q : Fin 512) (k : Fin 1024) :
    dS m c (8 * j.val + 7 + 1) (ix3 s q k) = Mlp.Down (cH m c) (cY m c) (cG m c) (cWu m c) (col j s q) k := by
  unfold Mlp.Down
  rw [sum_rows]
  refine run_sum (fun n => dS m c n (ix3 s q k)) _ (8 * j.val) (fun i hi => ?_) 7 (by omega)
  show dNext _ _ _ (dS m c (8 * j.val + i)) (ix3 s q k) = _
  rw [dNext_apply]
  have e : (k0_cond5 (grid0.coords (pt (8 * j.val + i))) = 1#1) = (i = 0) := propext (cond5_at j.val i j.isLt hi)
  simp only [e]
  refine congrArg _ (Finset.sum_congr rfl fun r _ => ?_)
  rw [a_apply, yb_apply, rowOf_at j.val i j.isLt hi, colOf_at j i hi]

/-! ## The rows -/

/-- A block of rows keeps what its own point left until its next one. -/
theorem blk_keep (j i : ℕ) (hj : j < 3) (hi : i < 8) : ∀ d, d < 8 → blk i hi (xS m c (8 * j + i + 1 + d)) = blk i hi (xS m c (8 * j + i + 1))
  | 0, _ => rfl
  | d + 1, hd => by
    refine Eq.trans ?_ (blk_keep j i hj hi d (by omega))
    show blk i hi (xNext (grid0.coords (pt (8 * j + i + 1 + d))) _ _ _ _ (xS m c (8 * j + i + 1 + d))) = _
    exact blk_xNext_ne _ _ _ _ _ _ i hi (by rw [pt_lt (by omega)]; omega)

/-- What pair `j` of hidden blocks adds to row `t`. -/
def part (t : Fin 4096) (k : Fin 1024) (j : ℕ) : EReal :=
  ∑ s : Fin 2, ∑ q : Fin 512, Mlp.Du (cH m c) (cY m c) (cWd m c) (cG m c) (cWu m c) t ⟨(j % 4) * 1024 + s.val * 512 + q.val, by omega⟩
    * cWu m c k ⟨(j % 4) * 1024 + s.val * 512 + q.val, by omega⟩

/-- One point's step on its own rows. -/
theorem xS_step (j : Fin 4) (i : ℕ) (hi : i < 8) (r : Fin 512) (k : Fin 1024) :
    blk i hi (xS m c (8 * j.val + i + 1)) (ix2 r k)
      = (if j.val = 0 then 0 else blk i hi (xS m c (8 * j.val + i)) (ix2 r k)) + part m c ⟨(i % 8) * 512 + r.val, by omega⟩ k j.val := by
  have hp : (pt (8 * j.val + i)).val = 8 * j.val + i := pt_lt (by omega)
  have hm : (pt (8 * j.val + i)).val % 8 = i := by rw [hp]; omega
  have hb : ∀ x : Vec Ideal S4096x1024 .f32, rows (grid0.coords (pt (8 * j.val + i))) x = blk i hi x := fun x => by
    rw [rows_eq]; congr 1
  have hx := rows_next_apply (bYb m c (pt (8 * j.val + i))) (bA m c (pt (8 * j.val + i))) (bWd m c (pt (8 * j.val + i))) (grid0.coords (pt (8 * j.val + i)))
    (bWu m c (pt (8 * j.val + i))) (xS m c (8 * j.val + i)) r k
  rw [hb, hb] at hx
  refine hx.trans ?_
  have e : (k0_cond2 (grid0.coords (pt (8 * j.val + i))) = 1#1) = (j.val = 0) := propext (by rw [hcond2, hp]; omega)
  simp only [e]
  refine congrArg _ (Finset.sum_congr rfl fun s _ => Finset.sum_congr rfl fun q _ => ?_)
  rw [dE_block, wu_apply, rowOf_at j.val i j.isLt hi, colOf_at j i hi]
  have ec : col j s q = ⟨(j.val % 4) * 1024 + s.val * 512 + q.val, by omega⟩ := Fin.ext (by show j.val * 1024 + s.val * 512 + q.val = (j.val % 4) * 1024 + s.val * 512 + q.val; omega)
  rw [ec]

/-- A row after pair `j`: the sum over the pairs so far. -/
theorem xS_sum (i : ℕ) (hi : i < 8) (r : Fin 512) (k : Fin 1024) : ∀ j (hj : j < 4),
    blk i hi (xS m c (8 * j + i + 1)) (ix2 r k) = ∑ j' ∈ Finset.range (j + 1), part m c ⟨(i % 8) * 512 + r.val, by omega⟩ k j'
  | 0, hj => by
    have h := xS_step m c ⟨0, hj⟩ i hi r k
    rw [if_pos rfl, zero_add] at h
    rw [Finset.sum_range_one]; exact h
  | j + 1, hj => by
    have h := xS_step m c ⟨j + 1, hj⟩ i hi r k
    rw [if_neg (Nat.succ_ne_zero j)] at h
    rw [h, Finset.sum_range_succ]
    refine congrArg (· + _) ?_
    have hk := blk_keep m c j i (by omega) hi 7 (by omega)
    have e : 8 * (j + 1) + i = 8 * j + i + 1 + 7 := by omega
    show blk i hi (xS m c (8 * (j + 1) + i)) (ix2 r k) = _
    rw [e, hk]
    exact xS_sum i hi r k j (by omega)

/-- In the last sweep a point's rows are the whole gradient of the normed input. -/
theorem rows_total (t : Fin cfg0.N) (ht : 24 ≤ t.val) (r : Fin 512) (k : Fin 1024) :
    rows (grid0.coords t) (xS m c (t.val + 1)) (ix2 r k) = Mlp.Dx (cH m c) (cY m c) (cWd m c) (cG m c) (cWu m c) (rowOf t r) k := by
  have h32 := lt32 t
  rw [rows_eq]
  have h := xS_sum m c (t.val % 8) (Nat.mod_lt _ (by decide)) r k 3 (by omega)
  have e : 8 * 3 + t.val % 8 + 1 = t.val + 1 := by omega
  rw [e] at h
  refine h.trans ?_
  unfold Mlp.Dx
  rw [sum_cols]
  refine Finset.sum_congr rfl fun j' _ => ?_
  have er : (⟨(t.val % 8 % 8) * 512 + r.val, by omega⟩ : Fin 4096) = rowOf t r := Fin.ext (by show (t.val % 8 % 8) * 512 + r.val = (t.val % 8) * 512 + r.val; omega)
  rw [er]; rfl

/-- A row's scale. -/
theorem scale_at (t : Fin cfg0.N) (ht : 24 ≤ t.val) (r : Fin 512) : k0_pay8 (bH m c t) (ix2 r (0 : Fin 1)) = Mlp.R (cH m c (rowOf t r)) := by
  rw [pay8_apply]
  simp only [h_apply m c t ht]
  rfl

/-- The input gradient's block at a point of the last sweep. -/
theorem xBlk_total (t : Fin cfg0.N) (ht : 24 ≤ t.val) (r : Fin 512) (k : Fin 1024) :
    xBlk m c t (ix2 r k) = Mlp.Out (cH m c) (cY m c) (cWd m c) (cG m c) (cWu m c) (rowOf t r) k := by
  unfold xBlk
  rw [pay10_apply, scale_at m c t ht]
  simp only [y_apply m c t ht, rows_total m c t ht, g_apply, h_apply m c t ht]
  rfl

/-- The norm's weight gradient at the last point. -/
theorem gS_total (o : Fin 1) (k : Fin 1024) : gS m c 32 (ix2 o k) = Mlp.Gam (cH m c) (cY m c) (cWd m c) (cG m c) (cWu m c) k := by
  unfold Mlp.Gam
  rw [sum_rows]
  refine run_sum (fun n => gS m c n (ix2 o k)) _ 24 (fun i hi => ?_) 7 (by omega)
  have hp : (pt (24 + i)).val = 24 + i := pt_lt (by omega)
  have ht : 24 ≤ (pt (24 + i)).val := by omega
  show gOut (grid0.coords (pt (24 + i))) _ (xS m c (24 + i + 1)) (gS m c (24 + i)) (ix2 o k) = _
  unfold gOut
  rw [if_pos ((hcond4 _).mpr ht), pay11_apply]
  have ex : xS m c (24 + i + 1) = xS m c ((pt (24 + i)).val + 1) := by rw [hp]
  rw [ex]
  simp only [rows_total m c _ ht, h_apply m c _ ht, scale_at m c _ ht]
  refine congrArg₂ (· + ·) ?_ (Finset.sum_congr rfl fun r _ => ?_)
  · have e : (k0_cond5 (grid0.coords (pt (24 + i))) = 1#1) = (i = 0) := propext (by rw [hcond5, hp]; omega)
    simp only [e]
    split
    · exact pay7_apply o k
    · rfl
  · rw [rowOf_at 3 i (by omega) hi]

end Cert.KernelIdeal.Body
-- ==== Proof.Body.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.State

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 8000000 in
/-- The body at any point, on any buffers: every buffer is left at the function of what it held that the definitions above name. -/
theorem run_body (c : Dev nD) (i : grid0.Coords) (arg2 : Memref sig .tc .vmem S1024x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (arg8 : Memref sig .tc .vmem S2x1024x512 .bf16) (harg8 : arg8.IsWhole) (arg9 : Memref sig .tc .vmem S2x512x1024 .bf16) (harg9 : arg9.IsWhole) (arg10 : Memref sig .tc .vmem S512x1024 .f32) (harg10 : arg10.IsWhole) (arg11 : Memref sig .tc .vmem S2x1x1024x512 .bf16) (harg11 : arg11.IsWhole) (arg12 : Memref sig .tc .vmem S2x1x512x1024 .bf16) (harg12 : arg12.IsWhole) (arg13 : Memref sig .tc .vmem S1x1024 .f32) (harg13 : arg13.IsWhole) (arg14 : Memref sig .tc .vmem S4096x1024 .f32) (harg14 : arg14.IsWhole) (arg15 : Memref sig .tc .vmem S2x1024x512 .f32) (harg15 : arg15.IsWhole) (arg16 : Memref sig .tc .vmem S2x512x1024 .f32) (harg16 : arg16.IsWhole)
    (xt : Vec F S1024x512 .bf16) (a : Vec F S512x1024 .bf16) (h1 : Vec F S512x1024 .f32) (dy : Vec F S512x1024 .f32) (dyb : Vec F S512x1024 .bf16) (g : Vec F S1x1024 .f32) (wu : Vec F S2x1024x512 .bf16) (wd : Vec F S2x512x1024 .bf16) (o10 : Vec F S512x1024 .f32) (o11 : Vec F S2x1x1024x512 .bf16) (o12 : Vec F S2x1x512x1024 .bf16) (o13 : Vec F S1x1024 .f32) (s14 : Vec F S4096x1024 .f32) (s15 : Vec F S2x1024x512 .f32) (s16 : Vec F S2x512x1024 .f32) (E : Set ℕ) (K : PUnit → sProp 𝕄) :
    iprop(owns (c : Thread nD τ) arg2 fullShare xt
        ∗ owns (c : Thread nD τ) arg3 fullShare a
        ∗ owns (c : Thread nD τ) arg4 fullShare h1
        ∗ owns (c : Thread nD τ) arg5 fullShare dy
        ∗ owns (c : Thread nD τ) arg6 fullShare dyb
        ∗ owns (c : Thread nD τ) arg7 fullShare g
        ∗ owns (c : Thread nD τ) arg8 fullShare wu
        ∗ owns (c : Thread nD τ) arg9 fullShare wd
        ∗ owns (c : Thread nD τ) arg10 fullShare o10
        ∗ owns (c : Thread nD τ) arg11 fullShare o11
        ∗ owns (c : Thread nD τ) arg12 fullShare o12
        ∗ owns (c : Thread nD τ) arg13 fullShare o13
        ∗ owns (c : Thread nD τ) arg14 fullShare s14
        ∗ owns (c : Thread nD τ) arg15 fullShare s15
        ∗ owns (c : Thread nD τ) arg16 fullShare s16
        ∗ (iprop(owns (c : Thread nD τ) arg2 fullShare xt
        ∗ owns (c : Thread nD τ) arg3 fullShare a
        ∗ owns (c : Thread nD τ) arg4 fullShare h1
        ∗ owns (c : Thread nD τ) arg5 fullShare dy
        ∗ owns (c : Thread nD τ) arg6 fullShare dyb
        ∗ owns (c : Thread nD τ) arg7 fullShare g
        ∗ owns (c : Thread nD τ) arg8 fullShare wu
        ∗ owns (c : Thread nD τ) arg9 fullShare wd
        ∗ owns (c : Thread nD τ) arg10 fullShare (xOut i h1 dy g (xNext i dyb a wd wu s14) o10)
        ∗ owns (c : Thread nD τ) arg11 fullShare (uOut i (uNext i xt dyb a wd s15) o11)
        ∗ owns (c : Thread nD τ) arg12 fullShare (dOut i (dNext i dyb a s16) o12)
        ∗ owns (c : Thread nD τ) arg13 fullShare (gOut i h1 (xNext i dyb a wd wu s14) o13)
        ∗ owns (c : Thread nD τ) arg14 fullShare (xNext i dyb a wd wu s14)
        ∗ owns (c : Thread nD τ) arg15 fullShare (uNext i xt dyb a wd s15)
        ∗ owns (c : Thread nD τ) arg16 fullShare (dNext i dyb a s16)) -∗ K ⟨⟩))
      ⊢ wp frame (wpE (defs₀ (F := F)) Variants.none c none) E (cc0_mlp_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mlp_bwd_eq_skeleton]; unfold cc0_mlp_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
    by_cases h2 : k0_cond2 i = 1#1 <;> by_cases h4 : k0_cond4 i = 1#1 <;>
    (simp only [h2, h4, dite_true, dite_false, if_true, if_false, readAt_window, readCov_window, View.read_writes_cons_put _ _ _ _ _ rfl, View.writes_nil,
       Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
       VecWindow.window_put_same, VecWindow.put_put_same, show k0_off1 i = k0_off2 i from rfl, window_off3, xOut, uOut, dOut, gOut, xNext, uNext, dNext, xReset, uReset, dReset, du0, du1, half0U, half1U, half0D, half1D, left, right, rows]
     all_goals first | rfl | exact congrArg (fun z => k0_pay11 h1 z _) (window_put_rows _ _ _ _) | exact congrArg (fun z => k0_pay10 h1 z g dy) (window_put_rows _ _ _ _))
  isplitl [H9]
  · iexists _; isplitr; swap; · iexact H9
    ipureintro
    delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
    by_cases h3 : k0_cond3 i = 1#1 <;> by_cases h5 : k0_cond5 i = 1#1 <;>
    (have h8 := h5; simp only [show k0_cond5 i = run_body.sl.v8 i from rfl] at h8
     simp only [h3, h5, h8, dite_true, dite_false, if_true, if_false, readAt_window, readCov_window, View.read_writes_cons_put _ _ _ _ _ rfl, View.writes_nil,
       Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
       VecWindow.window_put_same, VecWindow.put_put_same, show k0_off1 i = k0_off2 i from rfl, window_off3, xOut, uOut, dOut, gOut, xNext, uNext, dNext, xReset, uReset, dReset, du0, du1, half0U, half1U, half0D, half1D, left, right, rows]
     all_goals first | rfl | exact congrArg (fun z => k0_pay11 h1 z _) (window_put_rows _ _ _ _) | exact congrArg (fun z => k0_pay10 h1 z g dy) (window_put_rows _ _ _ _))
  isplitl [H10]
  · iexists _; isplitr; swap; · iexact H10
    ipureintro
    delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
    by_cases h3 : k0_cond3 i = 1#1 <;> by_cases h5 : k0_cond5 i = 1#1 <;>
    (have h8 := h5; simp only [show k0_cond5 i = run_body.sl.v8 i from rfl] at h8
     simp only [h3, h5, h8, dite_true, dite_false, if_true, if_false, readAt_window, readCov_window, View.read_writes_cons_put _ _ _ _ _ rfl, View.writes_nil,
       Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
       VecWindow.window_put_same, VecWindow.put_put_same, show k0_off1 i = k0_off2 i from rfl, window_off3, xOut, uOut, dOut, gOut, xNext, uNext, dNext, xReset, uReset, dReset, du0, du1, half0U, half1U, half0D, half1D, left, right, rows]
     all_goals first | rfl | exact congrArg (fun z => k0_pay11 h1 z _) (window_put_rows _ _ _ _) | exact congrArg (fun z => k0_pay10 h1 z g dy) (window_put_rows _ _ _ _))
  isplitl [H11]
  · iexists _; isplitr; swap; · iexact H11
    ipureintro
    delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
    by_cases h2 : k0_cond2 i = 1#1 <;> by_cases h4 : k0_cond4 i = 1#1 <;> by_cases h5 : k0_cond5 i = 1#1 <;>
    (have h8 := h5; simp only [show k0_cond5 i = run_body.sl.v8 i from rfl] at h8
     simp only [h2, h4, h5, h8, dite_true, dite_false, if_true, if_false, readAt_window, readCov_window, View.read_writes_cons_put _ _ _ _ _ rfl, View.writes_nil,
       Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
       VecWindow.window_put_same, VecWindow.put_put_same, show k0_off1 i = k0_off2 i from rfl, window_off3, xOut, uOut, dOut, gOut, xNext, uNext, dNext, xReset, uReset, dReset, du0, du1, half0U, half1U, half0D, half1D, left, right, rows]
     all_goals first | rfl | exact congrArg (fun z => k0_pay11 h1 z _) (window_put_rows _ _ _ _) | exact congrArg (fun z => k0_pay10 h1 z g dy) (window_put_rows _ _ _ _))
  isplitl [H12]
  · iexists _; isplitr; swap; · iexact H12
    ipureintro
    delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
    by_cases h2 : k0_cond2 i = 1#1 <;>
    (simp only [h2, dite_true, dite_false, if_true, if_false, readAt_window, readCov_window, View.read_writes_cons_put _ _ _ _ _ rfl, View.writes_nil,
       Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
       VecWindow.window_put_same, VecWindow.put_put_same, show k0_off1 i = k0_off2 i from rfl, window_off3, xOut, uOut, dOut, gOut, xNext, uNext, dNext, xReset, uReset, dReset, du0, du1, half0U, half1U, half0D, half1D, left, right, rows]
     all_goals first | rfl | exact congrArg (fun z => k0_pay11 h1 z _) (window_put_rows _ _ _ _) | exact congrArg (fun z => k0_pay10 h1 z g dy) (window_put_rows _ _ _ _))
  isplitl [H13]
  · iexists _; isplitr; swap; · iexact H13
    ipureintro
    delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
    by_cases h4 : k0_cond4 i = 1#1 <;> by_cases h5 : k0_cond5 i = 1#1 <;>
    (have h8 := h5; simp only [show k0_cond5 i = run_body.sl.v8 i from rfl] at h8
     simp only [h4, h5, h8, dite_true, dite_false, if_true, if_false, readAt_window, readCov_window, View.read_writes_cons_put _ _ _ _ _ rfl, View.writes_nil,
       Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
       VecWindow.window_put_same, VecWindow.put_put_same, show k0_off1 i = k0_off2 i from rfl, window_off3, xOut, uOut, dOut, gOut, xNext, uNext, dNext, xReset, uReset, dReset, du0, du1, half0U, half1U, half0D, half1D, left, right, rows]
     all_goals first | rfl | exact congrArg (fun z => k0_pay11 h1 z _) (window_put_rows _ _ _ _) | exact congrArg (fun z => k0_pay10 h1 z g dy) (window_put_rows _ _ _ _))
  iexists _; isplitr; swap; · iexact H14
  ipureintro
  delta run_body.sl.v96 run_body.sl.r_6 run_body.sl.v120 run_body.sl.v97 run_body.sl.v90 run_body.sl.v53 run_body.sl.H14_2 run_body.sl.H12_1 run_body.sl.r_5 run_body.sl.r_3 run_body.sl.r_2 run_body.sl.v102 run_body.sl.v24 run_body.sl.r_1 run_body.sl.v72 run_body.sl.v31 run_body.sl.r run_body.sl.v60 run_body.sl.r_4 run_body.sl.v84 run_body.sl.H13_2
  by_cases h4 : k0_cond4 i = 1#1 <;> by_cases h5 : k0_cond5 i = 1#1 <;>
  (have h8 := h5; simp only [show k0_cond5 i = run_body.sl.v8 i from rfl] at h8
   simp only [h4, h5, h8, dite_true, dite_false, if_true, if_false, readAt_window, readCov_window, View.read_writes_cons_put _ _ _ _ _ rfl, View.writes_nil,
     Memref.IsWhole.read_unread, window_S1024x512, put_S1024x512, window_S512x1024, put_S512x1024, window_S1x1024, put_S1x1024, window_S2x1024x512, put_S2x1024x512, window_S2x512x1024, put_S2x512x1024, window_put_S2x1024x512, window_put'_S2x1024x512, window_put_S2x512x1024, window_put'_S2x512x1024,
     VecWindow.window_put_same, VecWindow.put_put_same, show k0_off1 i = k0_off2 i from rfl, window_off3, xOut, uOut, dOut, gOut, xNext, uNext, dNext, xReset, uReset, dReset, du0, du1, half0U, half1U, half0D, half1D, left, right, rows]
   all_goals first | rfl | exact congrArg (fun z => k0_pay11 h1 z _) (window_put_rows _ _ _ _) | exact congrArg (fun z => k0_pay10 h1 z g dy) (window_put_rows _ _ _ _))

end Cert.KernelIdeal.Body
-- ==== Proof.Region.lean ====
module

public import proofs.«01_k».proof.Proof.Sweep
public import proofs.«01_k».proof.Proof.Body
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators. -/
abbrev sc0 : Memref sig .tc .vmem S4096x1024 .f32 := Memref.whole cc0_scratch0
abbrev sc1 : Memref sig .tc .vmem S2x1024x512 .f32 := Memref.whole cc0_scratch1
abbrev sc2 : Memref sig .tc .vmem S2x512x1024 .f32 := Memref.whole cc0_scratch2

/-- Between the points: the accumulators hold the sums so far (`Agree`, `uS`, `dS`; before the first point anything), the generator register is at some state. -/
def Inv (c : Dev nD) (n : ℕ) : sProp 𝕄 :=
  iprop(((∃ s, ⌜Agree m c n s⌝ ∗ owns (c : Thread nD τ) sc0 fullShare s)
      ∗ (∃ s, ⌜n ≠ 0 → s = uS m c n⌝ ∗ owns (c : Thread nD τ) sc1 fullShare s)
      ∗ (∃ s, ⌜n ≠ 0 → s = dS m c n⌝ ∗ owns (c : Thread nD τ) sc2 fullShare s))
    ∗ ∃ r, prngReg c r)

theorem rest_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d)) ∗ ∃ r, prngReg c r) := by
  unfold Pipeline.ΦA; rw [scopedRest0_eq]; simp only [sc0, sc1, sc2, owns_whole]; try rfl

theorem Inv_of_rest (c : Dev nD) : (Pipeline.ΦA spec0 c : sProp 𝕄) ⊢ Inv m c 0 := by
  rw [rest_eq]; unfold Inv
  iintro ⟨⟨⟨%d0, H0⟩, ⟨%d1, H1⟩, ⟨%d2, H2⟩⟩, Hg⟩
  isplitl [H0 H1 H2]
  · isplitl [H0]
    · iexists d0; isplitr; · ipureintro; exact fun b hb h => absurd h (Nat.not_lt_zero _)
      iexact H0
    isplitl [H1]
    · iexists d1; isplitr; · ipureintro; exact fun h => absurd rfl h
      iexact H1
    iexists d2; isplitr; · ipureintro; exact fun h => absurd rfl h
    iexact H2
  iexact Hg

theorem rest_of_Inv (c : Dev nD) (n : ℕ) : Inv m c n ⊢ (Pipeline.ΦA spec0 c : sProp 𝕄) := by
  rw [rest_eq]; unfold Inv
  iintro ⟨⟨⟨%d0, %h0, H0⟩, ⟨%d1, %h1, H1⟩, ⟨%d2, %h2, H2⟩⟩, Hg⟩
  isplitl [H0 H1 H2]
  · isplitl [H0]
    · iexists d0; iexact H0
    isplitl [H1]
    · iexists d1; iexact H1
    iexists d2; iexact H2
  iexact Hg

/-- The proof data: the arrays as the region finds them, each input's buffer at its block, the outputs' at the accumulated sums, `Inv` between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => xBlk m c t
    | ⟨9, _⟩ => uBlk (uS m c (t.val + 1))
    | ⟨10, _⟩ => dBlk (dS m c (t.val + 1))
    | ⟨11, _⟩ => gS m c (t.val + 1)
    | ⟨_ + 12, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = xBlk m c t := by dsimp only [dats]
theorem after_9 (c : Dev nD) (t : Fin cfg0.N) : (dats m 0 c).after 9 t = uBlk (uS m c (t.val + 1)) := by dsimp only [dats]
theorem after_10 (c : Dev nD) (t : Fin cfg0.N) : (dats m 0 c).after 10 t = dBlk (dS m c (t.val + 1)) := by dsimp only [dats]
theorem after_11 (c : Dev nD) (t : Fin cfg0.N) : (dats m 0 c).after 11 t = gS m c (t.val + 1) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## Idle points -/

theorem idle8 (t : Fin cfg0.N) : cfg0.idle 8 (cfg0.grid.coords t) = false ↔ k0_cond4 (grid0.coords t) = 1#1 := by
  show (!(k0_cond4 (grid0.coords t) == 1#1)) = false ↔ _
  simp
theorem idle9 (t : Fin cfg0.N) : cfg0.idle 9 (cfg0.grid.coords t) = false ↔ k0_cond3 (grid0.coords t) = 1#1 := by
  show (!(k0_cond3 (grid0.coords t) == 1#1)) = false ↔ _
  simp
theorem idle10 (t : Fin cfg0.N) : cfg0.idle 10 (cfg0.grid.coords t) = false ↔ k0_cond3 (grid0.coords t) = 1#1 := by
  show (!(k0_cond3 (grid0.coords t) == 1#1)) = false ↔ _
  simp
theorem idle11 : ∀ t : Fin cfg0.N, cfg0.idle 11 (cfg0.grid.coords t) = false ↔ k0_cond4 (grid0.coords t) = 1#1 := by decide +kernel

/-- The norm's weight gradient stays in its buffer through the last sweep. -/
theorem before_11 (c : Dev nD) (t : Fin cfg0.N) (ht : 24 < t.val) (d) : (dats m 0 c).before 11 t d = gS m c t.val := by
  have hN : t.val < 32 := lt_of_lt_of_eq t.isLt N_0
  rw [Dat.before_of_pos _ _ _ (by omega) (by rfl)]
  have hf : (cfg0.win 11).flush ⟨t.val - 1, Nat.lt_of_le_of_lt (Nat.sub_le _ _) t.isLt⟩ = false := by
    rw [Bool.eq_false_iff]; intro h; have := (flush0_11 _).mp h; dsimp only at this; omega
  have hi : cfg0.idle 11 (cfg0.grid.coords ⟨t.val - 1, Nat.lt_of_le_of_lt (Nat.sub_le _ _) t.isLt⟩) = false :=
    (idle11 _).mpr ((hcond4 _).mpr (by dsimp only; omega))
  rw [hf, if_neg Bool.false_ne_true]
  unfold Dat.left
  rw [hi]
  show (dats m 0 c).kept 11 _ d = _
  unfold Dat.kept
  rw [Pipeline.fill_of_clip_none 11 _ (fun _ => rfl) d ((dats m 0 c).after 11 _), Window.fill_cut, after_11]
  show gS m c (t.val - 1 + 1) = _
  rw [Nat.sub_add_cancel (by omega)]

/-- A window's buffer is left as the proof data says: at `after` where the window is live, as it was found where it is idle. -/
theorem leaves_of {c : Dev nD} (dat : Dat τ (Elt F) Unit ℕ (UR sig nD τ) ℕ cfg0 c) (w : Fin cfg0.W) (t : Fin cfg0.N) (d X : (cfg0.win w).block.Idx → Elt F (cfg0.win w).elt)
    (h1 : cfg0.idle w (cfg0.grid.coords t) = false → X = dat.after w t)
    (h2 : ¬ cfg0.idle w (cfg0.grid.coords t) = false → (cfg0.win w).flush t = false ∧ X = dat.before w t d) :
    owns (c : Thread nD τ) ((cfg0.win w).stage (cfg0.slots t w)) fullShare X ⊢ (dat.leavesExact w t : sProp 𝕄) := by
  unfold Dat.leavesExact
  cases hi : cfg0.idle w (cfg0.grid.coords t)
  · rw [h1 hi]
  · obtain ⟨hf, hx⟩ := h2 (by rw [hi]; exact Bool.noConfusion)
    rw [hf, hx]; iintro H; iexists d; iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t ∗ (dats m 0 c).leavesExact 9 t ∗ (dats m 0 c).leavesExact 10 t ∗ (dats m 0 c).leavesExact 11 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7,
    show (dats m 0 c).Φ t.succ = Inv m c (t.val + 1) from rfl, show (dats m 0 c).Φ t.castSucc = Inv m c t.val from rfl]
  unfold Inv
  iintro ⟨⟨⟨⟨%s0, %hs0, S0⟩, ⟨%s1, %hs1, S1⟩, ⟨%s2, %hs2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_body c (grid0.coords t) _ _ _ _ _ _ _ _ _ _ _ _ _ _ _ _ _ _ _ _ _ _ _ _ _ _ _ _ _ _
    (bXt m c t) (bA m c t) (bH m c t) (bY m c t) (bYb m c t) (bG m c t) (bWu m c t) (bWd m c t)
    ((dats m 0 c).before 8 t d8) ((dats m 0 c).before 9 t d9) ((dats m 0 c).before 10 t d10) ((dats m 0 c).before 11 t d11) s0 s1 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  iintro ⟨H0, H1, H2, H3, H4, H5, H6, H7, H8, H9, H10, H11, S0, S1, S2⟩
  rw [uNext_found m c t s1 hs1, dNext_found m c t s2 hs2]
  isplitl [S0 S1 S2 Hg]
  · isplitl [S0 S1 S2]
    · isplitl [S0]
      · iexists _; isplitr; · ipureintro; exact agree_succ m c t s0 hs0
        iexact S0
      isplitl [S1]
      · iexists _; isplitr; · ipureintro; exact fun _ => rfl
        iexact S1
      iexists _; isplitr; · ipureintro; exact fun _ => rfl
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_of (dats m 0 c) 8 t d8 (xOut (grid0.coords t) (bH m c t) (bY m c t) (bG m c t)
        (xNext (grid0.coords t) (bYb m c t) (bA m c t) (bWd m c t) (bWu m c t) s0) ((dats m 0 c).before 8 t d8)) (fun h => by
        rw [after_8]; unfold xOut xBlk; rw [if_pos ((idle8 t).mp h), xNext_found m c t s0 hs0])
      (fun h => ⟨by
        rw [Bool.eq_false_iff]; intro hf; exact h ((idle8 t).mpr ((hcond4 t).mpr ((flush8 t).mp hf))), by
        unfold xOut; rw [if_neg (fun h4 => h ((idle8 t).mpr h4))]⟩))
    iexact H8
  isplitl [H9]
  · iapply (leaves_of (dats m 0 c) 9 t d9 (uOut (grid0.coords t) (uS m c (t.val + 1)) ((dats m 0 c).before 9 t d9)) (fun h => by rw [after_9]; exact uOut_last _ ((idle9 t).mp h) _ _)
      (fun h => ⟨by
        rw [Bool.eq_false_iff]; intro hf; exact h ((idle9 t).mpr ((hcond3 t).mpr ((flush0_9 t).mp hf))), by
        unfold uOut; rw [if_neg (fun h4 => h ((idle9 t).mpr h4))]⟩))
    iexact H9
  isplitl [H10]
  · iapply (leaves_of (dats m 0 c) 10 t d10 (dOut (grid0.coords t) (dS m c (t.val + 1)) ((dats m 0 c).before 10 t d10)) (fun h => by rw [after_10]; exact dOut_last _ ((idle10 t).mp h) _ _)
      (fun h => ⟨by
        rw [Bool.eq_false_iff]; intro hf; exact h ((idle10 t).mpr ((hcond3 t).mpr ((flush0_10 t).mp hf))), by
        unfold dOut; rw [if_neg (fun h4 => h ((idle10 t).mpr h4))]⟩))
    iexact H10
  iapply (leaves_of (dats m 0 c) 11 t d11 (gOut (grid0.coords t) (bH m c t)
      (xNext (grid0.coords t) (bYb m c t) (bA m c t) (bWd m c t) (bWu m c t) s0) ((dats m 0 c).before 11 t d11)) (fun h => by
      rw [after_11]
      have h4 := (idle11 t).mp h
      exact gOut_found m c t s0 hs0 _ h4 (fun hne => before_11 m c t (by have := (hcond4 t).mp h4; omega) d11))
    (fun h => ⟨by
      rw [Bool.eq_false_iff]; intro hf; exact h ((idle11 t).mpr ((hcond4 t).mpr (by have := (flush0_11 t).mp hf; omega))), by
      unfold gOut; rw [if_neg (fun h4 => h ((idle11 t).mpr h4))]⟩))
  iexact H11

/-- The body table's row at a point's slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_eq (c : Dev nD) : ∀ w, (dats (F := F) m 0 c).share w = fullShare := by
  intro w; fin_cases w <;> rfl

set_option backward.isDefEq.respectTransparency.types false in
/-- The launch: every final state holds each window's array at what the write-backs left, every other unscoped buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => share_eq m c) (howed := fun _ _ => rfl) (V := V m) (hmain := hmain m Variants.none)
    (hA := A_eq m) (hin := Inv_of_rest m) (hout := fun c => rest_of_Inv m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.Finals.lean ====
module

public import proofs.«01_k».proof.Proof.Totals
public import proofs.«01_k».proof.Proof.Region

@[expose] public section

set_option maxRecDepth 16384

noncomputable section

/-! # The result arrays after the run -/

namespace Cert.KernelIdeal.Body

open Cert Cert.KernelIdeal Cert.KernelIdeal.Gen
open Idealize.ShloMosaic Idealize.ShloMosaic.TcCoe

open Cert.Tiles (ext2 ext4 all2 all4 mem_of still move)

variable (m : (ℓ : Loc nD τ sig) → Buf (Elt Ideal) ℓ) (c : Dev nD)

/-- The layer's input gradient, -/
def G8 : S4096x1024.Idx → EReal := fun i => Mlp.Out (cH m c) (cY m c) (cWd m c) (cG m c) (cWu m c) (i 0) (i 1)
/-- the up-projection's, in pairs of column blocks, -/
def G9 : S2x4x1024x512.Idx → EReal := fun i => Mlp.Up (cH m c) (cY m c) (cWd m c) (cG m c) (cWu m c) (i 2) (col (i 1) (i 0) (i 3))
/-- the down-projection's, in pairs of row blocks, -/
def G10 : S2x4x512x1024.Idx → EReal := fun i => Mlp.Down (cH m c) (cY m c) (cG m c) (cWu m c) (col (i 1) (i 0) (i 2)) (i 3)
/-- and the norm's weight gradient. -/
def G11 : S1x1024.Idx → EReal := fun i => Mlp.Gam (cH m c) (cY m c) (cWd m c) (cG m c) (cWu m c) (i 1)

theorem emb_8 (t : Fin cfg0.N) (ht : 24 ≤ t.val) (r : Fin 512) (k : Fin 1024) :
    ((cfg0.win 8).blk t).view.emb (ix2 r k) = (ix2 (rowOf t r) k : S4096x1024.Idx) :=
  ext2 (move ((ix_0 t).2.2.2.2.2.2.2.2.1.trans (if_pos ht))) (still (ix_1 t).2.2.2.2.2.2.2.2.1)
/-- The hidden block pair of a point. -/
abbrev blockOf (t : Fin cfg0.N) : Fin 4 := ⟨t.val / 8, by have := lt32 t; omega⟩
theorem one_elem (n : ℕ) (z : Fin 1) : n * 1 + z.val = n := by omega
theorem emb_9 (t : Fin cfg0.N) (s : Fin 2) (z : Fin 1) (k : Fin 1024) (q : Fin 512) :
    ((cfg0.win 9).blk t).view.emb (ix4 s z k q) = (ix4 s (blockOf t) k q : S2x4x1024x512.Idx) :=
  ext4 (still (ix_0 t).2.2.2.2.2.2.2.2.2.1) ((move (ix_1 t).2.2.2.2.2.2.2.2.2.1).trans (one_elem _ z)) (still (ix_2 t).2.2.1) (still (ix_2 t).2.2.2.2.1)
theorem emb_10 (t : Fin cfg0.N) (s : Fin 2) (z : Fin 1) (q : Fin 512) (k : Fin 1024) :
    ((cfg0.win 10).blk t).view.emb (ix4 s z q k) = (ix4 s (blockOf t) q k : S2x4x512x1024.Idx) :=
  ext4 (still (ix_0 t).2.2.2.2.2.2.2.2.2.2.1) ((move (ix_1 t).2.2.2.2.2.2.2.2.2.2.1).trans (one_elem _ z)) (still (ix_2 t).2.2.2.1) (still (ix_2 t).2.2.2.2.2)
theorem emb_11 (t : Fin cfg0.N) (o : Fin 1) (k : Fin 1024) : ((cfg0.win 11).blk t).view.emb (ix2 o k) = (ix2 o k : S1x1024.Idx) :=
  ext2 (still (ix_0 t).2.2.2.2.2.2.2.2.2.2.2) (still (ix_1 t).2.2.2.2.2.2.2.2.2.2.2)

/-- A sweep's last point, in the points counted. -/
theorem sweep_end (t : Fin cfg0.N) (ht : t.val % 8 = 7) : t.val + 1 = 8 * (blockOf t).val + 7 + 1 := by
  show t.val + 1 = 8 * (t.val / 8) + 7 + 1; omega

theorem flushed_8 (t : Fin cfg0.N) (hf : (cfg0.win 8).flush t = true) : (dats m 0 c).flushed 8 t = ((cfg0.win 8).blk t).view.read (Elt Ideal) (G8 m c) :=
  (congrArg ((cfg0.win 8).cut (grid0.coords t)) (after_8 m c t)).trans
    (funext (all2 fun r k => (xBlk_total m c t ((flush8 t).mp hf) r k).trans (congrArg (G8 m c) (emb_8 t ((flush8 t).mp hf) r k)).symm))
theorem flushed_9 (t : Fin cfg0.N) (hf : (cfg0.win 9).flush t = true) : (dats m 0 c).flushed 9 t = ((cfg0.win 9).blk t).view.read (Elt Ideal) (G9 m c) :=
  (congrArg ((cfg0.win 9).cut (grid0.coords t)) (after_9 m c t)).trans
    (funext (all4 fun s z k q => ((uBlk_apply _ s z k q).trans ((congrArg (fun n => uS m c n (ix3 s k q)) (sweep_end t ((flush0_9 t).mp hf))).trans (uS_total m c (blockOf t) s k q))).trans
      (congrArg (G9 m c) (emb_9 t s z k q)).symm))
theorem flushed_10 (t : Fin cfg0.N) (hf : (cfg0.win 10).flush t = true) : (dats m 0 c).flushed 10 t = ((cfg0.win 10).blk t).view.read (Elt Ideal) (G10 m c) :=
  (congrArg ((cfg0.win 10).cut (grid0.coords t)) (after_10 m c t)).trans
    (funext (all4 fun s z q k => ((dBlk_apply _ s z q k).trans ((congrArg (fun n => dS m c n (ix3 s q k)) (sweep_end t ((flush0_10 t).mp hf))).trans (dS_total m c (blockOf t) s q k))).trans
      (congrArg (G10 m c) (emb_10 t s z q k)).symm))
theorem flushed_11 (t : Fin cfg0.N) (hf : (cfg0.win 11).flush t = true) : (dats m 0 c).flushed 11 t = ((cfg0.win 11).blk t).view.read (Elt Ideal) (G11 m c) :=
  (congrArg ((cfg0.win 11).cut (grid0.coords t)) (after_11 m c t)).trans
    (funext (all2 fun o k => ((congrArg (fun n => gS m c n (ix2 o k)) (show t.val + 1 = 32 by have := (flush0_11 t).mp hf; have := lt32 t; omega)).trans (gS_total m c o k)).trans
      (congrArg (G11 m c) (emb_11 t o k)).symm))

/-- The point of the last sweep row `t` is finished at, -/
abbrev rowEnd (t : Fin 4096) : Fin cfg0.N := pt (24 + t.val / 512)
theorem rowEnd_val (t : Fin 4096) : (rowEnd t).val = 24 + t.val / 512 := pt_lt (by omega)
theorem rowEnd_row (t : Fin 4096) : rowOf (rowEnd t) ⟨t.val % 512, by omega⟩ = t :=
  Fin.ext (by show (rowEnd t).val % 8 * 512 + t.val % 512 = t.val; rw [rowEnd_val]; omega)
/-- and the point hidden block pair `j` is. -/
abbrev sweepEnd (j : Fin 4) : Fin cfg0.N := pt (8 * j.val + 7)
theorem sweepEnd_val (j : Fin 4) : (sweepEnd j).val = 8 * j.val + 7 := pt_lt (by omega)
theorem sweepEnd_block (j : Fin 4) : blockOf (sweepEnd j) = j := Fin.ext (by show (sweepEnd j).val / 8 = j.val; rw [sweepEnd_val]; omega)
theorem sweepEnd_mod (j : Fin 4) : (sweepEnd j).val % 8 = 7 := by rw [sweepEnd_val]; omega

theorem final_8 : (dats m 0 c).arrAt 8 cfg0.N = G8 m c :=
  (dats m 0 c).arrAt_eq_of_cover 8 (G8 m c) (flushed_8 m c) (all2 fun t k =>
    have h : 24 ≤ (rowEnd t).val := by rw [rowEnd_val]; omega
    ⟨rowEnd t, (flush8 _).mpr h, mem_of _ ((emb_8 (rowEnd t) h ⟨t.val % 512, by omega⟩ k).trans (congrArg (ix2 · k) (rowEnd_row t)))⟩)
theorem final_9 : (dats m 0 c).arrAt 9 cfg0.N = G9 m c :=
  (dats m 0 c).arrAt_eq_of_cover 9 (G9 m c) (flushed_9 m c) (all4 fun s j k q =>
    ⟨sweepEnd j, (flush0_9 _).mpr (sweepEnd_mod j), mem_of _ ((emb_9 (sweepEnd j) s 0 k q).trans (congrArg (ix4 s · k q) (sweepEnd_block j)))⟩)
theorem final_10 : (dats m 0 c).arrAt 10 cfg0.N = G10 m c :=
  (dats m 0 c).arrAt_eq_of_cover 10 (G10 m c) (flushed_10 m c) (all4 fun s j q k =>
    ⟨sweepEnd j, (flush0_10 _).mpr (sweepEnd_mod j), mem_of _ ((emb_10 (sweepEnd j) s 0 q k).trans (congrArg (ix4 s · q k) (sweepEnd_block j)))⟩)
theorem final_11 : (dats m 0 c).arrAt 11 cfg0.N = G11 m c :=
  (dats m 0 c).arrAt_eq_of_cover 11 (G11 m c) (flushed_11 m c) (all2 fun o k =>
    ⟨pt 31, (flush0_11 _).mpr (by rw [pt_lt (by omega)]), mem_of _ (emb_11 (pt 31) o k)⟩)

end Cert.KernelIdeal.Body
-- ==== Proof.Transfer.lean ====
module

public import proofs.«01_k».proof.Proof.Gen.Kernel
public import proofs.«01_k».proof.Proof.Gen.KernelIdeal
public import Idealize.ShloMosaic.Adequacy

@[expose] public section

set_option maxRecDepth 16384

/-! # The kernel and its idealization are one text -/

namespace Cert.Transfer

open Idealize.ShloMosaic

variable {F : FTy → Type} [FloatOps F]

theorem body_eq : Cert.Kernel.cc0_mlp_bwd (F := F) = Cert.KernelIdeal.cc0_mlp_bwd := rfl

set_option maxHeartbeats 4000000 in
theorem table_eq : Cert.Kernel.defs₀ (F := F) = Cert.KernelIdeal.defs₀ := by
  unfold Cert.Kernel.defs₀ Cert.KernelIdeal.defs₀
  rw [body_eq]
  congr 1
  funext l x
  match l, x with
  | 0, (t, s) => rfl
  | ⟨n + 1, h⟩, _ => exact absurd h (Nat.not_lt.2 (Nat.le_add_left _ _))

theorem defs_eq : Cert.Kernel.defs (F := F) = Cert.KernelIdeal.defs := by
  unfold Cert.Kernel.defs Cert.KernelIdeal.defs
  rw [table_eq]; rfl

theorem main_eq : Cert.Kernel.main (F := F) = Cert.KernelIdeal.main := rfl

end Cert.Transfer
-- ==== Proof.RefTerms.lean ====
module

public import proofs.«01_k».proof.Proof.Gen.ReferenceIdeal.Run
public import proofs.«01_k».proof.Proof.Math

@[expose] public section

set_option maxRecDepth 16384

noncomputable section

namespace Cert.ReferenceIdeal.Val

open Cert Cert.ReferenceIdeal Cert.ReferenceIdeal.Gen Cert.ReferenceIdeal.Value
open Idealize.ShloMosaic Idealize.ShloMosaic.TcCoe

/- The reference's intermediate arrays, named, at the extended reals. `h` is the layer's input, `g` the norm's weight, `wu` and `wd` the two projections,
   `y` the gradient of the layer's output. -/

/-- The mean square of a row, plus the norm's constant, -/
def tV (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- the row's scale, -/
def tR (h : FVec Ideal S4096x1024 .f32) : FVec Ideal S4096x1 .f32 := Host.rsqrt (tV h)
/-- the row scaled, -/
def tXh (h : FVec Ideal S4096x1024 .f32) : FVec Ideal S4096x1024 .f32 := mulf h (broadcastInDim S4096x1024 ![0, 1] bcast_S4096x1_S4096x1024_0_1 (tR h))
/-- the weight, one row of it for each row of the input, -/
def tG (g : FVec Ideal S1024 .f32) : FVec Ideal S4096x1024 .f32 :=
  broadcastInDim S4096x1024 ![0, 1] bcast_S1x1024_S4096x1024_0_1 (broadcastInDim S1x1024 ![1] bcast_S1024_S1x1024_1 g)
/-- the normed input, -/
def tXn (h : FVec Ideal S4096x1024 .f32) (g : FVec Ideal S1024 .f32) : FVec Ideal S4096x1024 .f32 := mulf (tXh h) (tG g)
def tZero : FVec Ideal S4096x4096 .f32 := broadcastInDim S4096x4096 ![] bcast_S_S4096x4096 (constant S_ .f32 0x00000000#32)
/-- what the activation is taken of, -/
def tP (x : FVec Ideal S4096x1024 .f32) (wu : FVec Ideal S1024x4096 .f32) : FVec Ideal S4096x4096 .f32 :=
  Host.dotGeneral dot_S4096x1024_S1024x4096_S4096x4096_1_0_0_1_n_n none x wu
/-- the activation before it is squared, -/
def tA (p : FVec Ideal S4096x4096 .f32) : FVec Ideal S4096x4096 .f32 := maximumf p tZero
/-- the output's gradient through the down-projection, -/
def tDw (y : FVec Ideal S4096x1024 .f32) (wd : FVec Ideal S4096x1024 .f32) : FVec Ideal S4096x4096 .f32 :=
  Host.dotGeneral dot_S4096x1024_S4096x1024_S4096x4096_1_1_0_0_n_n none (shapeCast _ y shapeCasts_S4096x1024_S4096x1024) wd
/-- and through the activation. -/
def tDu (p d : FVec Ideal S4096x4096 .f32) : FVec Ideal S4096x4096 .f32 := select (cmpf .ogt p tZero) (addf (mulf (tA p) d) (mulf d (tA p))) tZero
/-- The gradient of the normed input, -/
def tDx (u : FVec Ideal S4096x4096 .f32) (wu : FVec Ideal S1024x4096 .f32) : FVec Ideal S4096x1024 .f32 :=
  Host.dotGeneral dot_S4096x4096_S1024x4096_S4096x1024_1_1_0_0_n_n none u wu
/-- of the scale, one number a row, -/
def tC (h z : FVec Ideal S4096x1024 .f32) : FVec Ideal S4096x1024 .f32 :=
  broadcastInDim S4096x1024 ![0] bcast_S4096_S4096x1024_0 (Host.reduceAdd (Host.divf (mulf (shapeCast S4096x1 (Host.reduceAdd (mulf h z) (constant S_ .f32 0x00000000#32) reducesTo_S4096x1024_S4096_d1 h_S_) shapeCasts_S4096_S4096x1)
    (mulf (broadcastInDim S4096x1 ![] bcast_S_S4096x1 (constant S_ .f32 0xBF000000#32)) (Host.divf (tR h) (tV h))))
    (broadcastInDim S4096x1 ![] bcast_S_S4096x1 (constant S_ .f32 0x44800000#32))) (constant S_ .f32 0x00000000#32) reducesTo_S4096x1_S4096_d1 h_S_)
/-- and of the layer's input. -/
def tOut (h z y : FVec Ideal S4096x1024 .f32) : FVec Ideal S4096x1024 .f32 :=
  addf (addf (addf y (mulf z (broadcastInDim S4096x1024 ![0, 1] bcast_S4096x1_S4096x1024_0_1 (tR h)))) (mulf h (tC h z))) (mulf (tC h z) h)
/-- The gradient of the up-projection, in blocks, -/
def tUp (u : FVec Ideal S4096x4096 .f32) (x : FVec Ideal S4096x1024 .f32) : FVec Ideal S2x4x1024x512 .bf16 :=
  truncf .bf16 (transpose S2x4x1024x512 [2, 1, 0, 3] (shapeCast S1024x4x2x512 (transpose S1024x4096 [1, 0] (Host.dotGeneral dot_S4096x4096_S4096x1024_S4096x1024_0_0_1_1_n_n none u x : FVec Ideal S4096x1024 .f32)
    transposes_S4096x1024_S1024x4096_1_0) shapeCasts_S1024x4096_S1024x4x2x512) transposes_S1024x4x2x512_S2x4x1024x512_2_1_0_3) bitsLt_bf16_f32
/-- of the down-projection, -/
def tDown (a : FVec Ideal S4096x4096 .f32) (y : FVec Ideal S4096x1024 .f32) : FVec Ideal S2x4x512x1024 .bf16 :=
  truncf .bf16 (transpose S2x4x512x1024 [1, 0, 2, 3] (shapeCast S4x2x512x1024 (transpose S4096x1024 [1, 0] (Host.dotGeneral dot_S4096x1024_S4096x4096_S1024x4096_0_0_1_1_n_n none (shapeCast _ y shapeCasts_S4096x1024_S4096x1024) (mulf a a) : FVec Ideal S1024x4096 .f32)
    transposes_S1024x4096_S4096x1024_1_0) shapeCasts_S4096x1024_S4x2x512x1024) transposes_S4x2x512x1024_S2x4x512x1024_1_0_2_3) bitsLt_bf16_f32
/-- and of the norm's weight. -/
def tGam (x z : FVec Ideal S4096x1024 .f32) : FVec Ideal S1x1024 .f32 :=
  broadcastInDim S1x1024 ![1] bcast_S1024_S1x1024_1 (Host.reduceAdd (shapeCast S1x1024 (Host.reduceAdd (mulf x z) (constant S_ .f32 0x00000000#32) reducesTo_S4096x1024_S1024_d0 h_S_) shapeCasts_S1024_S1x1024) (constant S_ .f32 0x00000000#32) reducesTo_S1x1024_S1024_d0 h_S_)

variable (m : (ℓ : Loc nD τ sig) → Buf (Elt Ideal) ℓ) (c : Dev nD)

def aH : FVec Ideal S4096x1024 .f32 := m ((c.tc : Thread nD τ).loc main_arg0)
def aG : FVec Ideal S1024 .f32 := m ((c.tc : Thread nD τ).loc main_arg1)
def aWu : FVec Ideal S1024x4096 .f32 := m ((c.tc : Thread nD τ).loc main_arg2)
def aWd : FVec Ideal S4096x1024 .f32 := m ((c.tc : Thread nD τ).loc main_arg3)
def aY : FVec Ideal S4096x1024 .f32 := m ((c.tc : Thread nD τ).loc main_arg4)
def aP : FVec Ideal S4096x4096 .f32 := tP (tXn (aH m c) (aG m c)) (aWu m c)
def aU : FVec Ideal S4096x4096 .f32 := tDu (aP m c) (tDw (aY m c) (aWd m c))
def aDx : FVec Ideal S4096x1024 .f32 := tDx (aU m c) (aWu m c)

theorem out0_eq : res_out0 m c = tOut (aH m c) (mulf (aDx m c) (tG (aG m c))) (aY m c) := rfl
theorem out1_eq : res_out1 m c = tUp (aU m c) (tXn (aH m c) (aG m c)) := rfl
theorem out3_eq : res_out3 m c = tGam (tXh (aH m c)) (aDx m c) := rfl

/-! ## The same at an index -/

theorem tV_apply (h) (t : Fin 4096) (o : Fin 1) : tV h (ix2 t o) = Mlp.V fun k => h (ix2 t k) := by
  pointwise [tV]
  rfl
theorem tR_apply (h) (t : Fin 4096) (o : Fin 1) : tR h (ix2 t o) = Mlp.R fun k => h (ix2 t k) := by
  pointwise [tR]
  rw [tV_apply]; rfl
theorem tXh_apply (h) (t : Fin 4096) (k : Fin 1024) : tXh h (ix2 t k) = Mlp.Xh (fun t k => h (ix2 t k)) t k := by
  pointwise [tXh]
  rw [tR_apply]; rfl
theorem tXn_apply (h g) (t : Fin 4096) (k : Fin 1024) : tXn h g (ix2 t k) = Mlp.Xn (fun t k => h (ix2 t k)) (fun k => g (ix1 k)) t k := by
  pointwise [tXn, tG]
  rw [tXh_apply]; rfl
theorem tDu_apply (p d) (t n : Fin 4096) : tDu p d (ix2 t n) = d (ix2 t n) * (Ideal.ofBits .f32 0x40000000#32 * max (p (ix2 t n)) 0) := by
  pointwise [tDu, tA, tZero]
  exact Mlp.relu_sq_grad _ _
theorem tDw_apply (y wd) (t n : Fin 4096) : tDw y wd (ix2 t n) = ∑ k : Fin 1024, y (ix2 t k) * wd (ix2 n k) := by
  pointwise [tDw]
theorem tP_apply (x wu) (t n : Fin 4096) : tP x wu (ix2 t n) = ∑ k : Fin 1024, x (ix2 t k) * wu (ix2 k n) := by
  pointwise [tP]
theorem tDx_apply (u wu) (t : Fin 4096) (k : Fin 1024) : tDx u wu (ix2 t k) = ∑ n : Fin 4096, u (ix2 t n) * wu (ix2 k n) := by
  pointwise [tDx]
theorem tC_apply (h z) (t : Fin 4096) (k : Fin 1024) : tC h z (ix2 t k)
    = Ideal.div ((∑ x : Fin 1024, h (ix2 t x) * z (ix2 t x)) * (Ideal.ofBits .f32 0xBF000000#32
        * Ideal.div (Mlp.R fun k => h (ix2 t k)) (Mlp.V fun k => h (ix2 t k)))) (Ideal.ofBits .f32 0x44800000#32) := by
  pointwise [tC]
  rw [Fin.sum_univ_one, tR_apply, tV_apply]
theorem tUp_apply (u x) (s : Fin 2) (j : Fin 4) (k : Fin 1024) (q : Fin 512) :
    tUp u x (ix4 s j k q) = ∑ t : Fin 4096, u (ix2 t ⟨j.val * 1024 + s.val * 512 + q.val, by omega⟩) * x (ix2 t k) := by
  pointwise [tUp]
theorem tDown_apply (a y) (s : Fin 2) (j : Fin 4) (q : Fin 512) (k : Fin 1024) :
    tDown a y (ix4 s j q k) = ∑ t : Fin 4096, y (ix2 t k) * (a (ix2 t ⟨j.val * 1024 + s.val * 512 + q.val, by omega⟩) * a (ix2 t ⟨j.val * 1024 + s.val * 512 + q.val, by omega⟩)) := by
  pointwise [tDown]
theorem tGam_apply (x z) (o : Fin 1) (k : Fin 1024) : tGam x z (ix2 o k) = ∑ t : Fin 4096, x (ix2 t k) * z (ix2 t k) := by
  pointwise [tGam]
  rw [Fin.sum_univ_one]

/-- The input's gradient of a norm with weight `g`, where `x` is the gradient of what the norm gives and `y` the gradient beside it. -/
theorem tOut_apply (h x y : FVec Ideal S4096x1024 .f32) (g : FVec Ideal S1024 .f32) (t : Fin 4096) (k : Fin 1024) : tOut h (mulf x (tG g)) y (ix2 t k)
    = y (ix2 t k) + Mlp.R (fun j => h (ix2 t j)) * (x (ix2 t k) * g (ix1 k) - h (ix2 t k) * Mlp.R (fun j => h (ix2 t j))
      * Ideal.div (∑ j : Fin 1024, x (ix2 t j) * g (ix1 j) * (h (ix2 t j) * Mlp.R (fun j => h (ix2 t j)))) (Ideal.ofBits .f32 0x44800000#32)) := by
  have hz : ∀ k, mulf x (tG g) (ix2 t k) = x (ix2 t k) * g (ix1 k) := fun k => by
    pointwise [tG]
  generalize mulf x (tG g) = z at hz
  pointwise [tOut]
  rw [tR_apply, Mlp.norm_grad (fun j => h (ix2 t j)) (fun k => z (ix2 t k)) _ k _ (tC_apply _ _ t k)]
  simp only [hz]

/-! ## The results -/

abbrev cH : Fin 4096 → Fin 1024 → EReal := fun t k => aH m c (ix2 t k)
abbrev cG : Fin 1024 → EReal := fun k => aG m c (ix1 k)
abbrev cWu : Fin 1024 → Fin 4096 → EReal := fun k n => aWu m c (ix2 k n)
abbrev cWd : Fin 4096 → Fin 1024 → EReal := fun n k => aWd m c (ix2 n k)
abbrev cY : Fin 4096 → Fin 1024 → EReal := fun t k => aY m c (ix2 t k)

theorem aA_apply (t n : Fin 4096) : tA (aP m c) (ix2 t n) = Mlp.A (cH m c) (cG m c) (cWu m c) t n := by
  pointwise [tA, tZero, aP]
  rw [tP_apply]
  simp only [tXn_apply]
  rfl
theorem aU_apply (t n : Fin 4096) : aU m c (ix2 t n) = Mlp.Du (cH m c) (cY m c) (cWd m c) (cG m c) (cWu m c) t n := by
  rw [aU, tDu_apply, tDw_apply]
  have e := aA_apply m c t n
  rw [show tA (aP m c) (ix2 t n) = max (aP m c (ix2 t n)) 0 by pointwise [tA, tZero]] at e
  rw [e]; rfl
theorem aDx_apply (t : Fin 4096) (k : Fin 1024) : aDx m c (ix2 t k) = Mlp.Dx (cH m c) (cY m c) (cWd m c) (cG m c) (cWu m c) t k := by
  rw [aDx, tDx_apply]
  simp only [aU_apply]
  rfl

theorem out0_apply (t : Fin 4096) (k : Fin 1024) :
    res_out0 m c (ix2 t k) = Mlp.Out (cH m c) (cY m c) (cWd m c) (cG m c) (cWu m c) t k := by
  rw [out0_eq, tOut_apply]
  simp only [aDx_apply]
  rfl
theorem out1_apply (s : Fin 2) (j : Fin 4) (k : Fin 1024) (q : Fin 512) :
    res_out1 m c (ix4 s j k q) = Mlp.Up (cH m c) (cY m c) (cWd m c) (cG m c) (cWu m c) k ⟨j.val * 1024 + s.val * 512 + q.val, by omega⟩ := by
  rw [out1_eq, tUp_apply]
  simp only [aU_apply, tXn_apply]
  exact Mlp.up_comm ..
theorem out2_apply (s : Fin 2) (j : Fin 4) (q : Fin 512) (k : Fin 1024) :
    tDown (tA (aP m c)) (aY m c) (ix4 s j q k) = Mlp.Down (cH m c) (cY m c) (cG m c) (cWu m c) ⟨j.val * 1024 + s.val * 512 + q.val, by omega⟩ k := by
  rw [tDown_apply]
  simp only [aA_apply]
  exact Finset.sum_congr rfl fun t _ => mul_comm _ _
theorem out3_apply (o : Fin 1) (k : Fin 1024) :
    res_out3 m c (ix2 o k) = Mlp.Gam (cH m c) (cY m c) (cWd m c) (cG m c) (cWu m c) k := by
  rw [out3_eq, tGam_apply]
  simp only [aDx_apply, tXh_apply]
  exact Mlp.gam_comm ..

end Cert.ReferenceIdeal.Val
-- ==== Proof.Fwd.Payloads.lean ====
module

public import proofs.«01_k».proof.Proof.Gen.Kernel2Ideal.Skeleton
public import Idealize.ShloMosaic.Lib.Pointwise

@[expose] public section

set_option maxRecDepth 16384

noncomputable section

/-! # What a point stores, element by element -/

namespace Cert.Kernel2Ideal.Fwd

open Cert.Kernel2Ideal Cert.Kernel2Ideal.Gen
open Idealize.ShloMosaic Idealize.ShloMosaic.TcCoe

/-- A row's residual stream after the output projection, -/
theorem pay2_apply (wo h og oc oa) (t k : Fin 1024) :
    k0_pay2 (F := Ideal) wo h og oc oa (ix2 t k)
      = ((h (ix2 t k) + ∑ p : Fin 384, og (ix2 t p) * wo (ix2 ⟨p.val, by omega⟩ k)) + ∑ p : Fin 256, oc (ix2 t p) * wo (ix2 ⟨384 + p.val, by omega⟩ k))
        + ∑ p : Fin 384, oa (ix2 t p) * wo (ix2 ⟨640 + p.val, by omega⟩ k) := by
  pointwise [k0_pay2]
/-- and the same normalised. -/
theorem pay3_apply (wo h og oc oa g) (t k : Fin 1024) :
    k0_pay3 (F := Ideal) wo h og oc oa g (ix2 t k)
      = k0_pay2 (F := Ideal) wo h og oc oa (ix2 t k)
        * Ideal.rsqrt (Ideal.div (∑ j : Fin 1024, k0_pay2 (F := Ideal) wo h og oc oa (ix2 t j) * k0_pay2 (F := Ideal) wo h og oc oa (ix2 t j)) (Ideal.ofBits .f32 0x44800000#32) + Ideal.ofBits .f32 0x358637BD#32)
        * g (ix2 0 k) := by
  pointwise [k0_pay3]
theorem pay4_apply (wo h og oc oa g) (t k : Fin 1024) : k0_pay4 (F := Ideal) wo h og oc oa g (ix2 t k) = k0_pay3 (F := Ideal) wo h og oc oa g (ix2 t k) := by
  pointwise [k0_pay4]
theorem pay5_apply (x) (k t : Fin 1024) : k0_pay5 (F := Ideal) x (ix2 k t) = x (ix2 t k) := by
  pointwise [k0_pay5]
theorem pay6_apply (x) (t k : Fin 1024) : k0_pay6 (F := Ideal) x (ix2 t k) = x (ix2 t k) := by
  pointwise [k0_pay6]
/-- An activation of the first of the pair of hidden blocks, -/
theorem pay7_apply (x u) (t : Fin 1024) (q : Fin 512) : k0_pay7 (F := Ideal) x u (ix2 t q) = max (∑ k : Fin 1024, x (ix2 t k) * u (ix3 0 k q)) 0 := by
  pointwise [k0_pay7]
theorem pay8_apply (x u) (t : Fin 1024) (q : Fin 512) : k0_pay8 (F := Ideal) x u (ix2 t q) = k0_pay7 (F := Ideal) x u (ix2 t q) := by
  pointwise [k0_pay8]
/-- and of the second. -/
theorem pay9_apply (x u) (t : Fin 1024) (q : Fin 512) : k0_pay9 (F := Ideal) x u (ix2 t q) = max (∑ k : Fin 1024, x (ix2 t k) * u (ix3 0 k q)) 0 := by
  pointwise [k0_pay9]
theorem pay10_apply (x u) (t : Fin 1024) (q : Fin 512) : k0_pay10 (F := Ideal) x u (ix2 t q) = k0_pay9 (F := Ideal) x u (ix2 t q) := by
  pointwise [k0_pay10]
/-- What the pair adds to the second residual stream. -/
theorem pay11_apply (x u d u' d') (t k : Fin 1024) :
    k0_pay11 (F := Ideal) x u d u' d' (ix2 t k)
      = ∑ q : Fin 512, k0_pay7 (F := Ideal) x u (ix2 t q) * k0_pay7 (F := Ideal) x u (ix2 t q) * d (ix3 0 q k)
        + ∑ q : Fin 512, k0_pay9 (F := Ideal) x u' (ix2 t q) * k0_pay9 (F := Ideal) x u' (ix2 t q) * d' (ix3 0 q k) := by
  pointwise [k0_pay11]
theorem pay1_apply (a s) (t k : Fin 1024) : k0_pay1 (F := Ideal) a s (ix2 t k) = s (ix2 t k) + a (ix2 t k) := by
  pointwise [k0_pay1]

end Cert.Kernel2Ideal.Fwd
-- ==== Proof.Fwd.State.lean ====
module

public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.State

@[expose] public section

set_option maxRecDepth 16384

noncomputable section

/-! # The fused output projection and hidden layer: what one grid point does to the buffers, as functions of vectors -/

namespace Cert.Kernel2Ideal.Fwd

open Cert.Kernel2Ideal.Gen
open Idealize.ShloMosaic Idealize.ShloMosaic.TcCoe
open VecWindow (window put)
open Cert.KernelIdeal.Body (readAt_window readCov_window window_full put_full)

variable {F : FTy → Type} [FloatOps F]

theorem window_sq {α : Type} (x : S1024x1024.Idx → α) (inb : ∀ a, (![0, 0] : Fin S1024x1024.rank → ℕ) a + ![1024, 1024] a ≤ S1024x1024.size a) : window x ![0, 0] ![1024, 1024] inb = x := window_full x _ inb
theorem put_sq {α : Type} (x w : S1024x1024.Idx → α) : put x ![0, 0] ![1024, 1024] w = w := put_full x _ (by decide) w
theorem window_384 {α : Type} (x : S1024x384.Idx → α) (inb : ∀ a, (![0, 0] : Fin S1024x384.rank → ℕ) a + ![1024, 384] a ≤ S1024x384.size a) : window x ![0, 0] ![1024, 384] inb = x := window_full x _ inb
theorem window_256 {α : Type} (x : S1024x256.Idx → α) (inb : ∀ a, (![0, 0] : Fin S1024x256.rank → ℕ) a + ![1024, 256] a ≤ S1024x256.size a) : window x ![0, 0] ![1024, 256] inb = x := window_full x _ inb
theorem window_row {α : Type} (x : S1x1024.Idx → α) (inb : ∀ a, (![0, 0] : Fin S1x1024.rank → ℕ) a + ![1, 1024] a ≤ S1x1024.size a) : window x ![0, 0] ![1, 1024] inb = x := window_full x _ inb

/-- The first and the second of a pair of hidden blocks: of the up-projection, -/
abbrev up0 {α : Type} (x : S2x1024x512.Idx → α) : S1x1024x512.Idx → α := window x ![0, 0, 0] S1x1024x512.size inb_S2x1024x512_S1x1024x512_0_0_0
abbrev up1 {α : Type} (x : S2x1024x512.Idx → α) : S1x1024x512.Idx → α := window x ![1, 0, 0] S1x1024x512.size inb_S2x1024x512_S1x1024x512_1_0_0
/-- and of the down-projection. -/
abbrev dn0 {α : Type} (x : S2x512x1024.Idx → α) : S1x512x1024.Idx → α := window x ![0, 0, 0] S1x512x1024.size inb_S2x512x1024_S1x512x1024_0_0_0
abbrev dn1 {α : Type} (x : S2x512x1024.Idx → α) : S1x512x1024.Idx → α := window x ![1, 0, 0] S1x512x1024.size inb_S2x512x1024_S1x512x1024_1_0_0

/-- The normalised rows after the point: computed at the first pair of hidden blocks, kept after. -/
def xNext (i : grid0.Coords) (h : Vec F S1024x1024 .f32) (og : Vec F S1024x384 .bf16) (oc : Vec F S1024x256 .bf16) (oa : Vec F S1024x384 .bf16) (wo : Vec F S1024x1024 .bf16) (g : Vec F S1x1024 .f32)
    (s : Vec F S1024x1024 .bf16) : Vec F S1024x1024 .bf16 := if k0_cond1 i = 1#1 then k0_pay4 wo h og oc oa g else s
/-- The second residual stream as the point's products find it: started from the first at the first pair of hidden blocks. -/
def aReset (i : grid0.Coords) (h : Vec F S1024x1024 .f32) (og : Vec F S1024x384 .bf16) (oc : Vec F S1024x256 .bf16) (oa : Vec F S1024x384 .bf16) (wo : Vec F S1024x1024 .bf16)
    (s : Vec F S1024x1024 .f32) : Vec F S1024x1024 .f32 := if k0_cond1 i = 1#1 then k0_pay6 (k0_pay2 wo h og oc oa) else s
/-- The products of the point's pair of hidden blocks added on: `x` the normalised rows. -/
def aNext (x : Vec F S1024x1024 .bf16) (wu : Vec F S2x1024x512 .bf16) (wd : Vec F S2x512x1024 .bf16) (s : Vec F S1024x1024 .f32) : Vec F S1024x1024 .f32 :=
  k0_pay1 (k0_pay11 x (up0 wu) (dn0 wd) (up1 wu) (dn1 wd)) s
/-- The first residual stream's result block after the point. -/
def hOut (i : grid0.Coords) (h : Vec F S1024x1024 .f32) (og : Vec F S1024x384 .bf16) (oc : Vec F S1024x256 .bf16) (oa : Vec F S1024x384 .bf16) (wo : Vec F S1024x1024 .bf16)
    (o : Vec F S1024x1024 .f32) : Vec F S1024x1024 .f32 := if k0_cond1 i = 1#1 then k0_pay2 wo h og oc oa else o
/-- The transposed normalised rows' result block after the point. -/
def tOut (i : grid0.Coords) (h : Vec F S1024x1024 .f32) (og : Vec F S1024x384 .bf16) (oc : Vec F S1024x256 .bf16) (oa : Vec F S1024x384 .bf16) (wo : Vec F S1024x1024 .bf16) (g : Vec F S1x1024 .f32)
    (o : Vec F S1024x1024 .bf16) : Vec F S1024x1024 .bf16 := if k0_cond1 i = 1#1 then k0_pay5 (k0_pay3 wo h og oc oa g) else o
/-- The second residual stream's result block after the point: written at the last pair of hidden blocks. -/
def sOut (i : grid0.Coords) (a o : Vec F S1024x1024 .f32) : Vec F S1024x1024 .f32 := if k0_cond2 i = 1#1 then a else o
/-- The activations' block after the point. -/
def cOut (x : Vec F S1024x1024 .bf16) (wu : Vec F S2x1024x512 .bf16) (o : Vec F S1024x1024 .bf16) : Vec F S1024x1024 .bf16 :=
  put (put o ![0, 0] S1024x512.size (k0_pay8 x (up0 wu))) ![0, 512] S1024x512.size (k0_pay10 x (up1 wu))

end Cert.Kernel2Ideal.Fwd
-- ==== Proof.Fwd.Sweep.lean ====
module

public import proofs.«01_k».proof.Proof.Fwd.State

@[expose] public section

set_option maxRecDepth 16384

noncomputable section

/-! # The kernel's buffers along the grid -/

namespace Cert.Kernel2Ideal.Fwd

open Cert.Kernel2Ideal.Gen
open Idealize.ShloMosaic Idealize.ShloMosaic.TcCoe
open VecWindow (window put)

variable {F : FTy → Type} [FloatOps F]
variable (m : (ℓ : Loc nD τ sig) → Buf (Elt F) ℓ)

theorem hcond1 : ∀ t : Fin cfg0.N, k0_cond1 (grid0.coords t) = 1#1 ↔ t.val % 4 = 0 := by decide +kernel
theorem hcond2 : ∀ t : Fin cfg0.N, k0_cond2 (grid0.coords t) = 1#1 ↔ t.val % 4 = 3 := by decide +kernel

/-- The point after `n` points. -/
def pt (n : ℕ) : Fin cfg0.N := ⟨n % 16, lt_of_lt_of_eq (Nat.mod_lt _ (by decide)) N_0.symm⟩

theorem pt_val (t : Fin cfg0.N) : pt t.val = t := Fin.ext (Nat.mod_eq_of_lt (lt_of_lt_of_eq t.isLt N_0))

/-- The windows' blocks at a point, by the names of what they hold. -/
abbrev bH (c : Dev nD) (t : Fin cfg0.N) : Vec F S1024x1024 .f32 := iblk m c 0 t
abbrev bOg (c : Dev nD) (t : Fin cfg0.N) : Vec F S1024x384 .bf16 := iblk m c 1 t
abbrev bOc (c : Dev nD) (t : Fin cfg0.N) : Vec F S1024x256 .bf16 := iblk m c 2 t
abbrev bOa (c : Dev nD) (t : Fin cfg0.N) : Vec F S1024x384 .bf16 := iblk m c 3 t
abbrev bWo (c : Dev nD) (t : Fin cfg0.N) : Vec F S1024x1024 .bf16 := iblk m c 4 t
abbrev bGm (c : Dev nD) (t : Fin cfg0.N) : Vec F S1x1024 .f32 := iblk m c 5 t
abbrev bWu (c : Dev nD) (t : Fin cfg0.N) : Vec F S2x1024x512 .bf16 := iblk m c 6 t
abbrev bWd (c : Dev nD) (t : Fin cfg0.N) : Vec F S2x512x1024 .bf16 := iblk m c 7 t

/-- The normalised rows' buffer after `n` points, -/
def xS (c : Dev nD) : ℕ → Vec F S1024x1024 .bf16
  | 0 => fun _ => Scalar.ofBits .bf16 0x0000#16
  | n + 1 => xNext (grid0.coords (pt n)) (bH m c (pt n)) (bOg m c (pt n)) (bOc m c (pt n)) (bOa m c (pt n)) (bWo m c (pt n)) (bGm m c (pt n)) (xS c n)
/-- the second residual stream's, -/
def aS (c : Dev nD) : ℕ → Vec F S1024x1024 .f32
  | 0 => fun _ => Scalar.ofBits .f32 0x00000000#32
  | n + 1 => aNext (xS m c (n + 1)) (bWu m c (pt n)) (bWd m c (pt n)) (aReset (grid0.coords (pt n)) (bH m c (pt n)) (bOg m c (pt n)) (bOc m c (pt n)) (bOa m c (pt n)) (bWo m c (pt n)) (aS c n))
/-- the first residual stream's -/
def hS (c : Dev nD) : ℕ → Vec F S1024x1024 .f32
  | 0 => fun _ => Scalar.ofBits .f32 0x00000000#32
  | n + 1 => hOut (grid0.coords (pt n)) (bH m c (pt n)) (bOg m c (pt n)) (bOc m c (pt n)) (bOa m c (pt n)) (bWo m c (pt n)) (hS c n)
/-- and the transposed normalised rows'. -/
def tS (c : Dev nD) : ℕ → Vec F S1024x1024 .bf16
  | 0 => fun _ => Scalar.ofBits .bf16 0x0000#16
  | n + 1 => tOut (grid0.coords (pt n)) (bH m c (pt n)) (bOg m c (pt n)) (bOc m c (pt n)) (bOa m c (pt n)) (bWo m c (pt n)) (bGm m c (pt n)) (tS c n)

theorem xS_succ (c : Dev nD) (t : Fin cfg0.N) : xS m c (t.val + 1) = xNext (grid0.coords t) (bH m c t) (bOg m c t) (bOc m c t) (bOa m c t) (bWo m c t) (bGm m c t) (xS m c t.val) := by rw [xS, pt_val]
theorem aS_succ (c : Dev nD) (t : Fin cfg0.N) : aS m c (t.val + 1) = aNext (xS m c (t.val + 1)) (bWu m c t) (bWd m c t) (aReset (grid0.coords t) (bH m c t) (bOg m c t) (bOc m c t) (bOa m c t) (bWo m c t) (aS m c t.val)) := by rw [aS, pt_val]
theorem hS_succ (c : Dev nD) (t : Fin cfg0.N) : hS m c (t.val + 1) = hOut (grid0.coords t) (bH m c t) (bOg m c t) (bOc m c t) (bOa m c t) (bWo m c t) (hS m c t.val) := by rw [hS, pt_val]
theorem tS_succ (c : Dev nD) (t : Fin cfg0.N) : tS m c (t.val + 1) = tOut (grid0.coords t) (bH m c t) (bOg m c t) (bOc m c t) (bOa m c t) (bWo m c t) (bGm m c t) (tS m c t.val) := by rw [tS, pt_val]

/-- What a buffer holds before the first point of a block of rows does not matter. -/
theorem xNext_found (c : Dev nD) (t : Fin cfg0.N) (s : Vec F S1024x1024 .bf16) (h : t.val % 4 ≠ 0 → s = xS m c t.val) :
    xNext (grid0.coords t) (bH m c t) (bOg m c t) (bOc m c t) (bOa m c t) (bWo m c t) (bGm m c t) s = xS m c (t.val + 1) := by
  rw [xS_succ]; unfold xNext
  by_cases h1 : k0_cond1 (grid0.coords t) = 1#1
  · rw [if_pos h1, if_pos h1]
  · rw [h (fun e => h1 ((hcond1 t).mpr e))]
theorem aNext_found (c : Dev nD) (t : Fin cfg0.N) (s : Vec F S1024x1024 .f32) (h : t.val % 4 ≠ 0 → s = aS m c t.val) :
    aNext (xS m c (t.val + 1)) (bWu m c t) (bWd m c t) (aReset (grid0.coords t) (bH m c t) (bOg m c t) (bOc m c t) (bOa m c t) (bWo m c t) s) = aS m c (t.val + 1) := by
  rw [aS_succ]; unfold aReset
  by_cases h1 : k0_cond1 (grid0.coords t) = 1#1
  · rw [if_pos h1, if_pos h1]
  · rw [h (fun e => h1 ((hcond1 t).mpr e))]
theorem hOut_found (c : Dev nD) (t : Fin cfg0.N) (s : Vec F S1024x1024 .f32) (h : t.val % 4 ≠ 0 → s = hS m c t.val) :
    hOut (grid0.coords t) (bH m c t) (bOg m c t) (bOc m c t) (bOa m c t) (bWo m c t) s = hS m c (t.val + 1) := by
  rw [hS_succ]; unfold hOut
  by_cases h1 : k0_cond1 (grid0.coords t) = 1#1
  · rw [if_pos h1, if_pos h1]
  · rw [h (fun e => h1 ((hcond1 t).mpr e))]
theorem tOut_found (c : Dev nD) (t : Fin cfg0.N) (s : Vec F S1024x1024 .bf16) (h : t.val % 4 ≠ 0 → s = tS m c t.val) :
    tOut (grid0.coords t) (bH m c t) (bOg m c t) (bOc m c t) (bOa m c t) (bWo m c t) (bGm m c t) s = tS m c (t.val + 1) := by
  rw [tS_succ]; unfold tOut
  by_cases h1 : k0_cond1 (grid0.coords t) = 1#1
  · rw [if_pos h1, if_pos h1]
  · rw [h (fun e => h1 ((hcond1 t).mpr e))]

/-- The activations' block, whatever the buffer held: its two halves are both stored. -/
def cBlk (x : Vec F S1024x1024 .bf16) (wu : Vec F S2x1024x512 .bf16) : Vec F S1024x1024 .bf16 := cOut x wu (fun _ => Scalar.ofBits .bf16 0x0000#16)

theorem cOut_eq (x : Vec F S1024x1024 .bf16) (wu : Vec F S2x1024x512 .bf16) (o) : cOut x wu o = cBlk x wu := by
  unfold cBlk cOut
  funext y; unfold put
  have l0 : (y 0).val < 1024 := (y 0).isLt
  have l1 : (y 1).val < 1024 := (y 1).isLt
  by_cases h1 : ∀ a, (![0, 512] : Fin 2 → ℕ) a ≤ (y a).val ∧ (y a).val < (![0, 512] : Fin 2 → ℕ) a + S1024x512.size a
  · rw [dif_pos h1, dif_pos h1]
  · rw [dif_neg h1, dif_neg h1]
    have h2 : ∀ a, (![0, 0] : Fin 2 → ℕ) a ≤ (y a).val ∧ (y a).val < (![0, 0] : Fin 2 → ℕ) a + S1024x512.size a := by
      simp only [Fin.forall_fin_succ, Fin.forall_fin_zero_pi] at h1 ⊢
      simp at h1 l0 l1 ⊢; omega
    rw [dif_pos h2, dif_pos h2]

end Cert.Kernel2Ideal.Fwd
-- ==== Proof.Fwd.Math.lean ====
module

public import proofs.«01_k».proof.Proof.Math
public import Idealize.ShloMosaic.Lib.Pointwise.Sums

@[expose] public section

set_option maxRecDepth 16384

noncomputable section

/-! # The output projection and the hidden layer, as functions of the arguments' elements -/

namespace Cert.Fwd

open Idealize.ShloMosaic

variable (h : Fin 4096 → Fin 1024 → EReal) (og : Fin 4096 → Fin 384 → EReal) (oc : Fin 4096 → Fin 256 → EReal) (oa : Fin 4096 → Fin 384 → EReal)
  (wo : Fin 1024 → Fin 1024 → EReal) (g : Fin 1024 → EReal) (wu : Fin 1024 → Fin 4096 → EReal) (wd : Fin 4096 → Fin 1024 → EReal)

/-- The three mixers' outputs side by side, -/
def O (t : Fin 4096) (p : Fin 1024) : EReal :=
  if hp : p.val < 384 then og t ⟨p.val, hp⟩ else if hq : p.val < 640 then oc t ⟨p.val - 384, by omega⟩ else oa t ⟨p.val - 640, by omega⟩
/-- the residual stream after the output projection, -/
def H1 (t : Fin 4096) (k : Fin 1024) : EReal := h t k + ∑ p, O og oc oa t p * wo p k
/-- the activation before it is squared, -/
def Act (t n : Fin 4096) : EReal := Mlp.A (H1 h og oc oa wo) g wu t n
/-- and the residual stream after the hidden layer. -/
def H2 (t : Fin 4096) (k : Fin 1024) : EReal :=
  H1 h og oc oa wo t k + ∑ n, Act h og oc oa wo g wu t n * Act h og oc oa wo g wu t n * wd n k

theorem sum_split (f : Fin 1024 → EReal) :
    ∑ p, f p = (∑ p : Fin 384, f ⟨p.val, by omega⟩ + ∑ p : Fin 256, f ⟨384 + p.val, by omega⟩) + ∑ p : Fin 384, f ⟨640 + p.val, by omega⟩ := by
  have e : ∑ p : Fin (384 + 256 + 384), f ⟨p.val, p.isLt⟩ = ∑ p : Fin (384 + 256), f ⟨p.val, by omega⟩ + ∑ p : Fin 384, f ⟨640 + p.val, by omega⟩ :=
    Fin.sum_univ_add (a := 384 + 256) (b := 384) (fun p : Fin (384 + 256 + 384) => f ⟨p.val, p.isLt⟩)
  have e' : ∑ p : Fin (384 + 256), f ⟨p.val, by omega⟩ = ∑ p : Fin 384, f ⟨p.val, by omega⟩ + ∑ p : Fin 256, f ⟨384 + p.val, by omega⟩ :=
    Fin.sum_univ_add (a := 384) (b := 256) (fun p : Fin (384 + 256) => f ⟨p.val, by omega⟩)
  rw [← e']; exact e

/-- The projection of the three side by side is the sum of the three projections. -/
theorem H1_parts (t : Fin 4096) (k : Fin 1024) :
    ((h t k + ∑ p : Fin 384, og t p * wo ⟨p.val, by omega⟩ k) + ∑ p : Fin 256, oc t p * wo ⟨384 + p.val, by omega⟩ k) + ∑ p : Fin 384, oa t p * wo ⟨640 + p.val, by omega⟩ k
      = H1 h og oc oa wo t k := by
  unfold H1
  rw [sum_split, add_assoc, add_assoc]
  congr 1
  rw [add_assoc]
  have e0 : ∀ p : Fin 384, O og oc oa t ⟨p.val, by omega⟩ = og t p := fun p => by unfold O; rw [dif_pos p.isLt]
  have e1 : ∀ p : Fin 256, O og oc oa t ⟨384 + p.val, by omega⟩ = oc t p := fun p => by
    unfold O; rw [dif_neg (by dsimp only; omega), dif_pos (by dsimp only; omega)]
    exact congrArg (oc t) (Fin.ext (by dsimp only; omega))
  have e2 : ∀ p : Fin 384, O og oc oa t ⟨640 + p.val, by omega⟩ = oa t p := fun p => by
    unfold O; rw [dif_neg (by dsimp only; omega), dif_neg (by dsimp only; omega)]
    exact congrArg (oa t) (Fin.ext (by dsimp only; omega))
  simp only [e0, e1, e2]

end Cert.Fwd
-- ==== Proof.Fwd.Arrays.lean ====
module

public import proofs.«01_k».proof.Proof.Fwd.Sweep
public import proofs.«01_k».proof.Proof.Fwd.Math
public import proofs.«01_k».proof.Proof.Tiles
public import Idealize.ShloMosaic.Lib.StableHlo.ReadAt

@[expose] public section

set_option maxRecDepth 16384

noncomputable section

/-! # The arguments, the arrays the call is launched on, and the windows' blocks at a point, element by element

Point `t` is row block `t / 4` and pair `t % 4` of the hidden layer's blocks. -/

namespace Cert.Kernel2Ideal.Fwd

open Cert Cert.Kernel2Ideal Cert.Kernel2Ideal.Gen
open Idealize.ShloMosaic Idealize.ShloMosaic.TcCoe

variable (m : (ℓ : Loc nD τ sig) → Buf (Elt Ideal) ℓ) (c : Dev nD)

def aH : FVec Ideal S4096x1024 .f32 := m ((c.tc : Thread nD τ).loc main_arg0)
def aOg : FVec Ideal S4096x384 .f32 := m ((c.tc : Thread nD τ).loc main_arg1)
def aOc : FVec Ideal S4096x256 .f32 := m ((c.tc : Thread nD τ).loc main_arg2)
def aOa : FVec Ideal S4096x384 .f32 := m ((c.tc : Thread nD τ).loc main_arg3)
def aWo : FVec Ideal S1024x1024 .f32 := m ((c.tc : Thread nD τ).loc main_arg4)
def aG : FVec Ideal S1024 .f32 := m ((c.tc : Thread nD τ).loc main_arg5)
def aWu : FVec Ideal S1024x4096 .f32 := m ((c.tc : Thread nD τ).loc main_arg6)
def aWd : FVec Ideal S4096x1024 .f32 := m ((c.tc : Thread nD τ).loc main_arg7)

abbrev cH : Fin 4096 → Fin 1024 → EReal := fun t k => aH m c (ix2 t k)
abbrev cOg : Fin 4096 → Fin 384 → EReal := fun t p => aOg m c (ix2 t p)
abbrev cOc : Fin 4096 → Fin 256 → EReal := fun t p => aOc m c (ix2 t p)
abbrev cOa : Fin 4096 → Fin 384 → EReal := fun t p => aOa m c (ix2 t p)
abbrev cWo : Fin 1024 → Fin 1024 → EReal := fun p k => aWo m c (ix2 p k)
abbrev cG : Fin 1024 → EReal := fun k => aG m c (ix1 k)
abbrev cWu : Fin 1024 → Fin 4096 → EReal := fun k n => aWu m c (ix2 k n)
abbrev cWd : Fin 4096 → Fin 1024 → EReal := fun n k => aWd m c (ix2 n k)

set_option maxHeartbeats 4000000

/-- The arrays the host code prepares are the arguments, the two weights of the hidden layer cut into eight blocks. -/
theorem arrays : (∀ (t : Fin 4096) (p : Fin 384), V m c main_v5 (ix2 t p) = cOg m c t p)
    ∧ (∀ (t : Fin 4096) (p : Fin 256), V m c main_v6 (ix2 t p) = cOc m c t p)
    ∧ (∀ (t : Fin 4096) (p : Fin 384), V m c main_v7 (ix2 t p) = cOa m c t p)
    ∧ (∀ p k : Fin 1024, V m c main_v8 (ix2 p k) = cWo m c p k)
    ∧ (∀ (o : Fin 1) (k : Fin 1024), V m c main_v9 (ix2 o k) = cG m c k)
    ∧ (∀ (e : Fin 8) (k : Fin 1024) (q : Fin 512), V m c main_v2 (ix3 e k q) = cWu m c k ⟨e.val * 512 + q.val, by omega⟩)
    ∧ (∀ (e : Fin 8) (q : Fin 512) (k : Fin 1024), V m c main_v4 (ix3 e q k) = cWd m c ⟨e.val * 512 + q.val, by omega⟩ k) := by
  refine ⟨?_, ?_, ?_, ?_, ?_, ?_, ?_⟩ <;> intros <;>
  · unfold V
    after_reads_at
    rfl
theorem VH (t : Fin 4096) (k : Fin 1024) : V m c main_arg0 (ix2 t k) = cH m c t k := congrFun (V_main_arg0 m c) _

theorem lt16 (t : Fin cfg0.N) : t.val < 16 := lt_of_lt_of_eq t.isLt N_0

/-- Where the windows' blocks lie: the rows move with the point's row block, the hidden layer's blocks with its pair. -/
theorem ix_0 : ∀ t : Fin cfg0.N, (cfg0.win 0).index t (0 : Fin 2) = t.val / 4 ∧ (cfg0.win 1).index t (0 : Fin 2) = t.val / 4 ∧ (cfg0.win 2).index t (0 : Fin 2) = t.val / 4
    ∧ (cfg0.win 3).index t (0 : Fin 2) = t.val / 4 ∧ (cfg0.win 4).index t (0 : Fin 2) = 0 ∧ (cfg0.win 5).index t (0 : Fin 2) = 0
    ∧ (cfg0.win 6).index t (0 : Fin 3) = t.val % 4 ∧ (cfg0.win 7).index t (0 : Fin 3) = t.val % 4 ∧ (cfg0.win 8).index t (0 : Fin 2) = t.val / 4
    ∧ (cfg0.win 9).index t (0 : Fin 2) = 0 ∧ (cfg0.win 10).index t (0 : Fin 2) = t.val / 4 ∧ (cfg0.win 11).index t (0 : Fin 2) = t.val / 4 := by decide +kernel
theorem ix_1 : ∀ t : Fin cfg0.N, (cfg0.win 0).index t (1 : Fin 2) = 0 ∧ (cfg0.win 1).index t (1 : Fin 2) = 0 ∧ (cfg0.win 2).index t (1 : Fin 2) = 0
    ∧ (cfg0.win 3).index t (1 : Fin 2) = 0 ∧ (cfg0.win 4).index t (1 : Fin 2) = 0 ∧ (cfg0.win 5).index t (1 : Fin 2) = 0
    ∧ (cfg0.win 6).index t (1 : Fin 3) = 0 ∧ (cfg0.win 7).index t (1 : Fin 3) = 0 ∧ (cfg0.win 8).index t (1 : Fin 2) = 0
    ∧ (cfg0.win 9).index t (1 : Fin 2) = t.val / 4 ∧ (cfg0.win 10).index t (1 : Fin 2) = 0 ∧ (cfg0.win 11).index t (1 : Fin 2) = t.val % 4 := by decide +kernel
theorem ix_2 : ∀ t : Fin cfg0.N, (cfg0.win 6).index t (2 : Fin 3) = 0 ∧ (cfg0.win 7).index t (2 : Fin 3) = 0 := by decide +kernel

/-- Row `r` of the point's row block, -/
abbrev rowOf (t : Fin cfg0.N) (r : Fin 1024) : Fin 4096 := ⟨(t.val / 4) * 1024 + r.val, by have := lt16 t; omega⟩
/-- and column `q` of half `s` of its hidden blocks. -/
abbrev colOf (t : Fin cfg0.N) (s : Fin 2) (q : Fin 512) : Fin 4096 := ⟨(t.val % 4) * 1024 + s.val * 512 + q.val, by omega⟩

open Cert.Tiles (ext2 ext3 still move)

theorem h_apply (t : Fin cfg0.N) (r k : Fin 1024) : bH m c t (ix2 r k) = cH m c (rowOf t r) k :=
  (congrArg (V m c main_arg0) (ext2 (move (ix_0 t).1) (still (ix_1 t).1))).trans (VH m c _ _)
theorem og_apply (t : Fin cfg0.N) (r : Fin 1024) (p : Fin 384) : bOg m c t (ix2 r p) = cOg m c (rowOf t r) p :=
  (congrArg (V m c main_v5) (ext2 (move (ix_0 t).2.1) (still (ix_1 t).2.1))).trans ((arrays m c).1 _ _)
theorem oc_apply (t : Fin cfg0.N) (r : Fin 1024) (p : Fin 256) : bOc m c t (ix2 r p) = cOc m c (rowOf t r) p :=
  (congrArg (V m c main_v6) (ext2 (move (ix_0 t).2.2.1) (still (ix_1 t).2.2.1))).trans ((arrays m c).2.1 _ _)
theorem oa_apply (t : Fin cfg0.N) (r : Fin 1024) (p : Fin 384) : bOa m c t (ix2 r p) = cOa m c (rowOf t r) p :=
  (congrArg (V m c main_v7) (ext2 (move (ix_0 t).2.2.2.1) (still (ix_1 t).2.2.2.1))).trans ((arrays m c).2.2.1 _ _)
theorem wo_apply (t : Fin cfg0.N) (p k : Fin 1024) : bWo m c t (ix2 p k) = cWo m c p k :=
  (congrArg (V m c main_v8) (ext2 (still (ix_0 t).2.2.2.2.1) (still (ix_1 t).2.2.2.2.1))).trans ((arrays m c).2.2.2.1 _ _)
theorem g_apply (t : Fin cfg0.N) (o : Fin 1) (k : Fin 1024) : bGm m c t (ix2 o k) = cG m c k :=
  (congrArg (V m c main_v9) (ext2 (still (ix_0 t).2.2.2.2.2.1) (still (ix_1 t).2.2.2.2.2.1))).trans ((arrays m c).2.2.2.2.1 _ _)
theorem wu_block (t : Fin cfg0.N) (s : Fin 2) (k : Fin 1024) (q : Fin 512) : bWu m c t (ix3 s k q) = cWu m c k ⟨((t.val % 4) * 2 + s.val) * 512 + q.val, by omega⟩ :=
  (congrArg (V m c main_v2) (ext3 (a := ⟨(t.val % 4) * 2 + s.val, by omega⟩) (move (ix_0 t).2.2.2.2.2.2.1) (still (ix_1 t).2.2.2.2.2.2.1) (still (ix_2 t).1))).trans ((arrays m c).2.2.2.2.2.1 _ _ _)
theorem wd_block (t : Fin cfg0.N) (s : Fin 2) (q : Fin 512) (k : Fin 1024) : bWd m c t (ix3 s q k) = cWd m c ⟨((t.val % 4) * 2 + s.val) * 512 + q.val, by omega⟩ k :=
  (congrArg (V m c main_v4) (ext3 (a := ⟨(t.val % 4) * 2 + s.val, by omega⟩) (move (ix_0 t).2.2.2.2.2.2.2.1) (still (ix_1 t).2.2.2.2.2.2.2.1) (still (ix_2 t).2))).trans ((arrays m c).2.2.2.2.2.2 _ _ _)
theorem wu_apply (t : Fin cfg0.N) (s : Fin 2) (k : Fin 1024) (q : Fin 512) : bWu m c t (ix3 s k q) = cWu m c k (colOf t s q) :=
  (wu_block m c t s k q).trans (congrArg (cWu m c k) (Fin.ext (by show ((t.val % 4) * 2 + s.val) * 512 + q.val = (t.val % 4) * 1024 + s.val * 512 + q.val; omega)))
theorem wd_apply (t : Fin cfg0.N) (s : Fin 2) (q : Fin 512) (k : Fin 1024) : bWd m c t (ix3 s q k) = cWd m c (colOf t s q) k :=
  (wd_block m c t s q k).trans (congrArg (fun n => cWd m c n k) (Fin.ext (by show ((t.val % 4) * 2 + s.val) * 512 + q.val = (t.val % 4) * 1024 + s.val * 512 + q.val; omega)))

end Cert.Kernel2Ideal.Fwd
-- ==== Proof.Fwd.Totals.lean ====
module

public import proofs.«01_k».proof.Proof.Fwd.Payloads
public import proofs.«01_k».proof.Proof.Fwd.Arrays
public import proofs.«01_k».proof.Proof.Totals

@[expose] public section

set_option maxRecDepth 16384

noncomputable section

/-! # What the buffers hold along the grid, element by element -/

namespace Cert.Kernel2Ideal.Fwd

open Cert Cert.Kernel2Ideal Cert.Kernel2Ideal.Gen
open Idealize.ShloMosaic Idealize.ShloMosaic.TcCoe
open VecWindow (window put)

/-! ## The halves of a pair of hidden blocks, read at an index -/

section Halves
variable {α : Type}
theorem up0_apply (x : S2x1024x512.Idx → α) (z : Fin 1) (k : Fin 1024) (q : Fin 512) : up0 x (ix3 z k q) = x (ix3 0 k q) :=
  congrArg x (funext fun a => Fin.ext (by
    match a with
    | ⟨0, _⟩ => show 0 + 1 * z.val = 0; omega
    | ⟨1, _⟩ => show 0 + 1 * k.val = k.val; omega
    | ⟨2, _⟩ => show 0 + 1 * q.val = q.val; omega))
theorem up1_apply (x : S2x1024x512.Idx → α) (z : Fin 1) (k : Fin 1024) (q : Fin 512) : up1 x (ix3 z k q) = x (ix3 1 k q) :=
  congrArg x (funext fun a => Fin.ext (by
    match a with
    | ⟨0, _⟩ => show 1 + 1 * z.val = 1; omega
    | ⟨1, _⟩ => show 0 + 1 * k.val = k.val; omega
    | ⟨2, _⟩ => show 0 + 1 * q.val = q.val; omega))
theorem dn0_apply (x : S2x512x1024.Idx → α) (z : Fin 1) (q : Fin 512) (k : Fin 1024) : dn0 x (ix3 z q k) = x (ix3 0 q k) :=
  congrArg x (funext fun a => Fin.ext (by
    match a with
    | ⟨0, _⟩ => show 0 + 1 * z.val = 0; omega
    | ⟨1, _⟩ => show 0 + 1 * q.val = q.val; omega
    | ⟨2, _⟩ => show 0 + 1 * k.val = k.val; omega))
theorem dn1_apply (x : S2x512x1024.Idx → α) (z : Fin 1) (q : Fin 512) (k : Fin 1024) : dn1 x (ix3 z q k) = x (ix3 1 q k) :=
  congrArg x (funext fun a => Fin.ext (by
    match a with
    | ⟨0, _⟩ => show 1 + 1 * z.val = 1; omega
    | ⟨1, _⟩ => show 0 + 1 * q.val = q.val; omega
    | ⟨2, _⟩ => show 0 + 1 * k.val = k.val; omega))

/-- Two halves stored side by side, read at an index. -/
theorem sides_apply (o : S1024x1024.Idx → α) (v w : S1024x512.Idx → α) (r j : Fin 1024) :
    put (put o ![0, 0] S1024x512.size v) ![0, 512] S1024x512.size w (ix2 r j)
      = if h : j.val < 512 then v (ix2 r ⟨j.val, h⟩) else w (ix2 r ⟨j.val - 512, by omega⟩) := by
  by_cases hj : j.val < 512
  · have n1 : ¬ ∀ a : Fin 2, (![0, 512] : Fin 2 → ℕ) a ≤ ((ix2 r j) a).val ∧ ((ix2 r j) a).val < (![0, 512] : Fin 2 → ℕ) a + S1024x512.size a :=
      fun h => absurd (h 1).1 (by show ¬ 512 ≤ j.val; omega)
    have p0 : ∀ a : Fin 2, (![0, 0] : Fin 2 → ℕ) a ≤ ((ix2 r j) a).val ∧ ((ix2 r j) a).val < (![0, 0] : Fin 2 → ℕ) a + S1024x512.size a := by
      intro a
      match a with
      | ⟨0, _⟩ => show 0 ≤ r.val ∧ r.val < 0 + 1024; omega
      | ⟨1, _⟩ => show 0 ≤ j.val ∧ j.val < 0 + 512; omega
    rw [dif_pos hj]
    refine (dif_neg n1).trans ((dif_pos p0).trans (congrArg v (funext fun a => Fin.ext ?_)))
    match a with
    | ⟨0, _⟩ => rfl
    | ⟨1, _⟩ => rfl
  · have p0 : ∀ a : Fin 2, (![0, 512] : Fin 2 → ℕ) a ≤ ((ix2 r j) a).val ∧ ((ix2 r j) a).val < (![0, 512] : Fin 2 → ℕ) a + S1024x512.size a := by
      intro a
      match a with
      | ⟨0, _⟩ => show 0 ≤ r.val ∧ r.val < 0 + 1024; omega
      | ⟨1, _⟩ => show 512 ≤ j.val ∧ j.val < 512 + 512; omega
    rw [dif_neg hj]
    refine (dif_pos p0).trans (congrArg w (funext fun a => Fin.ext ?_))
    match a with
    | ⟨0, _⟩ => rfl
    | ⟨1, _⟩ => rfl
end Halves

/-! ## The rows a block's first point computes -/

variable (m : (ℓ : Loc nD τ sig) → Buf (Elt Ideal) ℓ) (c : Dev nD)

/-- The residual stream after the output projection, -/
def R1 : Fin 4096 → Fin 1024 → EReal := Cert.Fwd.H1 (cH m c) (cOg m c) (cOc m c) (cOa m c) (cWo m c)
/-- the same normalised, -/
abbrev Nm : Fin 4096 → Fin 1024 → EReal := Mlp.Xn (R1 m c) (cG m c)
/-- and the activation before it is squared. -/
def Ac : Fin 4096 → Fin 4096 → EReal := Cert.Fwd.Act (cH m c) (cOg m c) (cOc m c) (cOa m c) (cWo m c) (cG m c) (cWu m c)

theorem pay2_at (t : Fin cfg0.N) (r k : Fin 1024) : k0_pay2 (F := Ideal) (bWo m c t) (bH m c t) (bOg m c t) (bOc m c t) (bOa m c t) (ix2 r k) = R1 m c (rowOf t r) k := by
  rw [pay2_apply]
  simp only [h_apply, og_apply, oc_apply, oa_apply, wo_apply]
  exact Cert.Fwd.H1_parts (cH m c) (cOg m c) (cOc m c) (cOa m c) (cWo m c) (rowOf t r) k
theorem pay3_at (t : Fin cfg0.N) (r k : Fin 1024) :
    k0_pay3 (F := Ideal) (bWo m c t) (bH m c t) (bOg m c t) (bOc m c t) (bOa m c t) (bGm m c t) (ix2 r k) = Nm m c (rowOf t r) k := by
  rw [pay3_apply]
  simp only [pay2_at, g_apply]
  rfl

theorem pt_lt {n : ℕ} (h : n < 16) : (pt n).val = n := Nat.mod_eq_of_lt h

/-- Row `r` of row block `b`. -/
abbrev rowN (b : ℕ) (r : Fin 1024) : Fin 4096 := ⟨(b % 4) * 1024 + r.val, by omega⟩

theorem row_pt {n : ℕ} (h : n < 16) (r : Fin 1024) : rowOf (pt n) r = rowN (n / 4) r :=
  Fin.ext (by show (pt n).val / 4 * 1024 + r.val = (n / 4 % 4) * 1024 + r.val; rw [pt_lt h]; omega)

/-- What the first of four points stores and the others leave is there after each of them. -/
theorem held {α : Type} (f g : ℕ → α) (h0 : ∀ n, n < 16 → n % 4 = 0 → f (n + 1) = g (n / 4)) (hk : ∀ n, n < 16 → ¬ n % 4 = 0 → f (n + 1) = f n) :
    ∀ n, n < 16 → f (n + 1) = g (n / 4)
  | 0, h => h0 0 h rfl
  | n + 1, h => by
    by_cases e : (n + 1) % 4 = 0
    · exact h0 _ h e
    · rw [hk _ h e, held f g h0 hk n (by omega)]; exact congrArg g (by omega)

theorem first {n : ℕ} (h : n < 16) : k0_cond1 (grid0.coords (pt n)) = 1#1 ↔ n % 4 = 0 := by rw [hcond1, pt_lt h]

theorem xS_total (n : ℕ) (hn : n < 16) (r k : Fin 1024) : xS m c (n + 1) (ix2 r k) = Nm m c (rowN (n / 4) r) k :=
  held (fun n => xS m c n (ix2 r k)) (fun b => Nm m c (rowN b r) k)
    (fun n h e => by show xNext _ _ _ _ _ _ _ _ (ix2 r k) = _; unfold xNext; rw [if_pos ((first h).mpr e), pay4_apply, pay3_at, row_pt h])
    (fun n h e => by show xNext _ _ _ _ _ _ _ _ (ix2 r k) = _; unfold xNext; rw [if_neg fun e' => e ((first h).mp e')]) n hn
theorem hS_total (n : ℕ) (hn : n < 16) (r k : Fin 1024) : hS m c (n + 1) (ix2 r k) = R1 m c (rowN (n / 4) r) k :=
  held (fun n => hS m c n (ix2 r k)) (fun b => R1 m c (rowN b r) k)
    (fun n h e => by show hOut _ _ _ _ _ _ _ (ix2 r k) = _; unfold hOut; rw [if_pos ((first h).mpr e), pay2_at, row_pt h])
    (fun n h e => by show hOut _ _ _ _ _ _ _ (ix2 r k) = _; unfold hOut; rw [if_neg fun e' => e ((first h).mp e')]) n hn
theorem tS_total (n : ℕ) (hn : n < 16) (k r : Fin 1024) : tS m c (n + 1) (ix2 k r) = Nm m c (rowN (n / 4) r) k :=
  held (fun n => tS m c n (ix2 k r)) (fun b => Nm m c (rowN b r) k)
    (fun n h e => by show tOut _ _ _ _ _ _ _ _ (ix2 k r) = _; unfold tOut; rw [if_pos ((first h).mpr e), pay5_apply, pay3_at, row_pt h])
    (fun n h e => by show tOut _ _ _ _ _ _ _ _ (ix2 k r) = _; unfold tOut; rw [if_neg fun e' => e ((first h).mp e')]) n hn

/-! ## The activations and the second residual stream -/

/-- Column `q` of half `s` of pair `j` of hidden blocks. -/
abbrev colN (j : ℕ) (s : Fin 2) (q : Fin 512) : Fin 4096 := ⟨(j % 4) * 1024 + s.val * 512 + q.val, by omega⟩

theorem col_pt {n : ℕ} (h : n < 16) (s : Fin 2) (q : Fin 512) : colOf (pt n) s q = colN n s q :=
  Fin.ext (by show (pt n).val % 4 * 1024 + s.val * 512 + q.val = (n % 4) * 1024 + s.val * 512 + q.val; rw [pt_lt h])

theorem pay7_at (n : ℕ) (hn : n < 16) (r : Fin 1024) (q : Fin 512) :
    k0_pay7 (F := Ideal) (xS m c (n + 1)) (up0 (bWu m c (pt n))) (ix2 r q) = Ac m c (rowN (n / 4) r) (colN n 0 q) := by
  rw [pay7_apply]
  simp only [up0_apply, wu_apply, xS_total m c n hn, col_pt hn]
  rfl
theorem pay9_at (n : ℕ) (hn : n < 16) (r : Fin 1024) (q : Fin 512) :
    k0_pay9 (F := Ideal) (xS m c (n + 1)) (up1 (bWu m c (pt n))) (ix2 r q) = Ac m c (rowN (n / 4) r) (colN n 1 q) := by
  rw [pay9_apply]
  simp only [up1_apply, wu_apply, xS_total m c n hn, col_pt hn]
  rfl

/-- What pair `j` of hidden blocks adds to row `t`. -/
def part (t : Fin 4096) (k : Fin 1024) (j : ℕ) : EReal :=
  ∑ s : Fin 2, ∑ q : Fin 512, Ac m c t (colN j s q) * Ac m c t (colN j s q) * cWd m c (colN j s q) k

theorem aS_step (n : ℕ) (hn : n < 16) (r k : Fin 1024) :
    aS m c (n + 1) (ix2 r k) = (if n % 4 = 0 then R1 m c (rowN (n / 4) r) k else aS m c n (ix2 r k)) + part m c (rowN (n / 4) r) k n := by
  show aNext (xS m c (n + 1)) (bWu m c (pt n)) (bWd m c (pt n)) (aReset (grid0.coords (pt n)) (bH m c (pt n)) (bOg m c (pt n)) (bOc m c (pt n)) (bOa m c (pt n)) (bWo m c (pt n)) (aS m c n)) (ix2 r k) = _
  unfold aNext part
  rw [pay1_apply, pay11_apply, Fin.sum_univ_two]
  simp only [pay7_at m c n hn, pay9_at m c n hn, dn0_apply, dn1_apply, wd_apply, col_pt hn]
  refine congrArg (· + _) ?_
  unfold aReset
  by_cases e : n % 4 = 0
  · rw [if_pos ((first hn).mpr e), if_pos e, pay6_apply, pay2_at, row_pt hn]
  · rw [if_neg (fun e' => e ((first hn).mp e')), if_neg e]

theorem part_mod (t : Fin 4096) (k : Fin 1024) (n : ℕ) : part m c t k n = part m c t k (n % 4) := by
  have e : ∀ s q, colN n s q = colN (n % 4) s q := fun s q => Fin.ext (by show (n % 4) * 1024 + s.val * 512 + q.val = (n % 4 % 4) * 1024 + s.val * 512 + q.val; omega)
  unfold part; simp only [e]

/-- The second residual stream after a point: the pairs of hidden blocks so far. -/
theorem aS_sum (r k : Fin 1024) : ∀ n (_ : n < 16),
    aS m c (n + 1) (ix2 r k) = R1 m c (rowN (n / 4) r) k + ∑ j ∈ Finset.range (n % 4 + 1), part m c (rowN (n / 4) r) k j
  | 0, h => by rw [aS_step m c 0 h, if_pos rfl, Finset.sum_range_one]
  | n + 1, h => by
    rw [aS_step m c (n + 1) h, part_mod]
    by_cases e : (n + 1) % 4 = 0
    · rw [if_pos e, e, Finset.sum_range_one]
    · have e1 : (n + 1) / 4 = n / 4 := by omega
      have e2 : (n + 1) % 4 = n % 4 + 1 := by omega
      rw [if_neg e, aS_sum r k n (by omega), e1, e2, Finset.sum_range_succ _ (n % 4 + 1), ← add_assoc]

/-- After the last pair it is the whole residual stream. -/
theorem aS_total (n : ℕ) (hn : n < 16) (h3 : n % 4 = 3) (r k : Fin 1024) :
    aS m c (n + 1) (ix2 r k) = Cert.Fwd.H2 (cH m c) (cOg m c) (cOc m c) (cOa m c) (cWo m c) (cG m c) (cWu m c) (cWd m c) (rowN (n / 4) r) k := by
  rw [aS_sum m c r k n hn, h3]
  unfold Cert.Fwd.H2
  rw [Cert.KernelIdeal.Body.sum_cols]
  rfl

/-- The activations' block at a point. -/
theorem c_total (n : ℕ) (hn : n < 16) (r j : Fin 1024) :
    cBlk (xS m c (n + 1)) (bWu m c (pt n)) (ix2 r j) = Ac m c (rowN (n / 4) r) ⟨(n % 4) * 1024 + j.val, by omega⟩ := by
  unfold cBlk cOut
  rw [sides_apply]
  split
  · rw [pay8_apply, pay7_at m c n hn]
    exact congrArg _ (Fin.ext (by show (n % 4) * 1024 + 0 * 512 + j.val = (n % 4) * 1024 + j.val; omega))
  · rw [pay10_apply, pay9_at m c n hn]
    exact congrArg _ (Fin.ext (by show (n % 4) * 1024 + 1 * 512 + (j.val - 512) = (n % 4) * 1024 + j.val; omega))

end Cert.Kernel2Ideal.Fwd
-- ==== Proof.Fwd.Body.lean ====
module

public import proofs.«01_k».proof.Proof.Fwd.State

@[expose] public section

set_option maxRecDepth 16384

noncomputable section

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Cert.KernelIdeal.Body (readAt_window readCov_window)

variable {F : FTy → Type} [FloatOps F]

local notation "𝕄" => MT nD τ sig Unit (Elt F) ℕ (UR sig nD τ) ℕ

set_option maxHeartbeats 8000000 in
/-- The body at any point, on any buffers: every buffer is left at the function of what it held that the definitions above name. -/
theorem run_body (c : Dev nD) (i : grid0.Coords) (arg2 : Memref sig .tc .vmem S1024x1024 .f32) (harg2 : arg2.IsWhole) (arg3 : Memref sig .tc .vmem S1024x384 .bf16) (harg3 : arg3.IsWhole) (arg4 : Memref sig .tc .vmem S1024x256 .bf16) (harg4 : arg4.IsWhole) (arg5 : Memref sig .tc .vmem S1024x384 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S2x1024x512 .bf16) (harg8 : arg8.IsWhole) (arg9 : Memref sig .tc .vmem S2x512x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x1024 .f32) (harg14 : arg14.IsWhole) (arg15 : Memref sig .tc .vmem S1024x1024 .bf16) (harg15 : arg15.IsWhole)
    (h : Vec F S1024x1024 .f32) (og : Vec F S1024x384 .bf16) (oc : Vec F S1024x256 .bf16) (oa : Vec F S1024x384 .bf16) (wo : Vec F S1024x1024 .bf16) (g : Vec F S1x1024 .f32) (wu : Vec F S2x1024x512 .bf16) (wd : Vec F S2x512x1024 .bf16) (o8 : Vec F S1024x1024 .f32) (o9 : Vec F S1024x1024 .bf16) (o10 : Vec F S1024x1024 .f32) (o11 : Vec F S1024x1024 .bf16) (s14 : Vec F S1024x1024 .f32) (s15 : Vec F S1024x1024 .bf16) (E : Set ℕ) (K : PUnit → sProp 𝕄) :
    iprop(owns (c : Thread nD τ) arg2 fullShare h
        ∗ owns (c : Thread nD τ) arg3 fullShare og
        ∗ owns (c : Thread nD τ) arg4 fullShare oc
        ∗ owns (c : Thread nD τ) arg5 fullShare oa
        ∗ owns (c : Thread nD τ) arg6 fullShare wo
        ∗ owns (c : Thread nD τ) arg7 fullShare g
        ∗ owns (c : Thread nD τ) arg8 fullShare wu
        ∗ owns (c : Thread nD τ) arg9 fullShare wd
        ∗ owns (c : Thread nD τ) arg10 fullShare o8
        ∗ owns (c : Thread nD τ) arg11 fullShare o9
        ∗ owns (c : Thread nD τ) arg12 fullShare o10
        ∗ owns (c : Thread nD τ) arg13 fullShare o11
        ∗ owns (c : Thread nD τ) arg14 fullShare s14
        ∗ owns (c : Thread nD τ) arg15 fullShare s15
        ∗ (iprop(owns (c : Thread nD τ) arg2 fullShare h
        ∗ owns (c : Thread nD τ) arg3 fullShare og
        ∗ owns (c : Thread nD τ) arg4 fullShare oc
        ∗ owns (c : Thread nD τ) arg5 fullShare oa
        ∗ owns (c : Thread nD τ) arg6 fullShare wo
        ∗ owns (c : Thread nD τ) arg7 fullShare g
        ∗ owns (c : Thread nD τ) arg8 fullShare wu
        ∗ owns (c : Thread nD τ) arg9 fullShare wd
        ∗ owns (c : Thread nD τ) arg10 fullShare (hOut i h og oc oa wo o8)
        ∗ owns (c : Thread nD τ) arg11 fullShare (tOut i h og oc oa wo g o9)
        ∗ owns (c : Thread nD τ) arg12 fullShare (sOut i (aNext (xNext i h og oc oa wo g s15) wu wd (aReset i h og oc oa wo s14)) o10)
        ∗ owns (c : Thread nD τ) arg13 fullShare (cOut (xNext i h og oc oa wo g s15) wu o11)
        ∗ owns (c : Thread nD τ) arg14 fullShare (aNext (xNext i h og oc oa wo g s15) wu wd (aReset i h og oc oa wo s14))
        ∗ owns (c : Thread nD τ) arg15 fullShare (xNext i h og oc oa wo g s15)) -∗ K ⟨⟩))
      ⊢ wp frame (wpE (defs₀ (F := F)) Variants.none c none) E (cc0_outproj_mlp_fwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_outproj_mlp_fwd_eq_skeleton]; unfold cc0_outproj_mlp_fwd_skel
  simp only [k0_part2_eq_skeleton]
  unfold k0_part2_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    by_cases h1 : k0_cond1 i = 1#1 <;> by_cases h2 : k0_cond2 i = 1#1 <;>
    (simp only [h1, h2, dite_true, dite_false, if_true, if_false, readAt_window, readCov_window, View.read_writes_cons_put _ _ _ _ _ rfl, View.writes_nil,
       Memref.IsWhole.read_unread, window_sq, put_sq, window_384, window_256, window_row, VecWindow.window_put_same, VecWindow.put_put_same, xNext, aReset, aNext, hOut, tOut, sOut, cOut, up0, up1, dn0, dn1]
     all_goals first | rfl | skip)
  isplitl [H9]
  · iexists _; isplitr; swap; · iexact H9
    ipureintro
    delta run_body.sl.H11_2 run_body.sl.H12_1 run_body.sl.v37 run_body.sl.r_3 run_body.sl.v29 run_body.sl.v3 run_body.sl.r run_body.sl.r_1 run_body.sl.r_2
    by_cases h1 : k0_cond1 i = 1#1 <;> by_cases h2 : k0_cond2 i = 1#1 <;>
    (simp only [h1, h2, dite_true, dite_false, if_true, if_false, readAt_window, readCov_window, View.read_writes_cons_put _ _ _ _ _ rfl, View.writes_nil,
       Memref.IsWhole.read_unread, window_sq, put_sq, window_384, window_256, window_row, VecWindow.window_put_same, VecWindow.put_put_same, xNext, aReset, aNext, hOut, tOut, sOut, cOut, up0, up1, dn0, dn1]
     all_goals first | rfl | skip)
  isplitl [H10]
  · iexists _; isplitr; swap; · iexact H10
    ipureintro
    delta run_body.sl.H11_2 run_body.sl.H12_1 run_body.sl.v37 run_body.sl.r_3 run_body.sl.v29 run_body.sl.v3 run_body.sl.r run_body.sl.r_1 run_body.sl.r_2
    by_cases h1 : k0_cond1 i = 1#1 <;> by_cases h2 : k0_cond2 i = 1#1 <;>
    (simp only [h1, h2, dite_true, dite_false, if_true, if_false, readAt_window, readCov_window, View.read_writes_cons_put _ _ _ _ _ rfl, View.writes_nil,
       Memref.IsWhole.read_unread, window_sq, put_sq, window_384, window_256, window_row, VecWindow.window_put_same, VecWindow.put_put_same, xNext, aReset, aNext, hOut, tOut, sOut, cOut, up0, up1, dn0, dn1]
     all_goals first | rfl | skip)
  isplitl [H11]
  · iexists _; isplitr; swap; · iexact H11
    ipureintro
    delta run_body.sl.H11_2 run_body.sl.H12_1 run_body.sl.v37 run_body.sl.r_3 run_body.sl.v29 run_body.sl.v3 run_body.sl.r run_body.sl.r_1 run_body.sl.r_2
    by_cases h1 : k0_cond1 i = 1#1 <;> by_cases h2 : k0_cond2 i = 1#1 <;>
    (simp only [h1, h2, dite_true, dite_false, if_true, if_false, readAt_window, readCov_window, View.read_writes_cons_put _ _ _ _ _ rfl, View.writes_nil,
       Memref.IsWhole.read_unread, window_sq, put_sq, window_384, window_256, window_row, VecWindow.window_put_same, VecWindow.put_put_same, xNext, aReset, aNext, hOut, tOut, sOut, cOut, up0, up1, dn0, dn1]
     all_goals first | rfl | skip)
  isplitl [H12]
  · iexists _; isplitr; swap; · iexact H12
    ipureintro
    delta run_body.sl.H11_2 run_body.sl.H12_1 run_body.sl.v37 run_body.sl.r_3 run_body.sl.v29 run_body.sl.v3 run_body.sl.r run_body.sl.r_1 run_body.sl.r_2
    by_cases h1 : k0_cond1 i = 1#1 <;> by_cases h2 : k0_cond2 i = 1#1 <;>
    (simp only [h1, h2, dite_true, dite_false, if_true, if_false, readAt_window, readCov_window, View.read_writes_cons_put _ _ _ _ _ rfl, View.writes_nil,
       Memref.IsWhole.read_unread, window_sq, put_sq, window_384, window_256, window_row, VecWindow.window_put_same, VecWindow.put_put_same, xNext, aReset, aNext, hOut, tOut, sOut, cOut, up0, up1, dn0, dn1]
     all_goals first | rfl | skip)
  iexists _; isplitr; swap; · iexact H13
  ipureintro
  delta run_body.sl.H11_2 run_body.sl.H12_1 run_body.sl.v37 run_body.sl.r_3 run_body.sl.v29 run_body.sl.v3 run_body.sl.r run_body.sl.r_1 run_body.sl.r_2
  by_cases h1 : k0_cond1 i = 1#1 <;>
  (simp only [h1, dite_true, dite_false, if_true, if_false, readAt_window, readCov_window, View.read_writes_cons_put _ _ _ _ _ rfl, View.writes_nil,
     Memref.IsWhole.read_unread, window_sq, put_sq, window_384, window_256, window_row, VecWindow.window_put_same, VecWindow.put_put_same, xNext, aReset, aNext, hOut, tOut, sOut, cOut, up0, up1, dn0, dn1]
   all_goals first | rfl | skip)

end Cert.Kernel2Ideal.Fwd
-- ==== Proof.Fwd.Region.lean ====
module

public import proofs.«01_k».proof.Proof.Fwd.Sweep
public import proofs.«01_k».proof.Proof.Fwd.Body
public import Idealize.ShloMosaic.Lib.Claim

@[expose] public section

set_option maxRecDepth 16384

noncomputable section

/-! # The call: every point keeps the sums of the sweep, and the launch ends with what the write-backs left -/

namespace Cert.Kernel2Ideal.Fwd

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second residual stream's accumulator and the normalised rows. -/
abbrev sc0 : Memref sig .tc .vmem S1024x1024 .f32 := Memref.whole cc0_scratch0
abbrev sc1 : Memref sig .tc .vmem S1024x1024 .bf16 := Memref.whole cc0_scratch1

/-- Between the points: inside a block of rows the two buffers hold what the sweep says; the generator register is at some state. -/
def Inv (c : Dev nD) (n : ℕ) : sProp 𝕄 :=
  iprop(((∃ s, ⌜n % 4 ≠ 0 → s = aS m c n⌝ ∗ owns (c : Thread nD τ) sc0 fullShare s)
      ∗ (∃ s, ⌜n % 4 ≠ 0 → s = xS m c n⌝ ∗ owns (c : Thread nD τ) sc1 fullShare s))
    ∗ ∃ r, prngReg c r)

theorem rest_eq (c : Dev nD) :
    (Pipeline.ΦA spec0 c : sProp 𝕄)
      = iprop(((∃ d, owns (c : Thread nD τ) sc0 fullShare d) ∗ (∃ d, owns (c : Thread nD τ) sc1 fullShare d)) ∗ ∃ r, prngReg c r) := by
  unfold Pipeline.ΦA; rw [scopedRest0_eq]; simp only [sc0, sc1, owns_whole]; try rfl

theorem Inv_of_rest (c : Dev nD) : (Pipeline.ΦA spec0 c : sProp 𝕄) ⊢ Inv m c 0 := by
  rw [rest_eq]; unfold Inv
  iintro ⟨⟨⟨%d0, H0⟩, ⟨%d1, H1⟩⟩, Hg⟩
  isplitl [H0 H1]
  · isplitl [H0]
    · iexists d0; isplitr; · ipureintro; exact fun h => absurd rfl h
      iexact H0
    iexists d1; isplitr; · ipureintro; exact fun h => absurd rfl h
    iexact H1
  iexact Hg

theorem rest_of_Inv (c : Dev nD) (n : ℕ) : Inv m c n ⊢ (Pipeline.ΦA spec0 c : sProp 𝕄) := by
  rw [rest_eq]; unfold Inv
  iintro ⟨⟨⟨%d0, %h0, H0⟩, ⟨%d1, %h1, H1⟩⟩, Hg⟩
  isplitl [H0 H1]
  · isplitl [H0]
    · iexists d0; iexact H0
    iexists d1; iexact H1
  iexact Hg

/-- The proof data: the arrays as the region finds them, each input's buffer at its block, the outputs' as the sweep says, `Inv` between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hS m c (t.val + 1)
    | ⟨9, _⟩ => tS m c (t.val + 1)
    | ⟨10, _⟩ => aS m c (t.val + 1)
    | ⟨11, _⟩ => cBlk (xS m c (t.val + 1)) (bWu m c t)
    | ⟨_ + 12, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = hS m c (t.val + 1) := by dsimp only [dats]
theorem after_9 (c : Dev nD) (t : Fin cfg0.N) : (dats m 0 c).after 9 t = tS m c (t.val + 1) := by dsimp only [dats]
theorem after_10 (c : Dev nD) (t : Fin cfg0.N) : (dats m 0 c).after 10 t = aS m c (t.val + 1) := by dsimp only [dats]
theorem after_11 (c : Dev nD) (t : Fin cfg0.N) : (dats m 0 c).after 11 t = cBlk (xS m c (t.val + 1)) (bWu m c t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem idle8 (t : Fin cfg0.N) : cfg0.idle 8 (cfg0.grid.coords t) = false ↔ k0_cond1 (grid0.coords t) = 1#1 := by
  show (!(k0_cond1 (grid0.coords t) == 1#1)) = false ↔ _
  simp
theorem idle9 (t : Fin cfg0.N) : cfg0.idle 9 (cfg0.grid.coords t) = false ↔ k0_cond1 (grid0.coords t) = 1#1 := by
  show (!(k0_cond1 (grid0.coords t) == 1#1)) = false ↔ _
  simp
theorem idle10 (t : Fin cfg0.N) : cfg0.idle 10 (cfg0.grid.coords t) = false ↔ k0_cond2 (grid0.coords t) = 1#1 := by
  show (!(k0_cond2 (grid0.coords t) == 1#1)) = false ↔ _
  simp

/-- Inside a block of rows the buffer of output 8 holds what the block's first point stored. -/
theorem before_8 (c : Dev nD) (d) : ∀ (n : ℕ) (hn : n < cfg0.N), n % 4 ≠ 0 → (dats m 0 c).before 8 ⟨n, hn⟩ d = hS m c n
  | 0, _, h => absurd rfl h
  | n + 1, hn, h => by
    have hn' : n < cfg0.N := Nat.lt_of_succ_lt hn
    rw [Dat.before_of_pos _ _ _ (Nat.succ_ne_zero n) (by rfl)]
    have hf : (cfg0.win 8).flush ⟨n, hn'⟩ = false := by
      rw [Bool.eq_false_iff]; intro hf; have := (flush0_8 _).mp hf; dsimp only at this; omega
    show (if (cfg0.win 8).flush ⟨n, hn'⟩ then d else (dats m 0 c).left 8 ⟨n, hn'⟩ d) = _
    rw [hf, if_neg Bool.false_ne_true]
    unfold Dat.left
    by_cases hz : n % 4 = 0
    · have hi : cfg0.idle 8 (cfg0.grid.coords ⟨n, hn'⟩) = false := (idle8 _).mpr ((hcond1 _).mpr hz)
      rw [hi]
      show (dats m 0 c).kept 8 _ d = _
      unfold Dat.kept
      rw [Pipeline.fill_of_clip_none 8 _ (fun _ => rfl) d ((dats m 0 c).after 8 _), Window.fill_cut, after_8]
    · have hc : ¬ k0_cond1 (grid0.coords ⟨n, hn'⟩) = 1#1 := fun e => hz ((hcond1 _).mp e)
      have hi : cfg0.idle 8 (cfg0.grid.coords ⟨n, hn'⟩) = true := by
        rw [← Bool.not_eq_false]; exact fun e => hc ((idle8 _).mp e)
      rw [hi]
      show (dats m 0 c).before 8 _ d = _
      rw [before_8 c d n hn' hz]
      have hs := hS_succ m c ⟨n, hn'⟩
      unfold hOut at hs
      rw [if_neg hc] at hs
      exact hs.symm

/-- Inside a block of rows the buffer of output 9 holds what the block's first point stored. -/
theorem before_9 (c : Dev nD) (d) : ∀ (n : ℕ) (hn : n < cfg0.N), n % 4 ≠ 0 → (dats m 0 c).before 9 ⟨n, hn⟩ d = tS m c n
  | 0, _, h => absurd rfl h
  | n + 1, hn, h => by
    have hn' : n < cfg0.N := Nat.lt_of_succ_lt hn
    rw [Dat.before_of_pos _ _ _ (Nat.succ_ne_zero n) (by rfl)]
    have hf : (cfg0.win 9).flush ⟨n, hn'⟩ = false := by
      rw [Bool.eq_false_iff]; intro hf; have := (flush0_9 _).mp hf; dsimp only at this; omega
    show (if (cfg0.win 9).flush ⟨n, hn'⟩ then d else (dats m 0 c).left 9 ⟨n, hn'⟩ d) = _
    rw [hf, if_neg Bool.false_ne_true]
    unfold Dat.left
    by_cases hz : n % 4 = 0
    · have hi : cfg0.idle 9 (cfg0.grid.coords ⟨n, hn'⟩) = false := (idle9 _).mpr ((hcond1 _).mpr hz)
      rw [hi]
      show (dats m 0 c).kept 9 _ d = _
      unfold Dat.kept
      rw [Pipeline.fill_of_clip_none 9 _ (fun _ => rfl) d ((dats m 0 c).after 9 _), Window.fill_cut, after_9]
    · have hc : ¬ k0_cond1 (grid0.coords ⟨n, hn'⟩) = 1#1 := fun e => hz ((hcond1 _).mp e)
      have hi : cfg0.idle 9 (cfg0.grid.coords ⟨n, hn'⟩) = true := by
        rw [← Bool.not_eq_false]; exact fun e => hc ((idle9 _).mp e)
      rw [hi]
      show (dats m 0 c).before 9 _ d = _
      rw [before_9 c d n hn' hz]
      have hs := tS_succ m c ⟨n, hn'⟩
      unfold tOut at hs
      rw [if_neg hc] at hs
      exact hs.symm

/-- A window's buffer is left as the proof data says: at `after` where the window is live or written back, as it was found elsewhere. -/
theorem leaves_of {c : Dev nD} (dat : Dat τ (Elt F) Unit ℕ (UR sig nD τ) ℕ cfg0 c) (w : Fin cfg0.W) (t : Fin cfg0.N) (d X : (cfg0.win w).block.Idx → Elt F (cfg0.win w).elt)
    (h1 : cfg0.idle w (cfg0.grid.coords t) = false ∨ (cfg0.win w).flush t = true → X = dat.after w t)
    (h2 : ¬ cfg0.idle w (cfg0.grid.coords t) = false → X = dat.before w t d) :
    owns (c : Thread nD τ) ((cfg0.win w).stage (cfg0.slots t w)) fullShare X ⊢ (dat.leavesExact w t : sProp 𝕄) := by
  unfold Dat.leavesExact
  cases hi : cfg0.idle w (cfg0.grid.coords t)
  · rw [h1 (.inl hi)]
  · cases hf : (cfg0.win w).flush t
    · rw [h2 (by rw [hi]; exact Bool.noConfusion)]; iintro H; iexists d; iexact H
    · rw [h1 (.inr hf)]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t ∗ (dats m 0 c).leavesExact 9 t ∗ (dats m 0 c).leavesExact 10 t ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl, after_0, after_1, after_2, after_3, after_4, after_5, after_6, after_7, after_11,
    show (dats m 0 c).Φ t.succ = Inv m c (t.val + 1) from rfl, show (dats m 0 c).Φ t.castSucc = Inv m c t.val from rfl]
  unfold Inv
  iintro ⟨⟨⟨⟨%s0, %hs0, S0⟩, ⟨%s1, %hs1, S1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_body c (grid0.coords t) _ _ _ _ _ _ _ _ _ _ _ _ _ _ _ _ _ _ _ _ _ _ _ _ _ _ _ _
    (bH m c t) (bOg m c t) (bOc m c t) (bOa m c t) (bWo m c t) (bGm m c t) (bWu m c t) (bWd m c t)
    ((dats m 0 c).before 8 t d8) ((dats m 0 c).before 9 t d9) ((dats m 0 c).before 10 t d10) ((dats m 0 c).before 11 t d11) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  iintro ⟨H0, H1, H2, H3, H4, H5, H6, H7, H8, H9, H10, H11, S0, S1⟩
  rw [xNext_found m c t s1 hs1, aNext_found m c t s0 hs0, cOut_eq]
  isplitl [S0 S1 Hg]
  · isplitl [S0 S1]
    · isplitl [S0]
      · iexists _; isplitr; · ipureintro; exact fun _ => rfl
        iexact S0
      iexists _; isplitr; · ipureintro; exact fun _ => rfl
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_of (dats m 0 c) 8 t d8 (hOut (grid0.coords t) (bH m c t) (bOg m c t) (bOc m c t) (bOa m c t) (bWo m c t) ((dats m 0 c).before 8 t d8))
      (fun _ => by rw [after_8]; exact hOut_found m c t _ (before_8 m c d8 t.val t.isLt))
      (fun h => by unfold hOut; rw [if_neg (fun h4 => h ((idle8 t).mpr h4))]))
    iexact H8
  isplitl [H9]
  · iapply (leaves_of (dats m 0 c) 9 t d9 (tOut (grid0.coords t) (bH m c t) (bOg m c t) (bOc m c t) (bOa m c t) (bWo m c t) (bGm m c t) ((dats m 0 c).before 9 t d9))
      (fun _ => by rw [after_9]; exact tOut_found m c t _ (before_9 m c d9 t.val t.isLt))
      (fun h => by unfold tOut; rw [if_neg (fun h4 => h ((idle9 t).mpr h4))]))
    iexact H9
  isplitl [H10]
  · iapply (leaves_of (dats m 0 c) 10 t d10 (sOut (grid0.coords t) (aS m c (t.val + 1)) ((dats m 0 c).before 10 t d10))
      (fun h => by
        rw [after_10]; unfold sOut
        rw [if_pos (h.elim (idle10 t).mp (fun hf => (hcond2 t).mpr ((flush0_10 t).mp hf)))])
      (fun h => by unfold sOut; rw [if_neg (fun h4 => h ((idle10 t).mpr h4))]))
    iexact H10
  iexact H11

/-- The body table's row at a point's slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem share_eq (c : Dev nD) : ∀ w, (dats (F := F) m 0 c).share w = fullShare := by
  intro w; fin_cases w <;> rfl

set_option backward.isDefEq.respectTransparency.types false in
/-- The launch: every final state holds each window's array at what the write-backs left, every other unscoped buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => share_eq m c) (howed := fun _ _ => rfl) (V := V m) (hmain := hmain m Variants.none)
    (hA := A_eq m) (hin := Inv_of_rest m) (hout := fun c => rest_of_Inv m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) (run_main m ρ)) ((θ_run defs _ _).mono (fun _ h => h.2) (run_main_quiescent m ρ))

end Cert.Kernel2Ideal.Fwd
-- ==== Proof.Fwd.Finals.lean ====
module

public import proofs.«01_k».proof.Proof.Fwd.Totals
public import proofs.«01_k».proof.Proof.Fwd.Region

@[expose] public section

set_option maxRecDepth 16384

noncomputable section

/-! # The result arrays after the run -/

namespace Cert.Kernel2Ideal.Fwd

open Cert Cert.Kernel2Ideal Cert.Kernel2Ideal.Gen
open Idealize.ShloMosaic Idealize.ShloMosaic.TcCoe

open Cert.Tiles (ext2 all2 mem_of still move)

variable (m : (ℓ : Loc nD τ sig) → Buf (Elt Ideal) ℓ) (c : Dev nD)

/-- The residual stream after the output projection, -/
def G8 : S4096x1024.Idx → EReal := fun i => R1 m c (i 0) (i 1)
/-- the same normalised and transposed, -/
def G9 : S1024x4096.Idx → EReal := fun i => Nm m c (i 1) (i 0)
/-- the residual stream after the hidden layer, -/
def G10 : S4096x1024.Idx → EReal := fun i => Cert.Fwd.H2 (cH m c) (cOg m c) (cOc m c) (cOa m c) (cWo m c) (cG m c) (cWu m c) (cWd m c) (i 0) (i 1)
/-- and the activations. -/
def G11 : S4096x4096.Idx → EReal := fun i => Ac m c (i 0) (i 1)

theorem rows_mod (t : Fin cfg0.N) (r : Fin 1024) : t.val / 4 * 1024 + r.val = (rowN (t.val / 4) r).val := by
  have := lt16 t
  show _ = (t.val / 4 % 4) * 1024 + r.val
  omega
theorem emb_8 (t : Fin cfg0.N) (r k : Fin 1024) : ((cfg0.win 8).blk t).view.emb (ix2 r k) = (ix2 (rowN (t.val / 4) r) k : S4096x1024.Idx) :=
  ext2 ((move (ix_0 t).2.2.2.2.2.2.2.2.1).trans (rows_mod t r)) (still (ix_1 t).2.2.2.2.2.2.2.2.1)
theorem emb_9 (t : Fin cfg0.N) (k r : Fin 1024) : ((cfg0.win 9).blk t).view.emb (ix2 k r) = (ix2 k (rowN (t.val / 4) r) : S1024x4096.Idx) :=
  ext2 (still (ix_0 t).2.2.2.2.2.2.2.2.2.1) ((move (ix_1 t).2.2.2.2.2.2.2.2.2.1).trans (rows_mod t r))
theorem emb_10 (t : Fin cfg0.N) (r k : Fin 1024) : ((cfg0.win 10).blk t).view.emb (ix2 r k) = (ix2 (rowN (t.val / 4) r) k : S4096x1024.Idx) :=
  ext2 ((move (ix_0 t).2.2.2.2.2.2.2.2.2.2.1).trans (rows_mod t r)) (still (ix_1 t).2.2.2.2.2.2.2.2.2.2.1)
theorem emb_11 (t : Fin cfg0.N) (r j : Fin 1024) : ((cfg0.win 11).blk t).view.emb (ix2 r j) = (ix2 (rowN (t.val / 4) r) ⟨(t.val % 4) * 1024 + j.val, by omega⟩ : S4096x4096.Idx) :=
  ext2 ((move (ix_0 t).2.2.2.2.2.2.2.2.2.2.2).trans (rows_mod t r)) (move (ix_1 t).2.2.2.2.2.2.2.2.2.2.2)

theorem flushed_8 (t : Fin cfg0.N) (hf : (cfg0.win 8).flush t = true) : (dats m 0 c).flushed 8 t = ((cfg0.win 8).blk t).view.read (Elt Ideal) (G8 m c) :=
  (congrArg ((cfg0.win 8).cut (grid0.coords t)) (after_8 m c t)).trans
    (funext (all2 fun x y => (hS_total m c t.val (lt16 t) x y).trans (congrArg (G8 m c) (emb_8 t x y)).symm))
theorem flushed_9 (t : Fin cfg0.N) (hf : (cfg0.win 9).flush t = true) : (dats m 0 c).flushed 9 t = ((cfg0.win 9).blk t).view.read (Elt Ideal) (G9 m c) :=
  (congrArg ((cfg0.win 9).cut (grid0.coords t)) (after_9 m c t)).trans
    (funext (all2 fun x y => (tS_total m c t.val (lt16 t) x y).trans (congrArg (G9 m c) (emb_9 t x y)).symm))
theorem flushed_10 (t : Fin cfg0.N) (hf : (cfg0.win 10).flush t = true) : (dats m 0 c).flushed 10 t = ((cfg0.win 10).blk t).view.read (Elt Ideal) (G10 m c) :=
  (congrArg ((cfg0.win 10).cut (grid0.coords t)) (after_10 m c t)).trans
    (funext (all2 fun x y => (aS_total m c t.val (lt16 t) ((flush0_10 t).mp hf) x y).trans (congrArg (G10 m c) (emb_10 t x y)).symm))
theorem flushed_11 (t : Fin cfg0.N) (hf : (cfg0.win 11).flush t = true) : (dats m 0 c).flushed 11 t = ((cfg0.win 11).blk t).view.read (Elt Ideal) (G11 m c) :=
  (congrArg ((cfg0.win 11).cut (grid0.coords t)) (after_11 m c t)).trans
    (funext (all2 fun x y => ((congrFun (congrArg (fun p => cBlk (xS m c (t.val + 1)) (bWu m c p)) (pt_val t).symm) _).trans (c_total m c t.val (lt16 t) x y)).trans
      (congrArg (G11 m c) (emb_11 t x y)).symm))

theorem row_block (t : Fin 4096) : rowN (t.val / 1024) ⟨t.val % 1024, by omega⟩ = t := Fin.ext (by show (t.val / 1024 % 4) * 1024 + t.val % 1024 = t.val; omega)
theorem row_point {n : ℕ} (hn : n < 16) (t : Fin 4096) (h : n / 4 = t.val / 1024) : rowN ((pt n).val / 4) ⟨t.val % 1024, by omega⟩ = t := by
  rw [pt_lt hn, h, row_block]

/-- The last point of the row block row `t` lies in, -/
abbrev lastOf (t : Fin 4096) : Fin cfg0.N := pt (4 * (t.val / 1024) + 3)
theorem lastOf_row (t : Fin 4096) : rowN ((lastOf t).val / 4) ⟨t.val % 1024, by omega⟩ = t := row_point (by omega) t (by omega)
theorem lastOf_mod (t : Fin 4096) : (lastOf t).val % 4 = 3 := by rw [pt_lt (by omega)]; omega
/-- and the point whose block of the activations has row `t` and column `n`. -/
abbrev pointOf (t n : Fin 4096) : Fin cfg0.N := pt (4 * (t.val / 1024) + n.val / 1024)
theorem pointOf_row (t n : Fin 4096) : rowN ((pointOf t n).val / 4) ⟨t.val % 1024, by omega⟩ = t := row_point (by omega) t (by omega)
theorem pointOf_col (t n : Fin 4096) : (⟨(pointOf t n).val % 4 * 1024 + n.val % 1024, by omega⟩ : Fin 4096) = n :=
  Fin.ext (by show (pointOf t n).val % 4 * 1024 + n.val % 1024 = n.val; rw [pt_lt (by omega)]; omega)

theorem final_8 : (dats m 0 c).arrAt 8 cfg0.N = G8 m c :=
  (dats m 0 c).arrAt_eq_of_cover 8 (G8 m c) (flushed_8 m c) (all2 fun t k =>
    ⟨lastOf t, (flush0_8 _).mpr (lastOf_mod t), mem_of _ ((emb_8 (lastOf t) ⟨t.val % 1024, by omega⟩ k).trans (congrArg (ix2 · k) (lastOf_row t)))⟩)
theorem final_9 : (dats m 0 c).arrAt 9 cfg0.N = G9 m c :=
  (dats m 0 c).arrAt_eq_of_cover 9 (G9 m c) (flushed_9 m c) (all2 fun k t =>
    ⟨lastOf t, (flush0_9 _).mpr (lastOf_mod t), mem_of _ ((emb_9 (lastOf t) k ⟨t.val % 1024, by omega⟩).trans (congrArg (ix2 k) (lastOf_row t)))⟩)
theorem final_10 : (dats m 0 c).arrAt 10 cfg0.N = G10 m c :=
  (dats m 0 c).arrAt_eq_of_cover 10 (G10 m c) (flushed_10 m c) (all2 fun t k =>
    ⟨lastOf t, (flush0_10 _).mpr (lastOf_mod t), mem_of _ ((emb_10 (lastOf t) ⟨t.val % 1024, by omega⟩ k).trans (congrArg (ix2 · k) (lastOf_row t)))⟩)
theorem final_11 : (dats m 0 c).arrAt 11 cfg0.N = G11 m c :=
  (dats m 0 c).arrAt_eq_of_cover 11 (G11 m c) (flushed_11 m c) (all2 fun t n =>
    ⟨pointOf t n, flush0_11 _, mem_of _ ((emb_11 (pointOf t n) ⟨t.val % 1024, by omega⟩ ⟨n.val % 1024, by omega⟩).trans (congrArg₂ ix2 (pointOf_row t n) (pointOf_col t n)))⟩)

end Cert.Kernel2Ideal.Fwd
-- ==== Proof.Fwd.Transfer.lean ====
module

public import proofs.«01_k».proof.Proof.Gen.Kernel2
public import proofs.«01_k».proof.Proof.Gen.Kernel2Ideal
public import Idealize.ShloMosaic.Adequacy

@[expose] public section

set_option maxRecDepth 16384

/-! # The kernel and its idealization are one text -/

namespace Cert.Fwd.Transfer

open Idealize.ShloMosaic

variable {F : FTy → Type} [FloatOps F]

theorem body_eq : Cert.Kernel2.cc0_outproj_mlp_fwd (F := F) = Cert.Kernel2Ideal.cc0_outproj_mlp_fwd := rfl

set_option maxHeartbeats 4000000 in
theorem table_eq : Cert.Kernel2.defs₀ (F := F) = Cert.Kernel2Ideal.defs₀ := by
  unfold Cert.Kernel2.defs₀ Cert.Kernel2Ideal.defs₀
  rw [body_eq]
  congr 1
  funext l x
  match l, x with
  | 0, (t, s) => rfl
  | ⟨n + 1, h⟩, _ => exact absurd h (Nat.not_lt.2 (Nat.le_add_left _ _))

theorem defs_eq : Cert.Kernel2.defs (F := F) = Cert.Kernel2Ideal.defs := by
  unfold Cert.Kernel2.defs Cert.Kernel2Ideal.defs
  rw [table_eq]; rfl

theorem main_eq : Cert.Kernel2.main (F := F) = Cert.Kernel2Ideal.main := rfl

end Cert.Fwd.Transfer
-- ==== Proof.Fwd.Ref.lean ====
module

public import proofs.«01_k».proof.Proof.Gen.Reference2Ideal.Run
public import proofs.«01_k».proof.Proof.Fwd.Math
public import Idealize.ShloMosaic.Lib.Pointwise

@[expose] public section

set_option maxRecDepth 16384

noncomputable section

/-! # The reference's results, element by element -/

namespace Cert.Reference2Ideal.Val

open Cert Cert.Reference2Ideal Cert.Reference2Ideal.Gen Cert.Reference2Ideal.Value
open Idealize.ShloMosaic Idealize.ShloMosaic.TcCoe

/-- The three mixers' outputs side by side, -/
def tO (og : FVec Ideal S4096x384 .f32) (oc : FVec Ideal S4096x256 .f32) (oa : FVec Ideal S4096x384 .f32) : FVec Ideal S4096x1024 .f32 :=
  concatenate S4096x1024 1 [⟨S4096x384, og⟩, ⟨S4096x256, oc⟩, ⟨S4096x384, oa⟩] concatenates_S4096x384_S4096x256_S4096x384_S4096x1024_d1
/-- the residual stream after their projection, -/
def tH1 (h o : FVec Ideal S4096x1024 .f32) (wo : FVec Ideal S1024x1024 .f32) : FVec Ideal S4096x1024 .f32 :=
  addf h (Host.dotGeneral dot_S4096x1024_S1024x1024_S4096x1024_1_0_0_1_n_n none o wo)
/-- the same normalised, -/
def tXn (h : FVec Ideal S4096x1024 .f32) (g : FVec Ideal S1024 .f32) : FVec Ideal S4096x1024 .f32 :=
  mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))
/-- the activation before it is squared, -/
def tA (x : FVec Ideal S4096x1024 .f32) (wu : FVec Ideal S1024x4096 .f32) : FVec Ideal S4096x4096 .f32 :=
  maximumf (Host.dotGeneral dot_S4096x1024_S1024x4096_S4096x4096_1_0_0_1_n_n none x wu) (broadcastInDim S4096x4096 ![] bcast_S_S4096x4096 (constant S_ .f32 0x00000000#32))
/-- the residual stream after the hidden layer, -/
def tH2 (h : FVec Ideal S4096x1024 .f32) (a : FVec Ideal S4096x4096 .f32) (wd : FVec Ideal S4096x1024 .f32) : FVec Ideal S4096x1024 .f32 :=
  addf h (Host.dotGeneral dot_S4096x4096_S4096x1024_S4096x1024_1_0_0_1_n_n none (mulf a a) wd)
/-- and the two saved for the backward pass. -/
def tXt (x : FVec Ideal S4096x1024 .f32) : FVec Ideal S1024x4096 .bf16 := truncf .bf16 (transpose S1024x4096 [1, 0] x transposes_S4096x1024_S1024x4096_1_0) bitsLt_bf16_f32
def tAb (a : FVec Ideal S4096x4096 .f32) : FVec Ideal S4096x4096 .bf16 := truncf .bf16 a bitsLt_bf16_f32

theorem tO_apply (og oc oa) (t : Fin 4096) (p : Fin 1024) :
    tO og oc oa (ix2 t p) = Cert.Fwd.O (fun t p => og (ix2 t p)) (fun t p => oc (ix2 t p)) (fun t p => oa (ix2 t p)) t p := by
  unfold Cert.Fwd.O
  pointwise [tO]
  by_cases h0 : p.val < 384
  · rw [dif_pos h0, dif_pos h0]
  · rw [dif_neg h0, dif_neg h0]
    by_cases h1 : p.val < 640
    · rw [dif_pos h1]; exact dif_pos (by omega)
    · rw [dif_neg h1]
      refine (dif_neg (by omega)).trans ?_
      exact congrArg (fun q => oa (ix2 t q)) (Fin.ext (by dsimp only; omega))
theorem tH1_apply (h o wo) (t : Fin 4096) (k : Fin 1024) : tH1 h o wo (ix2 t k) = h (ix2 t k) + ∑ p : Fin 1024, o (ix2 t p) * wo (ix2 p k) := by
  pointwise [tH1]
theorem tXn_apply (h g) (t : Fin 4096) (k : Fin 1024) : tXn h g (ix2 t k) = Mlp.Xn (fun t k => h (ix2 t k)) (fun k => g (ix1 k)) t k := by
  pointwise [tXn]
  rfl
theorem tA_apply (x wu) (t n : Fin 4096) : tA x wu (ix2 t n) = max (∑ k : Fin 1024, x (ix2 t k) * wu (ix2 k n)) 0 := by
  pointwise [tA]
theorem tH2_apply (h a wd) (t : Fin 4096) (k : Fin 1024) : tH2 h a wd (ix2 t k) = h (ix2 t k) + ∑ n : Fin 4096, a (ix2 t n) * a (ix2 t n) * wd (ix2 n k) := by
  pointwise [tH2]
theorem tXt_apply (x) (k : Fin 1024) (t : Fin 4096) : tXt x (ix2 k t) = x (ix2 t k) := by
  pointwise [tXt]
theorem tAb_apply (a) (t n : Fin 4096) : tAb a (ix2 t n) = a (ix2 t n) := by
  pointwise [tAb]

variable (m : (ℓ : Loc nD τ sig) → Buf (Elt Ideal) ℓ) (c : Dev nD)

def aH : FVec Ideal S4096x1024 .f32 := m ((c.tc : Thread nD τ).loc main_arg0)
def aOg : FVec Ideal S4096x384 .f32 := m ((c.tc : Thread nD τ).loc main_arg1)
def aOc : FVec Ideal S4096x256 .f32 := m ((c.tc : Thread nD τ).loc main_arg2)
def aOa : FVec Ideal S4096x384 .f32 := m ((c.tc : Thread nD τ).loc main_arg3)
def aWo : FVec Ideal S1024x1024 .f32 := m ((c.tc : Thread nD τ).loc main_arg4)
def aG : FVec Ideal S1024 .f32 := m ((c.tc : Thread nD τ).loc main_arg5)
def aWu : FVec Ideal S1024x4096 .f32 := m ((c.tc : Thread nD τ).loc main_arg6)
def aWd : FVec Ideal S4096x1024 .f32 := m ((c.tc : Thread nD τ).loc main_arg7)

abbrev cH : Fin 4096 → Fin 1024 → EReal := fun t k => aH m c (ix2 t k)
abbrev cOg : Fin 4096 → Fin 384 → EReal := fun t p => aOg m c (ix2 t p)
abbrev cOc : Fin 4096 → Fin 256 → EReal := fun t p => aOc m c (ix2 t p)
abbrev cOa : Fin 4096 → Fin 384 → EReal := fun t p => aOa m c (ix2 t p)
abbrev cWo : Fin 1024 → Fin 1024 → EReal := fun p k => aWo m c (ix2 p k)
abbrev cG : Fin 1024 → EReal := fun k => aG m c (ix1 k)
abbrev cWu : Fin 1024 → Fin 4096 → EReal := fun k n => aWu m c (ix2 k n)
abbrev cWd : Fin 4096 → Fin 1024 → EReal := fun n k => aWd m c (ix2 n k)

/-- The results' arrays by name. -/
def out0 : FVec Ideal S4096x1024 .f32 := tH1 (aH m c) (tO (aOg m c) (aOc m c) (aOa m c)) (aWo m c)
def normed : FVec Ideal S4096x1024 .f32 := tXn (out0 m c) (aG m c)
def acts : FVec Ideal S4096x4096 .f32 := tA (normed m c) (aWu m c)
def out2 : FVec Ideal S4096x1024 .f32 := tH2 (out0 m c) (acts m c) (aWd m c)

theorem out0_apply (t : Fin 4096) (k : Fin 1024) : out0 m c (ix2 t k) = Cert.Fwd.H1 (cH m c) (cOg m c) (cOc m c) (cOa m c) (cWo m c) t k := by
  unfold out0 Cert.Fwd.H1
  rw [tH1_apply]
  simp only [tO_apply]
theorem normed_apply (t : Fin 4096) (k : Fin 1024) : normed m c (ix2 t k) = Mlp.Xn (Cert.Fwd.H1 (cH m c) (cOg m c) (cOc m c) (cOa m c) (cWo m c)) (cG m c) t k := by
  unfold normed
  rw [tXn_apply]
  simp only [out0_apply]
theorem acts_apply (t n : Fin 4096) : acts m c (ix2 t n) = Cert.Fwd.Act (cH m c) (cOg m c) (cOc m c) (cOa m c) (cWo m c) (cG m c) (cWu m c) t n := by
  unfold acts
  rw [tA_apply]
  simp only [normed_apply]
  rfl
theorem out2_apply (t : Fin 4096) (k : Fin 1024) : out2 m c (ix2 t k) = Cert.Fwd.H2 (cH m c) (cOg m c) (cOc m c) (cOa m c) (cWo m c) (cG m c) (cWu m c) (cWd m c) t k := by
  unfold out2 Cert.Fwd.H2
  rw [tH2_apply, out0_apply]
  simp only [acts_apply]

/-- The reference's run, its results by name. -/
theorem run_named (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = out0 m c
      ∧ r.2.mem ((c.tc : Thread nD τ).loc main_v22) = tXt (normed m c)
      ∧ r.2.mem ((c.tc : Thread nD τ).loc main_v20) = out2 m c
      ∧ r.2.mem ((c.tc : Thread nD τ).loc main_v23) = tAb (acts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run (F := Ideal) m ρ)
  obtain ⟨h0, h1, h2, h3, ha⟩ := h c
  exact ⟨h0.trans rfl, h1.trans rfl, h2.trans rfl, h3.trans rfl, ha⟩

end Cert.Reference2Ideal.Val
-- ==== Proof.Win.Cases.lean ====
module

public import proofs.«01_k».proof.Proof.Gen.Kernel3Ideal.Value
public import Idealize.ShloMosaic.Lib.Tactic

@[expose] public section

set_option maxRecDepth 16384

noncomputable section

/-! # What a point of the projection gradient's grid leaves in the accumulator and in the result's block -/

namespace Cert.Kernel3Ideal.Win

open Cert.Kernel3Ideal Cert.Kernel3Ideal.Gen Cert.Kernel3Ideal.Value
open Idealize.ShloMosaic Idealize.ShloMosaic.TcCoe

variable {F : FTy → Type} [FloatOps F]
variable (m : (ℓ : Loc nD τ sig) → Buf (Elt F) ℓ) (c : Dev nD)

theorem hz : (![0, 0] : Fin 2 → Nat) = fun _ => 0 := funext fun a => by fin_cases a <;> rfl

/-- The accumulator with one row block's product added, over the block of the layer's input, the norm's weight and the nine pieces of the gradient. -/
def step (x0 : Vec F S512x1024 .f32) (x1 : Vec F S1x1024 .f32) (x2 x3 : Vec F S512x256 .bf16) (x4 x5 : Vec F S512x384 .bf16) (x6 : Vec F S512x512 .bf16)
    (x7 x8 x9 : Vec F S512x384 .bf16) (x10 : Vec F S512x128 .bf16) (acc : Vec F S1024x3072 .f32) : Vec F S1024x3072 .f32 :=
  k0_pay1 (k0_pay4 x0 x1) acc (k0_pay5 x2) (k0_pay6 x3) (k0_pay7 x4) (k0_pay8 x5) (k0_pay9 x6) (k0_pay10 x7) x8 x9 x10

set_option maxHeartbeats 4000000

variable (i : grid0.Coords) (a1 : Memref sig .tc .vmem S512x1024 .f32) (h1 : a1.IsWhole) (a2 : Memref sig .tc .vmem S1x1024 .f32) (h2 : a2.IsWhole)
  (a3 : Memref sig .tc .vmem S512x256 .bf16) (h3 : a3.IsWhole) (a4 : Memref sig .tc .vmem S512x256 .bf16) (h4 : a4.IsWhole)
  (a5 : Memref sig .tc .vmem S512x384 .bf16) (h5 : a5.IsWhole) (a6 : Memref sig .tc .vmem S512x384 .bf16) (h6 : a6.IsWhole)
  (a7 : Memref sig .tc .vmem S512x512 .bf16) (h7 : a7.IsWhole) (a8 : Memref sig .tc .vmem S512x384 .bf16) (h8 : a8.IsWhole)
  (a9 : Memref sig .tc .vmem S512x384 .bf16) (h9 : a9.IsWhole) (a10 : Memref sig .tc .vmem S512x384 .bf16) (h10 : a10.IsWhole)
  (a11 : Memref sig .tc .vmem S512x128 .bf16) (h11 : a11.IsWhole) (a12 : Memref sig .tc .vmem S1024x3072 .bf16) (h12 : a12.IsWhole)
  (a13 : Memref sig .tc .vmem S1024x3072 .f32) (h13 : a13.IsWhole)
  (x0 : Vec F S512x1024 .f32) (x1 : Vec F S1x1024 .f32) (x2 x3 : Vec F S512x256 .bf16) (x4 x5 : Vec F S512x384 .bf16) (x6 : Vec F S512x512 .bf16)
    (x7 x8 x9 : Vec F S512x384 .bf16) (x10 : Vec F S512x128 .bf16) (acc : Vec F S1024x3072 .f32)

theorem sout_A (hc0 hc1) : sout0_A_0 c i a1 h1 a2 h2 a3 h3 a4 h4 a5 h5 a6 h6 a7 h7 a8 h8 a9 h9 a10 h10 a11 h11 a12 h12 a13 h13 hc0 hc1 x0 x1 x2 x3 x4 x5 x6 x7 x8 x9 x10
    = step x0 x1 x2 x3 x4 x5 x6 x7 x8 x9 x10 k0_pay3 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7 x8 x9 x10)]
  unfold kernelRun0_A
  dsimp only
  sl_unfold_words
  rw [View.canon_cons_unit_zero (S := S1024x3072) hz, View.readCov_unit_zero (S := S1024x3072) _ hz]
  simp only [View.readAt_eq_ld, h1.read_unread, h2.read_unread, h3.read_unread, h4.read_unread, h5.read_unread, h6.read_unread, h7.read_unread, h8.read_unread, h9.read_unread, h10.read_unread, h11.read_unread,
    View.ld_unit_zero (S := S512x1024) hz, View.ld_unit_zero (S := S1x1024) hz, View.ld_unit_zero (S := S512x256) hz, View.ld_unit_zero (S := S512x384) hz, View.ld_unit_zero (S := S512x512) hz, View.ld_unit_zero (S := S512x128) hz, View.ld_unit_zero (S := S1024x3072) hz]
  rfl

theorem sout_B (hc0 hc1) : sout0_B_0 c i a1 h1 a2 h2 a3 h3 a4 h4 a5 h5 a6 h6 a7 h7 a8 h8 a9 h9 a10 h10 a11 h11 a12 h12 a13 h13 hc0 hc1 x0 x1 x2 x3 x4 x5 x6 x7 x8 x9 x10 acc
    = step x0 x1 x2 x3 x4 x5 x6 x7 x8 x9 x10 acc := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc0 hc1 x0 x1 x2 x3 x4 x5 x6 x7 x8 x9 x10 acc)]
  unfold kernelRun0_B
  dsimp only
  sl_unfold_words
  rw [View.canon_unit_zero (S := S1024x3072) hz]
  simp only [View.readAt_eq_ld, h1.read_unread, h2.read_unread, h3.read_unread, h4.read_unread, h5.read_unread, h6.read_unread, h7.read_unread, h8.read_unread, h9.read_unread, h10.read_unread, h11.read_unread, h13.read_unread,
    View.ld_unit_zero (S := S512x1024) hz, View.ld_unit_zero (S := S1x1024) hz, View.ld_unit_zero (S := S512x256) hz, View.ld_unit_zero (S := S512x384) hz, View.ld_unit_zero (S := S512x512) hz, View.ld_unit_zero (S := S512x128) hz, View.ld_unit_zero (S := S1024x3072) hz]
  rfl

theorem out_C (hc0 hc1) : out0_C_11 c i a1 h1 a2 h2 a3 h3 a4 h4 a5 h5 a6 h6 a7 h7 a8 h8 a9 h9 a10 h10 a11 h11 a12 h12 a13 h13 hc0 hc1 x0 x1 x2 x3 x4 x5 x6 x7 x8 x9 x10 acc
    = k0_pay2 (step x0 x1 x2 x3 x4 x5 x6 x7 x8 x9 x10 acc) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 hc0 hc1 x0 x1 x2 x3 x4 x5 x6 x7 x8 x9 x10 acc)]
  unfold kernelRun0_C
  dsimp only
  sl_unfold_words
  rw [View.canon_unit_zero (S := S1024x3072) hz, View.readCov_unit_zero (S := S1024x3072) _ hz]
  simp only [View.readAt_eq_ld, h1.read_unread, h2.read_unread, h3.read_unread, h4.read_unread, h5.read_unread, h6.read_unread, h7.read_unread, h8.read_unread, h9.read_unread, h10.read_unread, h11.read_unread, h13.read_unread,
    View.ld_unit_zero (S := S512x1024) hz, View.ld_unit_zero (S := S1x1024) hz, View.ld_unit_zero (S := S512x256) hz, View.ld_unit_zero (S := S512x384) hz, View.ld_unit_zero (S := S512x512) hz, View.ld_unit_zero (S := S512x128) hz, View.ld_unit_zero (S := S1024x3072) hz]
  rfl

end Cert.Kernel3Ideal.Win
-- ==== Proof.Win.Wide.lean ====
module

public import proofs.«01_k».proof.Proof.Math
public import proofs.«01_k».proof.Proof.Gen.Kernel3Ideal.Skeleton
public import Idealize.ShloMosaic.Lib.Pointwise

@[expose] public section

set_option maxRecDepth 16384

noncomputable section

/-! # The projection's columns in the padded layout, and the body's stores at an index -/

namespace Cert.Win

open Idealize.ShloMosaic

/-- A function of the projection's 2832 columns, read in the layout whose column groups are padded: columns the padding adds are zero,
    and the sixteen columns of the learning rates come last. -/
def wide (g : Fin 2832 → EReal) (q : Fin 3072) : EReal :=
  if h : q.val < 192 then g ⟨q.val, by omega⟩
  else if q.val < 256 then 0
  else if h : q.val < 448 then g ⟨q.val - 64, by omega⟩
  else if q.val < 512 then 0
  else if h : q.val < 1280 then g ⟨q.val - 128, by omega⟩
  else if h : q.val < 2944 then g ⟨q.val - 112, by omega⟩
  else if h : q.val < 2960 then g ⟨q.val - 1792, by omega⟩
  else 0

/-- A weighted sum of rows in the padded layout is the padded layout of the weighted sum: the added columns' zeros add nothing. -/
theorem wide_sum (d : Fin 4096 → Fin 2832 → EReal) (x : Fin 4096 → EReal) (q : Fin 3072) :
    ∑ t, x t * wide (d t) q = wide (fun p => ∑ t, d t p * x t) q := by
  unfold wide
  split_ifs <;> first
    | exact Finset.sum_congr rfl fun t _ => mul_comm _ _
    | (simp only [mul_zero, Finset.sum_const_zero])

end Cert.Win

namespace Cert.Kernel3Ideal.Win

open Cert.Kernel3Ideal Cert.Kernel3Ideal.Gen
open Idealize.ShloMosaic Idealize.ShloMosaic.TcCoe

/-- The nine pieces of a row side by side, where each piece is its own stretch of one row of 3072. -/
theorem cat_apply (x2 x3 : Vec Ideal S512x256 .bf16) (x4 x5 : Vec Ideal S512x384 .bf16) (x6 : Vec Ideal S512x512 .bf16)
    (x7 x8 x9 : Vec Ideal S512x384 .bf16) (x10 : Vec Ideal S512x128 .bf16) (hc) (r : Fin 512) (w : Fin 3072 → EReal)
    (e2 : ∀ p : Fin 256, x2 (ix2 r p) = w ⟨p.val, by omega⟩) (e3 : ∀ p : Fin 256, x3 (ix2 r p) = w ⟨256 + p.val, by omega⟩)
    (e4 : ∀ p : Fin 384, x4 (ix2 r p) = w ⟨512 + p.val, by omega⟩) (e5 : ∀ p : Fin 384, x5 (ix2 r p) = w ⟨896 + p.val, by omega⟩)
    (e6 : ∀ p : Fin 512, x6 (ix2 r p) = w ⟨1280 + p.val, by omega⟩) (e7 : ∀ p : Fin 384, x7 (ix2 r p) = w ⟨1792 + p.val, by omega⟩)
    (e8 : ∀ p : Fin 384, x8 (ix2 r p) = w ⟨2176 + p.val, by omega⟩) (e9 : ∀ p : Fin 384, x9 (ix2 r p) = w ⟨2560 + p.val, by omega⟩)
    (e10 : ∀ p : Fin 128, x10 (ix2 r p) = w ⟨2944 + p.val, by omega⟩) (q : Fin 3072) :
    (concatenate S512x3072 1 [⟨S512x256, x2⟩, ⟨S512x256, x3⟩, ⟨S512x384, x4⟩, ⟨S512x384, x5⟩, ⟨S512x512, x6⟩, ⟨S512x384, x7⟩, ⟨S512x384, x8⟩, ⟨S512x384, x9⟩, ⟨S512x128, x10⟩] hc : FVec Ideal S512x3072 .bf16) (ix2 r q) = w q := by
  pointwise
  split_ifs <;> simp only [e2, e3, e4, e5, e6, e7, e8, e9, e10] <;> exact congrArg w (Fin.ext (by simp only [Fin.val_mk]; omega))

/-- The transposed normed block. -/
theorem pay4_apply (h g) (k : Fin 1024) (r : Fin 512) :
    k0_pay4 (F := Ideal) h g (ix2 k r) = h (ix2 r k) * Ideal.rsqrt (Ideal.div (∑ k : Fin 1024, h (ix2 r k) * h (ix2 r k)) (Ideal.ofBits .f32 0x44800000#32) + Ideal.ofBits .f32 0x358637BD#32) * g (ix2 0 k) := by
  pointwise [k0_pay4]

theorem pay3_apply (k : Fin 1024) (q : Fin 3072) : k0_pay3 (F := Ideal) (ix2 k q) = 0 := by
  pointwise [k0_pay3]

theorem pay2_apply (x) (k : Fin 1024) (q : Fin 3072) : k0_pay2 (F := Ideal) x (ix2 k q) = x (ix2 k q) := by
  pointwise [k0_pay2]

end Cert.Kernel3Ideal.Win
-- ==== Proof.Win.Arrays.lean ====
module

public import proofs.«01_k».proof.Proof.Gen.Kernel3Ideal.Frame
public import proofs.«01_k».proof.Proof.Win.Wide
public import proofs.«01_k».proof.Proof.Tiles
public import Idealize.ShloMosaic.Lib.StableHlo.ReadAt

@[expose] public section

set_option maxRecDepth 16384

noncomputable section

/-! # The arrays the projection gradient's region is launched on, and the windows' blocks -/

namespace Cert.Kernel3Ideal.Win

open Cert Cert.Kernel3Ideal Cert.Kernel3Ideal.Gen
open Idealize.ShloMosaic Idealize.ShloMosaic.TcCoe

variable (m : (ℓ : Loc nD τ sig) → Buf (Elt Ideal) ℓ) (c : Dev nD)

def aH : FVec Ideal S4096x1024 .f32 := m ((c.tc : Thread nD τ).loc main_arg0)
def aG : FVec Ideal S1024 .f32 := m ((c.tc : Thread nD τ).loc main_arg1)
def aD : FVec Ideal S4096x2832 .f32 := m ((c.tc : Thread nD τ).loc main_arg3)
abbrev cH : Fin 4096 → Fin 1024 → EReal := fun t k => aH m c (ix2 t k)
abbrev cG : Fin 1024 → EReal := fun k => aG m c (ix1 k)
abbrev cD : Fin 4096 → Fin 2832 → EReal := fun t p => aD m c (ix2 t p)

set_option maxHeartbeats 4000000

theorem zeroI : (FloatOps.sitofp (F := Ideal) FTy.f32 0#32 : EReal) = 0 := by
  show (((0#32 : BitVec 32).toInt : ℝ) : EReal) = 0
  simp

theorem VH (t : Fin 4096) (k : Fin 1024) : V m c main_arg0 (ix2 t k) = cH m c t k := congrFun (V_main_arg0 m c) _
theorem V27 (o : Fin 1) (k : Fin 1024) : V m c main_v27 (ix2 o k) = cG m c k := by
  unfold V; simp only [List.flatten_cons, List.flatten_nil, List.append_nil, List.cons_append]
  after_reads_at
  rfl
/-- The nine arrays the projection's gradient is split into are nine stretches of its padded row. -/
theorem parts (t : Fin 4096) :
    (∀ p : Fin 256, V m c main_v10 (ix2 t p) = Win.wide (cD m c t) ⟨p.val, by omega⟩)
    ∧ (∀ p : Fin 256, V m c main_v12 (ix2 t p) = Win.wide (cD m c t) ⟨256 + p.val, by omega⟩)
    ∧ (∀ p : Fin 384, V m c main_v14 (ix2 t p) = Win.wide (cD m c t) ⟨512 + p.val, by omega⟩)
    ∧ (∀ p : Fin 384, V m c main_v16 (ix2 t p) = Win.wide (cD m c t) ⟨896 + p.val, by omega⟩)
    ∧ (∀ p : Fin 512, V m c main_v18 (ix2 t p) = Win.wide (cD m c t) ⟨1280 + p.val, by omega⟩)
    ∧ (∀ p : Fin 384, V m c main_v20 (ix2 t p) = Win.wide (cD m c t) ⟨1792 + p.val, by omega⟩)
    ∧ (∀ p : Fin 384, V m c main_v22 (ix2 t p) = Win.wide (cD m c t) ⟨2176 + p.val, by omega⟩)
    ∧ (∀ p : Fin 384, V m c main_v24 (ix2 t p) = Win.wide (cD m c t) ⟨2560 + p.val, by omega⟩)
    ∧ (∀ p : Fin 128, V m c main_v26 (ix2 t p) = Win.wide (cD m c t) ⟨2944 + p.val, by omega⟩) := by
  refine ⟨?_, ?_, ?_, ?_, ?_, ?_, ?_, ?_, ?_⟩ <;> intro p <;>
  · unfold V; simp only [List.flatten_cons, List.flatten_nil, List.append_nil, List.cons_append]
    after_reads_at
    try rw [zeroI]
    unfold Win.wide
    dsimp only
    split_ifs <;> first
      | (exfalso; omega)
      | exact congrArg (fun p => cD m c t p) (Fin.ext (by simp only [Fin.val_mk]; omega))
      | rfl

theorem lt8 (t : Fin cfg0.N) : t.val < 8 := lt_of_lt_of_eq t.isLt N_0

/-- Row `r` of the point's row block. -/
abbrev rowOf (t : Fin cfg0.N) (r : Fin 512) : Fin 4096 := ⟨t.val * 512 + r.val, by have := lt8 t; omega⟩

/-- Every window but the scale's moves down the rows by one block a point, and none moves along a row. -/
theorem ix_row : ∀ t : Fin cfg0.N, (cfg0.win 0).index t (0 : Fin 2) = t.val ∧ (cfg0.win 2).index t (0 : Fin 2) = t.val ∧ (cfg0.win 3).index t (0 : Fin 2) = t.val
    ∧ (cfg0.win 4).index t (0 : Fin 2) = t.val ∧ (cfg0.win 5).index t (0 : Fin 2) = t.val ∧ (cfg0.win 6).index t (0 : Fin 2) = t.val
    ∧ (cfg0.win 7).index t (0 : Fin 2) = t.val ∧ (cfg0.win 8).index t (0 : Fin 2) = t.val ∧ (cfg0.win 9).index t (0 : Fin 2) = t.val
    ∧ (cfg0.win 10).index t (0 : Fin 2) = t.val ∧ (cfg0.win 1).index t (0 : Fin 2) = 0 := by decide +kernel
theorem ix_col : ∀ t : Fin cfg0.N, (cfg0.win 0).index t (1 : Fin 2) = 0 ∧ (cfg0.win 2).index t (1 : Fin 2) = 0 ∧ (cfg0.win 3).index t (1 : Fin 2) = 0
    ∧ (cfg0.win 4).index t (1 : Fin 2) = 0 ∧ (cfg0.win 5).index t (1 : Fin 2) = 0 ∧ (cfg0.win 6).index t (1 : Fin 2) = 0
    ∧ (cfg0.win 7).index t (1 : Fin 2) = 0 ∧ (cfg0.win 8).index t (1 : Fin 2) = 0 ∧ (cfg0.win 9).index t (1 : Fin 2) = 0
    ∧ (cfg0.win 10).index t (1 : Fin 2) = 0 ∧ (cfg0.win 1).index t (1 : Fin 2) = 0 := by decide +kernel

theorem h_apply (t : Fin cfg0.N) (r : Fin 512) (p : Fin 1024) : iblk m c 0 t (ix2 r p) = cH m c (rowOf t r) p :=
  (congrArg (V m c main_arg0) (Tiles.ext2 (Tiles.move (ix_row t).1) (Tiles.still (ix_col t).1))).trans (VH m c _ _)
theorem g_apply (t : Fin cfg0.N) (o : Fin 1) (k : Fin 1024) : iblk m c 1 t (ix2 o k) = cG m c k := by
  obtain ⟨-, -, -, -, -, -, -, -, -, -, a⟩ := ix_row t
  obtain ⟨-, -, -, -, -, -, -, -, -, -, b⟩ := ix_col t
  exact (congrArg (V m c main_v27) (Tiles.ext2 (Tiles.still a) (Tiles.still b))).trans (V27 m c _ _)
/-- The blocks of the nine arrays at a point: nine stretches of the padded row. -/
theorem part_blocks (t : Fin cfg0.N) (r : Fin 512) :
    (∀ p : Fin 256, iblk m c 2 t (ix2 r p) = Win.wide (cD m c (rowOf t r)) ⟨p.val, by omega⟩)
    ∧ (∀ p : Fin 256, iblk m c 3 t (ix2 r p) = Win.wide (cD m c (rowOf t r)) ⟨256 + p.val, by omega⟩)
    ∧ (∀ p : Fin 384, iblk m c 4 t (ix2 r p) = Win.wide (cD m c (rowOf t r)) ⟨512 + p.val, by omega⟩)
    ∧ (∀ p : Fin 384, iblk m c 5 t (ix2 r p) = Win.wide (cD m c (rowOf t r)) ⟨896 + p.val, by omega⟩)
    ∧ (∀ p : Fin 512, iblk m c 6 t (ix2 r p) = Win.wide (cD m c (rowOf t r)) ⟨1280 + p.val, by omega⟩)
    ∧ (∀ p : Fin 384, iblk m c 7 t (ix2 r p) = Win.wide (cD m c (rowOf t r)) ⟨1792 + p.val, by omega⟩)
    ∧ (∀ p : Fin 384, iblk m c 8 t (ix2 r p) = Win.wide (cD m c (rowOf t r)) ⟨2176 + p.val, by omega⟩)
    ∧ (∀ p : Fin 384, iblk m c 9 t (ix2 r p) = Win.wide (cD m c (rowOf t r)) ⟨2560 + p.val, by omega⟩)
    ∧ (∀ p : Fin 128, iblk m c 10 t (ix2 r p) = Win.wide (cD m c (rowOf t r)) ⟨2944 + p.val, by omega⟩) := by
  obtain ⟨-, a2, a3, a4, a5, a6, a7, a8, a9, a10, -⟩ := ix_row t
  obtain ⟨-, b2, b3, b4, b5, b6, b7, b8, b9, b10, -⟩ := ix_col t
  obtain ⟨v2, v3, v4, v5, v6, v7, v8, v9, v10⟩ := parts m c (rowOf t r)
  have at_ {n : ℕ} {A : FVec Ideal ⟨2, ![4096, n]⟩ .bf16} {f : Shape.Idx ⟨2, ![4096, n]⟩} {i j : ℕ} {p : Fin n} {w : EReal}
      (hA : A (ix2 (rowOf t r) p) = w) (a : i = t.val) (h0 : (f 0).val = i * 512 + 1 * r.val) (b : j = 0) (h1 : (f 1).val = j * n + 1 * p.val) : A f = w :=
    (congrArg A (Tiles.ext2 (h0.trans (Tiles.move a)) (h1.trans (Tiles.still b)))).trans hA
  exact ⟨fun p => at_ (v2 p) a2 rfl b2 rfl, fun p => at_ (v3 p) a3 rfl b3 rfl, fun p => at_ (v4 p) a4 rfl b4 rfl, fun p => at_ (v5 p) a5 rfl b5 rfl,
    fun p => at_ (v6 p) a6 rfl b6 rfl, fun p => at_ (v7 p) a7 rfl b7 rfl, fun p => at_ (v8 p) a8 rfl b8 rfl, fun p => at_ (v9 p) a9 rfl b9 rfl,
    fun p => at_ (v10 p) a10 rfl b10 rfl⟩

end Cert.Kernel3Ideal.Win
-- ==== Proof.Win.Chain.lean ====
module

public import proofs.«01_k».proof.Proof.Win.Cases
public import proofs.«01_k».proof.Proof.Win.Arrays
public import Idealize.ShloMosaic.Lib.Pointwise.Sums

@[expose] public section

set_option maxRecDepth 16384

noncomputable section

/-! # The accumulator over the grid, and the result -/

namespace Cert.Kernel3Ideal.Win

open Cert Cert.Kernel3Ideal Cert.Kernel3Ideal.Gen Cert.Kernel3Ideal.Value
open Idealize.ShloMosaic Idealize.ShloMosaic.TcCoe

variable (m : (ℓ : Loc nD τ sig) → Buf (Elt Ideal) ℓ) (c : Dev nD)

/-- One point's step, over its windows' blocks. -/
def stepAt (t : Fin cfg0.N) (acc : Vec Ideal S1024x3072 .f32) : Vec Ideal S1024x3072 .f32 :=
  step (iblk m c 0 t) (iblk m c 1 t) (iblk m c 2 t) (iblk m c 3 t) (iblk m c 4 t) (iblk m c 5 t) (iblk m c 6 t) (iblk m c 7 t) (iblk m c 8 t) (iblk m c 9 t) (iblk m c 10 t) acc

/-- What a row adds to the gradient at `(k, q)`. -/
def term (k : Fin 1024) (q : Fin 3072) (t : Fin 4096) : EReal := Mlp.Xn (cH m c) (cG m c) t k * Win.wide (cD m c t) q

theorem mm_apply (x : FVec Ideal S1024x512 .bf16) (y : FVec Ideal S512x3072 .bf16) (k : Fin 1024) (q : Fin 3072) :
    (matmul dot_S1024x512_S512x3072_S1024x3072_1_0_0_1_n_n none x y (constant S1024x3072 .f32 0x00000000#32) : FVec Ideal S1024x3072 .f32) (ix2 k q) = ∑ r : Fin 512, x (ix2 k r) * y (ix2 r q) := by
  pointwise

theorem pay1_apply (x : FVec Ideal S1024x512 .bf16) (acc : Vec Ideal S1024x3072 .f32) (x2 x3 : Vec Ideal S512x256 .bf16) (x4 x5 : Vec Ideal S512x384 .bf16) (x6 : Vec Ideal S512x512 .bf16)
    (x7 x8 x9 : Vec Ideal S512x384 .bf16) (x10 : Vec Ideal S512x128 .bf16) (k : Fin 1024) (q : Fin 3072) :
    k0_pay1 (F := Ideal) x acc x2 x3 x4 x5 x6 x7 x8 x9 x10 (ix2 k q) = acc (ix2 k q) + ∑ r : Fin 512, x (ix2 k r) *
      (concatenate S512x3072 1 [⟨S512x256, x2⟩, ⟨S512x256, x3⟩, ⟨S512x384, x4⟩, ⟨S512x384, x5⟩, ⟨S512x512, x6⟩, ⟨S512x384, x7⟩, ⟨S512x384, x8⟩, ⟨S512x384, x9⟩, ⟨S512x128, x10⟩]
        concatenates_S512x256_S512x256_S512x384_S512x384_S512x512_S512x384_S512x384_S512x384_S512x128_S512x3072_d1 : FVec Ideal S512x3072 .bf16) (ix2 r q) := by
  unfold k0_pay1
  rw [shapeCast_self, shapeCast_self, shapeCast_self]
  rw [shapeCast_self]
  exact congrArg (acc (ix2 k q) + ·) (mm_apply x _ k q)

theorem stepAt_apply (t : Fin cfg0.N) (acc : Vec Ideal S1024x3072 .f32) (k : Fin 1024) (q : Fin 3072) :
    stepAt m c t acc (ix2 k q) = acc (ix2 k q) + ∑ r : Fin 512, term m c k q (rowOf t r) := by
  unfold stepAt step
  rw [pay1_apply]
  refine congrArg _ (Finset.sum_congr rfl fun r _ => ?_)
  obtain ⟨d2, d3, d4, d5, d6, d7, d8, d9, d10⟩ := part_blocks m c t r
  rw [pay4_apply, cat_apply (x2 := k0_pay5 (iblk m c 2 t)) (x3 := k0_pay6 (iblk m c 3 t)) (x4 := k0_pay7 (iblk m c 4 t)) (x5 := k0_pay8 (iblk m c 5 t)) (x6 := k0_pay9 (iblk m c 6 t)) (x7 := k0_pay10 (iblk m c 7 t)) (w := Win.wide (cD m c (rowOf t r)))
    (e2 := fun p => (congrFun (shapeCast_self _ _) _).trans (d2 p)) (e3 := fun p => (congrFun (shapeCast_self _ _) _).trans (d3 p))
    (e4 := fun p => (congrFun (shapeCast_self _ _) _).trans (d4 p)) (e5 := fun p => (congrFun (shapeCast_self _ _) _).trans (d5 p))
    (e6 := fun p => (congrFun (shapeCast_self _ _) _).trans (d6 p)) (e7 := fun p => (congrFun (shapeCast_self _ _) _).trans (d7 p))
    (e8 := d8) (e9 := d9) (e10 := d10)]
  simp only [h_apply, g_apply]
  rfl

/-- The accumulator after point `n`. -/
theorem acc_eq (k : Fin 1024) (q : Fin 3072) : ∀ (n : ℕ) (h : n < cfg0.N), n < 7 →
    (outsAt0 m c n h).2 (ix2 k q) = ∑ j ∈ Finset.range (n + 1), ∑ r : Fin 512, term m c k q ⟨(j % 8) * 512 + r.val, by omega⟩
  | 0, h, _ => by
    rw [outsAt0_A m c ⟨0, h⟩ rfl (by dsimp only; omega)]
    dsimp only
    rw [sout_A]
    refine (stepAt_apply m c ⟨0, h⟩ _ k q).trans ?_
    rw [pay3_apply, zero_add, Finset.sum_range_one]
  | n + 1, h, h7 => by
    rw [outsAt0_B m c ⟨n + 1, h⟩ (by dsimp only; omega) (by dsimp only; omega)]
    dsimp only
    rw [sout_B]
    refine (stepAt_apply m c ⟨n + 1, h⟩ _ k q).trans ?_
    rw [Finset.sum_range_succ]
    refine congrArg₂ (· + ·) (acc_eq k q n _ (by omega)) (Finset.sum_congr rfl fun r _ => congrArg (term m c k q) (Fin.ext ?_))
    show (n + 1) * 512 + r.val = ((n + 1) % 8) * 512 + r.val
    omega

/-- The result is the whole sum over the rows. -/
theorem result (k : Fin 1024) (q : Fin 3072) : G11 m c (ix2 k q) = ∑ t, term m c k q t := by
  have h7 : 7 < cfg0.N := lt_of_lt_of_eq (by decide) N_0.symm
  have e : G11 m c = (outsAt0 m c 7 h7).1 := (G11_last m c).trans (congrArg Prod.fst (outsAt0_sweep m c 7 h7).symm)
  rw [e, outsAt0_C m c ⟨7, h7⟩ (by dsimp only; omega) rfl]
  dsimp only
  rw [out_C, pay2_apply]
  refine (stepAt_apply m c ⟨7, h7⟩ _ k q).trans ?_
  have sums : ∑ t, term m c k q t = ∑ j ∈ Finset.range 8, ∑ r : Fin 512, term m c k q ⟨(j % 8) * 512 + r.val, by omega⟩ := by
    rw [Fin.sum_univ_tiles 8 512 (by decide), Finset.sum_range]
    exact Finset.sum_congr rfl fun j _ => Finset.sum_congr rfl fun r _ => congrArg (term m c k q) (Fin.ext (by show j.val * 512 + r.val = (j.val % 8) * 512 + r.val; omega))
  rw [sums, Finset.sum_range_succ]
  exact congrArg₂ (· + ·) (acc_eq m c k q 6 _ (by omega)) rfl

end Cert.Kernel3Ideal.Win
-- ==== Proof.Win.Ref.lean ====
module

public import proofs.«01_k».proof.Proof.Gen.Reference3Ideal.Run
public import proofs.«01_k».proof.Proof.Win.Wide

@[expose] public section

set_option maxRecDepth 16384

noncomputable section

namespace Cert.Reference3Ideal.Val

open Cert Cert.Reference3Ideal Cert.Reference3Ideal.Gen Cert.Reference3Ideal.Value
open Idealize.ShloMosaic Idealize.ShloMosaic.TcCoe

/-- The normed input of the projection, -/
def tXn (h : FVec Ideal S4096x1024 .f32) (g : FVec Ideal S1024 .f32) : FVec Ideal S4096x1024 .f32 :=
  mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))
/-- the projection's weight gradient, -/
def tD (x : FVec Ideal S4096x1024 .f32) (d : FVec Ideal S4096x2832 .f32) : FVec Ideal S1024x2832 .f32 :=
  transpose S1024x2832 [1, 0] (Host.dotGeneral dot_S4096x2832_S4096x1024_S2832x1024_0_0_1_1_n_n none d x : FVec Ideal S2832x1024 .f32) transposes_S2832x1024_S1024x2832_1_0
/-- and the same with its column groups padded. -/
def tPad (w : FVec Ideal S1024x2832 .f32) : FVec Ideal S1024x3072 .bf16 :=
  truncf .bf16 (fn_main_v25 (F := Ideal)
    (pad S1024x256 ![0, 0] ![0, 64] ![0, 0] (extractStridedSlice S1024x192 ![0, 0] w slices_S1024x2832_S1024x192_0_0) (sitofp (F := Ideal) .f32 (constantI S_ 32 0#32)) pads_S1024x192_S1024x256_000_0640 h_S_)
    (pad S1024x256 ![0, 0] ![0, 64] ![0, 0] (extractStridedSlice S1024x192 ![0, 192] w slices_S1024x2832_S1024x192_0_192) (sitofp (F := Ideal) .f32 (constantI S_ 32 0#32)) pads_S1024x192_S1024x256_000_0640 h_S_)
    (extractStridedSlice S1024x384 ![0, 384] w slices_S1024x2832_S1024x384_0_384)
    (extractStridedSlice S1024x384 ![0, 768] w slices_S1024x2832_S1024x384_0_768)
    (extractStridedSlice S1024x1664 ![0, 1168] w slices_S1024x2832_S1024x1664_0_1168)
    (pad S1024x128 ![0, 0] ![0, 112] ![0, 0] (extractStridedSlice S1024x16 ![0, 1152] w slices_S1024x2832_S1024x16_0_1152) (sitofp (F := Ideal) .f32 (constantI S_ 32 0#32)) pads_S1024x16_S1024x128_000_01120 h_S_)) bitsLt_bf16_f32

variable (m : (ℓ : Loc nD τ sig) → Buf (Elt Ideal) ℓ) (c : Dev nD)

def aH : FVec Ideal S4096x1024 .f32 := m ((c.tc : Thread nD τ).loc main_arg0)
def aG : FVec Ideal S1024 .f32 := m ((c.tc : Thread nD τ).loc main_arg1)
def aD : FVec Ideal S4096x2832 .f32 := m ((c.tc : Thread nD τ).loc main_arg3)
abbrev cH : Fin 4096 → Fin 1024 → EReal := fun t k => aH m c (ix2 t k)
abbrev cG : Fin 1024 → EReal := fun k => aG m c (ix1 k)
abbrev cD : Fin 4096 → Fin 2832 → EReal := fun t p => aD m c (ix2 t p)

theorem out0_eq : res_out0 m c = tPad (tD (tXn (aH m c) (aG m c)) (aD m c)) := rfl

theorem tXn_apply (h g) (t : Fin 4096) (k : Fin 1024) : tXn h g (ix2 t k) = Mlp.Xn (fun t k => h (ix2 t k)) (fun k => g (ix1 k)) t k := by
  pointwise [tXn]
  rfl
theorem tD_apply (x d) (k : Fin 1024) (p : Fin 2832) : tD x d (ix2 k p) = ∑ t : Fin 4096, d (ix2 t p) * x (ix2 t k) := by
  pointwise [tD]

theorem zeroI : (sitofp (F := Ideal) .f32 (constantI S_ 32 0#32) : FVec Ideal S_ .f32) (Shape.Idx.first h_S_) = 0 := by
  show (((0#32 : BitVec 32).toInt : ℝ) : EReal) = 0
  simp

/-- The six pieces of a row side by side, where each piece is its own stretch of one row of 3072. -/
theorem cat_apply (x0 x1 : FVec Ideal S1024x256 .f32) (x2 x3 : FVec Ideal S1024x384 .f32) (x4 : FVec Ideal S1024x1664 .f32) (x5 : FVec Ideal S1024x128 .f32)
    (k : Fin 1024) (w : Fin 3072 → EReal)
    (e0 : ∀ p : Fin 256, x0 (ix2 k p) = w ⟨p.val, by omega⟩) (e1 : ∀ p : Fin 256, x1 (ix2 k p) = w ⟨256 + p.val, by omega⟩)
    (e2 : ∀ p : Fin 384, x2 (ix2 k p) = w ⟨512 + p.val, by omega⟩) (e3 : ∀ p : Fin 384, x3 (ix2 k p) = w ⟨896 + p.val, by omega⟩)
    (e4 : ∀ p : Fin 1664, x4 (ix2 k p) = w ⟨1280 + p.val, by omega⟩) (e5 : ∀ p : Fin 128, x5 (ix2 k p) = w ⟨2944 + p.val, by omega⟩) (q : Fin 3072) :
    (truncf .bf16 (fn_main_v25 (F := Ideal) x0 x1 x2 x3 x4 x5) bitsLt_bf16_f32 : FVec Ideal S1024x3072 .bf16) (ix2 k q) = w q := by
  pointwise [fn_main_v25]
  split_ifs <;> simp only [e0, e1, e2, e3, e4, e5] <;> exact congrArg w (Fin.ext (by simp only [Fin.val_mk]; omega))

set_option maxHeartbeats 4000000

/-- The six pieces of the padded gradient are six stretches of its padded row. -/
theorem pieces (w : FVec Ideal S1024x2832 .f32) (k : Fin 1024) :
    (∀ p : Fin 256, (pad S1024x256 ![0, 0] ![0, 64] ![0, 0] (extractStridedSlice S1024x192 ![0, 0] w slices_S1024x2832_S1024x192_0_0) (sitofp (F := Ideal) .f32 (constantI S_ 32 0#32)) pads_S1024x192_S1024x256_000_0640 h_S_ : FVec Ideal S1024x256 .f32) (ix2 k p) = Win.wide (fun p => w (ix2 k p)) ⟨p.val, by omega⟩)
    ∧ (∀ p : Fin 256, (pad S1024x256 ![0, 0] ![0, 64] ![0, 0] (extractStridedSlice S1024x192 ![0, 192] w slices_S1024x2832_S1024x192_0_192) (sitofp (F := Ideal) .f32 (constantI S_ 32 0#32)) pads_S1024x192_S1024x256_000_0640 h_S_ : FVec Ideal S1024x256 .f32) (ix2 k p) = Win.wide (fun p => w (ix2 k p)) ⟨256 + p.val, by omega⟩)
    ∧ (∀ p : Fin 384, (extractStridedSlice S1024x384 ![0, 384] w slices_S1024x2832_S1024x384_0_384 : FVec Ideal S1024x384 .f32) (ix2 k p) = Win.wide (fun p => w (ix2 k p)) ⟨512 + p.val, by omega⟩)
    ∧ (∀ p : Fin 384, (extractStridedSlice S1024x384 ![0, 768] w slices_S1024x2832_S1024x384_0_768 : FVec Ideal S1024x384 .f32) (ix2 k p) = Win.wide (fun p => w (ix2 k p)) ⟨896 + p.val, by omega⟩)
    ∧ (∀ p : Fin 1664, (extractStridedSlice S1024x1664 ![0, 1168] w slices_S1024x2832_S1024x1664_0_1168 : FVec Ideal S1024x1664 .f32) (ix2 k p) = Win.wide (fun p => w (ix2 k p)) ⟨1280 + p.val, by omega⟩)
    ∧ (∀ p : Fin 128, (pad S1024x128 ![0, 0] ![0, 112] ![0, 0] (extractStridedSlice S1024x16 ![0, 1152] w slices_S1024x2832_S1024x16_0_1152) (sitofp (F := Ideal) .f32 (constantI S_ 32 0#32)) pads_S1024x16_S1024x128_000_01120 h_S_ : FVec Ideal S1024x128 .f32) (ix2 k p) = Win.wide (fun p => w (ix2 k p)) ⟨2944 + p.val, by omega⟩) := by
  refine ⟨?_, ?_, ?_, ?_, ?_, ?_⟩ <;> intro p <;>
  · pointwise [zeroI]
    unfold Win.wide
    dsimp only
    split_ifs <;> first
      | (exfalso; omega)
      | exact congrArg (fun p => w (ix2 k p)) (Fin.ext (by simp only [Fin.val_mk]; omega))
      | rfl

theorem tPad_apply (w) (k : Fin 1024) (q : Fin 3072) : tPad w (ix2 k q) = Win.wide (fun p => w (ix2 k p)) q := by
  unfold tPad
  obtain ⟨u0, u1, u2, u3, u4, u5⟩ := pieces w k
  exact cat_apply _ _ _ _ _ _ k _ u0 u1 u2 u3 u4 u5 q

theorem out0_apply (k : Fin 1024) (q : Fin 3072) : res_out0 m c (ix2 k q) = ∑ t, Mlp.Xn (cH m c) (cG m c) t k * Win.wide (cD m c t) q := by
  rw [out0_eq, tPad_apply, Win.wide_sum]
  congr 1
  funext p
  rw [tD_apply]
  exact Finset.sum_congr rfl fun t _ => by rw [tXn_apply]

end Cert.Reference3Ideal.Val
-- ==== Proof.Inx.Math.lean ====
module

public import proofs.«01_k».proof.Proof.Math
public import proofs.«01_k».proof.Proof.Win.Wide

@[expose] public section

set_option maxRecDepth 16384

noncomputable section

/-! # The gradient of the projection's input: the mathematics -/

namespace Cert.Inx

open Idealize.ShloMosaic

/-- A sum over the padded layout is the sum over the columns it lays out. -/
theorem wide_total (u : Fin 2832 → EReal) : ∑ q, Win.wide u q = ∑ p, u p := by
  let W : ℕ → EReal := fun n => if h : n < 3072 then Win.wide u ⟨n, h⟩ else 0
  let U : ℕ → EReal := fun n => if h : n < 2832 then u ⟨n, h⟩ else 0
  have kept (a b n : ℕ) (h : ∀ x < n, W (a + x) = U (b + x)) : ∑ x ∈ Finset.range n, W (a + x) = ∑ x ∈ Finset.range n, U (b + x) :=
    Finset.sum_congr rfl fun x hx => h x (Finset.mem_range.mp hx)
  have added (a n : ℕ) (h : ∀ x < n, W (a + x) = 0) : ∑ x ∈ Finset.range n, W (a + x) = 0 :=
    Finset.sum_eq_zero fun x hx => h x (Finset.mem_range.mp hx)
  have at_W (n : ℕ) (h : n < 3072) : W n = Win.wide u ⟨n, h⟩ := dif_pos h
  have at_U (n : ℕ) (h : n < 2832) : U n = u ⟨n, h⟩ := dif_pos h
  have eW : ∑ q, Win.wide u q = ∑ n ∈ Finset.range 3072, W n := by
    rw [Finset.sum_range]; exact Finset.sum_congr rfl fun q _ => (at_W q.val q.isLt).symm
  have eU : ∑ p, u p = ∑ n ∈ Finset.range 2832, U n := by
    rw [Finset.sum_range]; exact Finset.sum_congr rfl fun q _ => (at_U q.val q.isLt).symm
  have cut (f : ℕ → EReal) (a b n : ℕ) (h : a + b = n) : ∑ x ∈ Finset.range n, f x = ∑ x ∈ Finset.range a, f x + ∑ x ∈ Finset.range b, f (a + x) :=
    h ▸ Finset.sum_range_add f a b
  have k1 := kept 0 0 192 fun x hx => by
    rw [at_W _ (by omega), at_U _ (by omega)]; unfold Win.wide; dsimp only
    rw [dif_pos (by omega)]
  have k2 := kept 256 192 192 fun x hx => by
    rw [at_W _ (by omega), at_U _ (by omega)]; unfold Win.wide; dsimp only
    rw [dif_neg (by omega), if_neg (by omega), dif_pos (by omega)]; exact congrArg u (Fin.ext (by dsimp only; omega))
  have k3 := kept 512 384 768 fun x hx => by
    rw [at_W _ (by omega), at_U _ (by omega)]; unfold Win.wide; dsimp only
    rw [dif_neg (by omega), if_neg (by omega), dif_neg (by omega), if_neg (by omega), dif_pos (by omega)]; exact congrArg u (Fin.ext (by dsimp only; omega))
  have k4 := kept 1280 1168 1664 fun x hx => by
    rw [at_W _ (by omega), at_U _ (by omega)]; unfold Win.wide; dsimp only
    rw [dif_neg (by omega), if_neg (by omega), dif_neg (by omega), if_neg (by omega), dif_neg (by omega), dif_pos (by omega)]; exact congrArg u (Fin.ext (by dsimp only; omega))
  have k5 := kept 2944 1152 16 fun x hx => by
    rw [at_W _ (by omega), at_U _ (by omega)]; unfold Win.wide; dsimp only
    rw [dif_neg (by omega), if_neg (by omega), dif_neg (by omega), if_neg (by omega), dif_neg (by omega), dif_neg (by omega), dif_pos (by omega)]; exact congrArg u (Fin.ext (by dsimp only; omega))
  have z1 := added 192 64 fun x hx => by
    rw [at_W _ (by omega)]; unfold Win.wide; dsimp only
    rw [dif_neg (by omega), if_pos (by omega)]
  have z2 := added 448 64 fun x hx => by
    rw [at_W _ (by omega)]; unfold Win.wide; dsimp only
    rw [dif_neg (by omega), if_neg (by omega), dif_neg (by omega), if_pos (by omega)]
  have z3 := added 2960 112 fun x hx => by
    rw [at_W _ (by omega)]; unfold Win.wide; dsimp only
    rw [dif_neg (by omega), if_neg (by omega), dif_neg (by omega), if_neg (by omega), dif_neg (by omega), dif_neg (by omega), dif_neg (by omega)]
  simp only [Nat.zero_add] at k1
  rw [eW, eU, cut W 2960 112 3072 rfl, cut W 2944 16 2960 rfl, cut W 1280 1664 2944 rfl, cut W 512 768 1280 rfl, cut W 448 64 512 rfl, cut W 256 192 448 rfl,
    cut W 192 64 256 rfl, cut U 1168 1664 2832 rfl, cut U 1152 16 1168 rfl, cut U 384 768 1152 rfl, cut U 192 192 384 rfl,
    k1, k2, k3, k4, k5, z1, z2, z3, add_zero, add_zero, add_zero]
  exact add_right_comm _ _ _

/-- The inner product of two rows in the padded layout is that of the rows themselves: the added columns' zeros add nothing. -/
theorem wide_inner (f g : Fin 2832 → EReal) : ∑ q, Win.wide f q * Win.wide g q = ∑ p, f p * g p := by
  rw [← wide_total fun p => f p * g p]
  refine Finset.sum_congr rfl fun q _ => ?_
  unfold Win.wide
  split_ifs <;> first | rfl | exact mul_zero _

section Layer
variable (h y : Fin 4096 → Fin 1024 → EReal) (g : Fin 1024 → EReal) (w : Fin 1024 → Fin 2832 → EReal) (d : Fin 4096 → Fin 2832 → EReal)

/-- The gradient of the normed input, -/
def Dx (t : Fin 4096) (k : Fin 1024) : EReal := ∑ p, d t p * w k p
/-- of the layer's input, -/
def Out (t : Fin 4096) (k : Fin 1024) : EReal :=
  y t k + Mlp.R (h t) * (Dx w d t k * g k - h t k * Mlp.R (h t) * Ideal.div (∑ j, Dx w d t j * g j * (h t j * Mlp.R (h t))) (Ideal.ofBits .f32 0x44800000#32))
/-- and of the norm's weight. -/
def Gam (k : Fin 1024) : EReal := ∑ t, Dx w d t k * (h t k * Mlp.R (h t))

theorem gam_comm (k : Fin 1024) : ∑ t, Mlp.Xh h t k * Dx w d t k = Gam h w d k := Finset.sum_congr rfl fun _ _ => mul_comm _ _

end Layer

end Cert.Inx
-- ==== Proof.Inx.Payloads.lean ====
module

public import proofs.«01_k».proof.Proof.Math
public import proofs.«01_k».proof.Proof.Gen.Kernel4Ideal.Skeleton
public import Idealize.ShloMosaic.Lib.Pointwise

@[expose] public section

set_option maxRecDepth 16384

noncomputable section

/-! # The body's stores at an index, in the gradient of the projection's input -/

namespace Cert.Kernel4Ideal.Inx

open Cert Cert.Kernel4Ideal Cert.Kernel4Ideal.Gen
open Idealize.ShloMosaic Idealize.ShloMosaic.TcCoe

theorem mm_apply (x : FVec Ideal S512x3072 .bf16) (w : FVec Ideal S1024x3072 .bf16) (r : Fin 512) (k : Fin 1024) :
    (matmul dot_S512x3072_S1024x3072_S512x1024_1_1_0_0_n_n none x w (constant S512x1024 .f32 0x00000000#32) : FVec Ideal S512x1024 .f32) (ix2 r k) = ∑ q : Fin 3072, x (ix2 r q) * w (ix2 k q) := by
  pointwise

section Body
variable (x4 x5 : FVec Ideal S512x256 .bf16) (x6 x7 : FVec Ideal S512x384 .bf16) (x8 : FVec Ideal S512x512 .bf16) (x9 x10 x11 : FVec Ideal S512x384 .bf16)
  (x12 : Vec Ideal S512x128 .bf16) (w : Vec Ideal S1024x3072 .bf16) (h y : Vec Ideal S512x1024 .f32) (s : FVec Ideal S512x1 .f32) (g acc : FVec Ideal S1x1024 .f32)

/-- The gradient of the normed block. -/
theorem pay1_apply (r : Fin 512) (k : Fin 1024) : k0_pay1 x4 x5 x6 x7 x8 x9 x10 x11 x12 w (ix2 r k) = ∑ q : Fin 3072,
    (concatenate S512x3072 1 [⟨S512x256, x4⟩, ⟨S512x256, x5⟩, ⟨S512x384, x6⟩, ⟨S512x384, x7⟩, ⟨S512x512, x8⟩, ⟨S512x384, x9⟩, ⟨S512x384, x10⟩, ⟨S512x384, x11⟩, ⟨S512x128, x12⟩]
      concatenates_S512x256_S512x256_S512x384_S512x384_S512x512_S512x384_S512x384_S512x384_S512x128_S512x3072_d1 : FVec Ideal S512x3072 .bf16) (ix2 r q) * w (ix2 k q) := by
  unfold k0_pay1
  rw [shapeCast_self, shapeCast_self]
  exact mm_apply _ _ r k

/-- The gradient of the block, over that of the normed block. -/
theorem pay3_apply (r : Fin 512) (k : Fin 1024) : k0_pay3 h s g x4 x5 x6 x7 x8 x9 x10 x11 x12 w y (ix2 r k)
    = y (ix2 r k) + s (ix2 r 0) * (k0_pay1 x4 x5 x6 x7 x8 x9 x10 x11 x12 w (ix2 r k) * g (ix2 0 k)
      - h (ix2 r k) * s (ix2 r 0) * Ideal.div (∑ j : Fin 1024, k0_pay1 x4 x5 x6 x7 x8 x9 x10 x11 x12 w (ix2 r j) * g (ix2 0 j) * (h (ix2 r j) * s (ix2 r 0))) (Ideal.ofBits .f32 0x44800000#32)) := by
  unfold k0_pay3
  generalize k0_pay1 x4 x5 x6 x7 x8 x9 x10 x11 x12 w = x
  pointwise [k0_pay2]

/-- The accumulator with the block's part of the gradient of the norm's weight added. -/
theorem pay5_apply (o : Fin 1) (k : Fin 1024) : k0_pay5 h s x4 x5 x6 x7 x8 x9 x10 x11 x12 w acc (ix2 o k)
    = acc (ix2 o k) + ∑ r : Fin 512, k0_pay1 x4 x5 x6 x7 x8 x9 x10 x11 x12 w (ix2 r k) * (h (ix2 r k) * s (ix2 r 0)) := by
  unfold k0_pay5
  generalize k0_pay1 x4 x5 x6 x7 x8 x9 x10 x11 x12 w = x
  rw [shapeCast_self]
  pointwise [k0_pay2]

theorem pay7_apply (r : Fin 512) (o : Fin 1) : k0_pay7 h (ix2 r o) = Mlp.R fun k => h (ix2 r k) := by
  pointwise [k0_pay7]
  rfl

end Body

theorem pay6_apply (o : Fin 1) (k : Fin 1024) : k0_pay6 (F := Ideal) (ix2 o k) = 0 := by
  pointwise [k0_pay6]

end Cert.Kernel4Ideal.Inx
-- ==== Proof.Inx.Cases.lean ====
module

public import proofs.«01_k».proof.Proof.Gen.Kernel4Ideal.Value
public import Idealize.ShloMosaic.Lib.Tactic

@[expose] public section

set_option maxRecDepth 16384

noncomputable section

/-! # What a point of the grid leaves in the three results' blocks, in the gradient of the projection's input -/

namespace Cert.Kernel4Ideal.Inx

open Cert.Kernel4Ideal Cert.Kernel4Ideal.Gen Cert.Kernel4Ideal.Value
open Idealize.ShloMosaic Idealize.ShloMosaic.TcCoe

variable {F : FTy → Type} [FloatOps F]
variable (c : Dev nD)

theorem hz : (![0, 0] : Fin 2 → Nat) = fun _ => 0 := funext fun a => by fin_cases a <;> rfl

section Terms
variable (x0 x1 : Vec F S512x1024 .f32) (x2 : Vec F S1x1024 .f32) (x3 : Vec F S1024x3072 .bf16) (x4 x5 : Vec F S512x256 .bf16) (x6 x7 : Vec F S512x384 .bf16)
  (x8 : Vec F S512x512 .bf16) (x9 x10 x11 : Vec F S512x384 .bf16) (x12 : Vec F S512x128 .bf16) (acc : Vec F S1x1024 .f32)

/-- The block of the input's gradient, over the blocks of the layer's input, the gradient beside it, the norm's weight, the projection's weight and the nine pieces, -/
def outX : Vec F S512x1024 .f32 :=
  k0_pay3 x0 (k0_pay7 x0) (k0_pay8 x2) (k0_pay9 x4) (k0_pay10 x5) (k0_pay11 x6) (k0_pay12 x7) (k0_pay13 x8) (k0_pay14 x9) (k0_pay15 x10) (k0_pay16 x11) x12 x3 x1
/-- the same rounded, -/
def outB : Vec F S512x1024 .bf16 :=
  k0_pay4 x0 (k0_pay7 x0) (k0_pay8 x2) (k0_pay9 x4) (k0_pay10 x5) (k0_pay11 x6) (k0_pay12 x7) (k0_pay13 x8) (k0_pay14 x9) (k0_pay15 x10) (k0_pay16 x11) x12 x3 x1
/-- and the norm's gradient so far with the block's part added. -/
def outG : Vec F S1x1024 .f32 :=
  k0_pay5 x0 (k0_pay7 x0) (k0_pay9 x4) (k0_pay10 x5) (k0_pay11 x6) (k0_pay12 x7) (k0_pay13 x8) (k0_pay14 x9) (k0_pay15 x10) (k0_pay16 x11) x12 x3 acc

end Terms

set_option maxHeartbeats 8000000

variable (i : grid0.Coords) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S1024x3072 .bf16) (h4 : a4.IsWhole)
  (a5 : Memref sig .tc .vmem S512x256 .bf16) (h5 : a5.IsWhole) (a6 : Memref sig .tc .vmem S512x256 .bf16) (h6 : a6.IsWhole)
  (a7 : Memref sig .tc .vmem S512x384 .bf16) (h7 : a7.IsWhole) (a8 : Memref sig .tc .vmem S512x384 .bf16) (h8 : a8.IsWhole)
  (a9 : Memref sig .tc .vmem S512x512 .bf16) (h9 : a9.IsWhole) (a10 : Memref sig .tc .vmem S512x384 .bf16) (h10 : a10.IsWhole)
  (a11 : Memref sig .tc .vmem S512x384 .bf16) (h11 : a11.IsWhole) (a12 : Memref sig .tc .vmem S512x384 .bf16) (h12 : a12.IsWhole)
  (a13 : Memref sig .tc .vmem S512x128 .bf16) (h13 : a13.IsWhole) (a14 : Memref sig .tc .vmem S512x1024 .f32) (h14 : a14.IsWhole)
  (a15 : Memref sig .tc .vmem S512x1024 .bf16) (h15 : a15.IsWhole) (a16 : Memref sig .tc .vmem S1x1024 .f32) (h16 : a16.IsWhole)
  (x0 x1 : Vec F S512x1024 .f32) (x2 : Vec F S1x1024 .f32) (x3 : Vec F S1024x3072 .bf16) (x4 x5 : Vec F S512x256 .bf16) (x6 x7 : Vec F S512x384 .bf16)
  (x8 : Vec F S512x512 .bf16) (x9 x10 x11 : Vec F S512x384 .bf16) (x12 : Vec F S512x128 .bf16) (acc : Vec F S1x1024 .f32)

/-- The first point starts the norm's gradient from zero, -/
theorem outs_A (hc0) :
    (out0_A_13 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12,
      out0_A_14 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12,
      out0_A_15 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12)
    = (outX x0 x1 x2 x3 x4 x5 x6 x7 x8 x9 x10 x11 x12, outB x0 x1 x2 x3 x4 x5 x6 x7 x8 x9 x10 x11 x12, outG x0 x3 x4 x5 x6 x7 x8 x9 x10 x11 x12 k0_pay6) := by
  unfold out0_A_13 out0_A_14 out0_A_15
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12),
    View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12),
    View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12)]
  unfold kernelRun0_A
  dsimp only
  sl_unfold_words
  rw [View.canon_unit_zero (S := S512x1024) hz, View.canon_unit_zero (S := S512x1024) hz, View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread,
    h12.read_unread, h13.read_unread, View.ld_unit_zero (S := S512x1024) hz, View.ld_unit_zero (S := S1x1024) hz, View.ld_unit_zero (S := S1024x3072) hz, View.ld_unit_zero (S := S512x256) hz,
    View.ld_unit_zero (S := S512x384) hz, View.ld_unit_zero (S := S512x512) hz, View.ld_unit_zero (S := S512x128) hz]
  rfl

/-- and every other one adds to what the point before it left. -/
theorem outs_B (hc0) :
    (out0_B_13 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12 acc,
      out0_B_14 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12 acc,
      out0_B_15 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12 acc)
    = (outX x0 x1 x2 x3 x4 x5 x6 x7 x8 x9 x10 x11 x12, outB x0 x1 x2 x3 x4 x5 x6 x7 x8 x9 x10 x11 x12, outG x0 x3 x4 x5 x6 x7 x8 x9 x10 x11 x12 acc) := by
  unfold out0_B_13 out0_B_14 out0_B_15
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12 acc),
    View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12 acc),
    View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 hc0 x0 x1 x2 x3 x4 x5 x6 x7 x8 x9 x10 x11 x12 acc)]
  unfold kernelRun0_B
  dsimp only
  sl_unfold_words
  rw [View.canon_unit_zero (S := S512x1024) hz, View.canon_unit_zero (S := S512x1024) hz, View.canon_unit_zero (S := S1x1024) hz]
  simp only [View.readAt_eq_ld, h1.read_unread, h2.read_unread, h3.read_unread, h4.read_unread, h5.read_unread, h6.read_unread, h7.read_unread, h8.read_unread, h9.read_unread, h10.read_unread, h11.read_unread,
    h12.read_unread, h13.read_unread, h16.read_unread, View.ld_unit_zero (S := S512x1024) hz, View.ld_unit_zero (S := S1x1024) hz, View.ld_unit_zero (S := S1024x3072) hz, View.ld_unit_zero (S := S512x256) hz,
    View.ld_unit_zero (S := S512x384) hz, View.ld_unit_zero (S := S512x512) hz, View.ld_unit_zero (S := S512x128) hz]
  rfl

end Cert.Kernel4Ideal.Inx
-- ==== Proof.Inx.Arrays.lean ====
module

public import proofs.«01_k».proof.Proof.Gen.Kernel4Ideal.Frame
public import proofs.«01_k».proof.Proof.Win.Arrays

@[expose] public section

set_option maxRecDepth 16384

noncomputable section

/-! # The arrays the region for the gradient of the projection's input is launched on, and the windows' blocks -/

namespace Cert.Kernel4Ideal.Inx

open Cert Cert.Kernel4Ideal Cert.Kernel4Ideal.Gen
open Idealize.ShloMosaic Idealize.ShloMosaic.TcCoe

variable (m : (ℓ : Loc nD τ sig) → Buf (Elt Ideal) ℓ) (c : Dev nD)

def aH : FVec Ideal S4096x1024 .f32 := m ((c.tc : Thread nD τ).loc main_arg0)
def aG : FVec Ideal S1024 .f32 := m ((c.tc : Thread nD τ).loc main_arg1)
def aW : FVec Ideal S1024x2832 .f32 := m ((c.tc : Thread nD τ).loc main_arg2)
def aY : FVec Ideal S4096x1024 .f32 := m ((c.tc : Thread nD τ).loc main_arg3)
def aD : FVec Ideal S4096x2832 .f32 := m ((c.tc : Thread nD τ).loc main_arg4)
abbrev cH : Fin 4096 → Fin 1024 → EReal := fun t k => aH m c (ix2 t k)
abbrev cG : Fin 1024 → EReal := fun k => aG m c (ix1 k)
abbrev cW : Fin 1024 → Fin 2832 → EReal := fun k p => aW m c (ix2 k p)
abbrev cY : Fin 4096 → Fin 1024 → EReal := fun t k => aY m c (ix2 t k)
abbrev cD : Fin 4096 → Fin 2832 → EReal := fun t p => aD m c (ix2 t p)

set_option maxHeartbeats 8000000

theorem VH (t : Fin 4096) (k : Fin 1024) : V m c main_arg0 (ix2 t k) = cH m c t k := congrFun (V_main_arg0 m c) _
theorem VY (t : Fin 4096) (k : Fin 1024) : V m c main_arg3 (ix2 t k) = cY m c t k := congrFun (V_main_arg3 m c) _
theorem VG (o : Fin 1) (k : Fin 1024) : V m c main_v47 (ix2 o k) = cG m c k := by
  unfold V; simp only [List.flatten_cons, List.flatten_nil, List.append_nil, List.cons_append]
  after_reads_at
  rfl

/-- The padded weight is nine pieces side by side. -/
theorem V46 : V m c main_v46 = (truncf .bf16 (concatenate S1024x3072 1 [⟨S1024x256, V m c main_v36⟩, ⟨S1024x256, V m c main_v37⟩, ⟨S1024x384, V m c main_v38⟩, ⟨S1024x384, V m c main_v39⟩, ⟨S1024x512, V m c main_v40⟩, ⟨S1024x384, V m c main_v41⟩, ⟨S1024x384, V m c main_v42⟩, ⟨S1024x384, V m c main_v43⟩, ⟨S1024x128, V m c main_v44⟩]
    concatenates_S1024x256_S1024x256_S1024x384_S1024x384_S1024x512_S1024x384_S1024x384_S1024x384_S1024x128_S1024x3072_d1 : FVec Ideal S1024x3072 .f32) bitsLt_bf16_f32 : FVec Ideal S1024x3072 .bf16) := by
  unfold V; simp only [List.flatten_cons, List.flatten_nil, List.append_nil, List.cons_append]
  after_reads_simp
  refine congrArg (fun x : FVec Ideal S1024x3072 .f32 => (truncf .bf16 x bitsLt_bf16_f32 : FVec Ideal S1024x3072 .bf16)) (StableHlo.concatenate_congr _ _ ?_ _ _)
  repeat' (refine congrArg₂ List.cons (congrArg (Sigma.mk _) ?_) ?_)
  all_goals first | rfl | (after_reads_simp; rfl)

/-- Those pieces are nine stretches of the padded layout of the weight's rows, and the nine arrays the projection's gradient is split into of its rows. -/
theorem parts (t : Fin 4096) (k : Fin 1024) :
    ((∀ p : Fin 256, V m c main_v10 (ix2 t p) = Win.wide (cD m c t) ⟨p.val, by omega⟩)
    ∧ (∀ p : Fin 256, V m c main_v12 (ix2 t p) = Win.wide (cD m c t) ⟨256 + p.val, by omega⟩)
    ∧ (∀ p : Fin 384, V m c main_v14 (ix2 t p) = Win.wide (cD m c t) ⟨512 + p.val, by omega⟩)
    ∧ (∀ p : Fin 384, V m c main_v16 (ix2 t p) = Win.wide (cD m c t) ⟨896 + p.val, by omega⟩)
    ∧ (∀ p : Fin 512, V m c main_v18 (ix2 t p) = Win.wide (cD m c t) ⟨1280 + p.val, by omega⟩)
    ∧ (∀ p : Fin 384, V m c main_v20 (ix2 t p) = Win.wide (cD m c t) ⟨1792 + p.val, by omega⟩)
    ∧ (∀ p : Fin 384, V m c main_v22 (ix2 t p) = Win.wide (cD m c t) ⟨2176 + p.val, by omega⟩)
    ∧ (∀ p : Fin 384, V m c main_v24 (ix2 t p) = Win.wide (cD m c t) ⟨2560 + p.val, by omega⟩)
    ∧ (∀ p : Fin 128, V m c main_v26 (ix2 t p) = Win.wide (cD m c t) ⟨2944 + p.val, by omega⟩))
    ∧ (∀ p : Fin 256, V m c main_v36 (ix2 k p) = Win.wide (cW m c k) ⟨p.val, by omega⟩)
    ∧ (∀ p : Fin 256, V m c main_v37 (ix2 k p) = Win.wide (cW m c k) ⟨256 + p.val, by omega⟩)
    ∧ (∀ p : Fin 384, V m c main_v38 (ix2 k p) = Win.wide (cW m c k) ⟨512 + p.val, by omega⟩)
    ∧ (∀ p : Fin 384, V m c main_v39 (ix2 k p) = Win.wide (cW m c k) ⟨896 + p.val, by omega⟩)
    ∧ (∀ p : Fin 512, V m c main_v40 (ix2 k p) = Win.wide (cW m c k) ⟨1280 + p.val, by omega⟩)
    ∧ (∀ p : Fin 384, V m c main_v41 (ix2 k p) = Win.wide (cW m c k) ⟨1792 + p.val, by omega⟩)
    ∧ (∀ p : Fin 384, V m c main_v42 (ix2 k p) = Win.wide (cW m c k) ⟨2176 + p.val, by omega⟩)
    ∧ (∀ p : Fin 384, V m c main_v43 (ix2 k p) = Win.wide (cW m c k) ⟨2560 + p.val, by omega⟩)
    ∧ (∀ p : Fin 128, V m c main_v44 (ix2 k p) = Win.wide (cW m c k) ⟨2944 + p.val, by omega⟩) := by
  refine ⟨⟨?_, ?_, ?_, ?_, ?_, ?_, ?_, ?_, ?_⟩, ?_, ?_, ?_, ?_, ?_, ?_, ?_, ?_, ?_⟩ <;> intro p <;>
  · unfold V; simp only [List.flatten_cons, List.flatten_nil, List.append_nil, List.cons_append]
    after_reads_at
    try rw [Cert.Kernel3Ideal.Win.zeroI]
    unfold Win.wide
    dsimp only
    split_ifs <;> first
      | (exfalso; omega)
      | exact congrArg (fun p => cD m c t p) (Fin.ext (by simp only [Fin.val_mk]; omega))
      | exact congrArg (fun p => cW m c k p) (Fin.ext (by simp only [Fin.val_mk]; omega))
      | rfl

/-- Nine pieces of a row side by side, where each piece is its own stretch of one row of 3072. -/
theorem cat_apply (x0 x1 : FVec Ideal S1024x256 .f32) (x2 x3 : FVec Ideal S1024x384 .f32) (x4 : FVec Ideal S1024x512 .f32)
    (x5 x6 x7 : FVec Ideal S1024x384 .f32) (x8 : FVec Ideal S1024x128 .f32) (k : Fin 1024) (w : Fin 3072 → EReal)
    (e : (∀ p : Fin 256, x0 (ix2 k p) = w ⟨p.val, by omega⟩)
    ∧ (∀ p : Fin 256, x1 (ix2 k p) = w ⟨256 + p.val, by omega⟩)
    ∧ (∀ p : Fin 384, x2 (ix2 k p) = w ⟨512 + p.val, by omega⟩)
    ∧ (∀ p : Fin 384, x3 (ix2 k p) = w ⟨896 + p.val, by omega⟩)
    ∧ (∀ p : Fin 512, x4 (ix2 k p) = w ⟨1280 + p.val, by omega⟩)
    ∧ (∀ p : Fin 384, x5 (ix2 k p) = w ⟨1792 + p.val, by omega⟩)
    ∧ (∀ p : Fin 384, x6 (ix2 k p) = w ⟨2176 + p.val, by omega⟩)
    ∧ (∀ p : Fin 384, x7 (ix2 k p) = w ⟨2560 + p.val, by omega⟩)
    ∧ (∀ p : Fin 128, x8 (ix2 k p) = w ⟨2944 + p.val, by omega⟩)) (q : Fin 3072) :
    (concatenate S1024x3072 1 [⟨S1024x256, x0⟩, ⟨S1024x256, x1⟩, ⟨S1024x384, x2⟩, ⟨S1024x384, x3⟩, ⟨S1024x512, x4⟩, ⟨S1024x384, x5⟩, ⟨S1024x384, x6⟩, ⟨S1024x384, x7⟩, ⟨S1024x128, x8⟩]
      concatenates_S1024x256_S1024x256_S1024x384_S1024x384_S1024x512_S1024x384_S1024x384_S1024x384_S1024x128_S1024x3072_d1 : FVec Ideal S1024x3072 .f32) (ix2 k q) = w q := by
  obtain ⟨e0, e1, e2, e3, e4, e5, e6, e7, e8⟩ := e
  pointwise
  split_ifs <;> simp only [e0, e1, e2, e3, e4, e5, e6, e7, e8] <;> exact congrArg w (Fin.ext (by simp only [Fin.val_mk]; omega))

/-- The padded weight. -/
theorem VW (k : Fin 1024) (q : Fin 3072) : V m c main_v46 (ix2 k q) = Win.wide (cW m c k) q :=
  (congrFun (V46 m c) _).trans (cat_apply _ _ _ _ _ _ _ _ _ k _ (parts m c 0 k).2 q)

theorem lt8 (t : Fin cfg0.N) : t.val < 8 := lt_of_lt_of_eq t.isLt N_0

/-- Row `r` of the point's row block. -/
abbrev rowOf (t : Fin cfg0.N) (r : Fin 512) : Fin 4096 := ⟨t.val * 512 + r.val, by have := lt8 t; omega⟩

/-- Every window but the two weights' and the norm's gradient's moves down the rows by one block a point, and none moves along a row. -/
theorem ix_row : ∀ t : Fin cfg0.N, (cfg0.win 0).index t (0 : Fin 2) = t.val ∧ (cfg0.win 1).index t (0 : Fin 2) = t.val
    ∧ (cfg0.win 13).index t (0 : Fin 2) = t.val ∧ (cfg0.win 14).index t (0 : Fin 2) = t.val
    ∧ (cfg0.win 2).index t (0 : Fin 2) = 0 ∧ (cfg0.win 3).index t (0 : Fin 2) = 0 ∧ (cfg0.win 15).index t (0 : Fin 2) = 0 := by decide +kernel
theorem ix_col : ∀ t : Fin cfg0.N, (cfg0.win 0).index t (1 : Fin 2) = 0 ∧ (cfg0.win 1).index t (1 : Fin 2) = 0
    ∧ (cfg0.win 13).index t (1 : Fin 2) = 0 ∧ (cfg0.win 14).index t (1 : Fin 2) = 0
    ∧ (cfg0.win 2).index t (1 : Fin 2) = 0 ∧ (cfg0.win 3).index t (1 : Fin 2) = 0 ∧ (cfg0.win 15).index t (1 : Fin 2) = 0 := by decide +kernel
theorem ix_part_row : ∀ t : Fin cfg0.N, (cfg0.win 4).index t (0 : Fin 2) = t.val ∧ (cfg0.win 5).index t (0 : Fin 2) = t.val ∧ (cfg0.win 6).index t (0 : Fin 2) = t.val
    ∧ (cfg0.win 7).index t (0 : Fin 2) = t.val ∧ (cfg0.win 8).index t (0 : Fin 2) = t.val ∧ (cfg0.win 9).index t (0 : Fin 2) = t.val
    ∧ (cfg0.win 10).index t (0 : Fin 2) = t.val ∧ (cfg0.win 11).index t (0 : Fin 2) = t.val ∧ (cfg0.win 12).index t (0 : Fin 2) = t.val := by decide +kernel
theorem ix_part_col : ∀ t : Fin cfg0.N, (cfg0.win 4).index t (1 : Fin 2) = 0 ∧ (cfg0.win 5).index t (1 : Fin 2) = 0 ∧ (cfg0.win 6).index t (1 : Fin 2) = 0
    ∧ (cfg0.win 7).index t (1 : Fin 2) = 0 ∧ (cfg0.win 8).index t (1 : Fin 2) = 0 ∧ (cfg0.win 9).index t (1 : Fin 2) = 0
    ∧ (cfg0.win 10).index t (1 : Fin 2) = 0 ∧ (cfg0.win 11).index t (1 : Fin 2) = 0 ∧ (cfg0.win 12).index t (1 : Fin 2) = 0 := by decide +kernel

section Blocks
variable (t : Fin cfg0.N) (r : Fin 512)

theorem h_apply (k : Fin 1024) : iblk m c 0 t (ix2 r k) = cH m c (rowOf t r) k :=
  (congrArg (V m c main_arg0) (Tiles.ext2 (Tiles.move (ix_row t).1) (Tiles.still (ix_col t).1))).trans (VH m c _ _)
theorem y_apply (k : Fin 1024) : iblk m c 1 t (ix2 r k) = cY m c (rowOf t r) k :=
  (congrArg (V m c main_arg3) (Tiles.ext2 (Tiles.move (ix_row t).2.1) (Tiles.still (ix_col t).2.1))).trans (VY m c _ _)
theorem g_apply (o : Fin 1) (k : Fin 1024) : iblk m c 2 t (ix2 o k) = cG m c k :=
  (congrArg (V m c main_v47) (Tiles.ext2 (Tiles.still (ix_row t).2.2.2.2.1) (Tiles.still (ix_col t).2.2.2.2.1))).trans (VG m c _ _)
theorem w_apply (k : Fin 1024) (q : Fin 3072) : iblk m c 3 t (ix2 k q) = Win.wide (cW m c k) q :=
  (congrArg (V m c main_v46) (Tiles.ext2 (Tiles.still (ix_row t).2.2.2.2.2.1) (Tiles.still (ix_col t).2.2.2.2.2.1))).trans (VW m c k q)

/-- The blocks of the nine arrays at a point: nine stretches of the padded row. -/
theorem part_blocks :
    (∀ p : Fin 256, iblk m c 4 t (ix2 r p) = Win.wide (cD m c (rowOf t r)) ⟨p.val, by omega⟩)
    ∧ (∀ p : Fin 256, iblk m c 5 t (ix2 r p) = Win.wide (cD m c (rowOf t r)) ⟨256 + p.val, by omega⟩)
    ∧ (∀ p : Fin 384, iblk m c 6 t (ix2 r p) = Win.wide (cD m c (rowOf t r)) ⟨512 + p.val, by omega⟩)
    ∧ (∀ p : Fin 384, iblk m c 7 t (ix2 r p) = Win.wide (cD m c (rowOf t r)) ⟨896 + p.val, by omega⟩)
    ∧ (∀ p : Fin 512, iblk m c 8 t (ix2 r p) = Win.wide (cD m c (rowOf t r)) ⟨1280 + p.val, by omega⟩)
    ∧ (∀ p : Fin 384, iblk m c 9 t (ix2 r p) = Win.wide (cD m c (rowOf t r)) ⟨1792 + p.val, by omega⟩)
    ∧ (∀ p : Fin 384, iblk m c 10 t (ix2 r p) = Win.wide (cD m c (rowOf t r)) ⟨2176 + p.val, by omega⟩)
    ∧ (∀ p : Fin 384, iblk m c 11 t (ix2 r p) = Win.wide (cD m c (rowOf t r)) ⟨2560 + p.val, by omega⟩)
    ∧ (∀ p : Fin 128, iblk m c 12 t (ix2 r p) = Win.wide (cD m c (rowOf t r)) ⟨2944 + p.val, by omega⟩) := by
  obtain ⟨a2, a3, a4, a5, a6, a7, a8, a9, a10⟩ := ix_part_row t
  obtain ⟨b2, b3, b4, b5, b6, b7, b8, b9, b10⟩ := ix_part_col t
  obtain ⟨v2, v3, v4, v5, v6, v7, v8, v9, v10⟩ := (parts m c (rowOf t r) 0).1
  have at_ {n : ℕ} {A : FVec Ideal ⟨2, ![4096, n]⟩ .bf16} {f : Shape.Idx ⟨2, ![4096, n]⟩} {i j : ℕ} {p : Fin n} {w : EReal}
      (hA : A (ix2 (rowOf t r) p) = w) (a : i = t.val) (h0 : (f 0).val = i * 512 + 1 * r.val) (b : j = 0) (h1 : (f 1).val = j * n + 1 * p.val) : A f = w :=
    (congrArg A (Tiles.ext2 (h0.trans (Tiles.move a)) (h1.trans (Tiles.still b)))).trans hA
  exact ⟨fun p => at_ (v2 p) a2 rfl b2 rfl, fun p => at_ (v3 p) a3 rfl b3 rfl, fun p => at_ (v4 p) a4 rfl b4 rfl, fun p => at_ (v5 p) a5 rfl b5 rfl,
    fun p => at_ (v6 p) a6 rfl b6 rfl, fun p => at_ (v7 p) a7 rfl b7 rfl, fun p => at_ (v8 p) a8 rfl b8 rfl, fun p => at_ (v9 p) a9 rfl b9 rfl,
    fun p => at_ (v10 p) a10 rfl b10 rfl⟩

end Blocks

end Cert.Kernel4Ideal.Inx
-- ==== Proof.Inx.Finals.lean ====
module

public import proofs.«01_k».proof.Proof.Inx.Math
public import proofs.«01_k».proof.Proof.Inx.Payloads
public import proofs.«01_k».proof.Proof.Inx.Cases
public import proofs.«01_k».proof.Proof.Inx.Arrays
public import Idealize.ShloMosaic.Lib.Pointwise.Sums

@[expose] public section

set_option maxRecDepth 16384

noncomputable section

/-! # The three results of the gradient of the projection's input -/

namespace Cert.Kernel4Ideal.Inx

open Cert Cert.Kernel4Ideal Cert.Kernel4Ideal.Gen Cert.Kernel4Ideal.Value
open Idealize.ShloMosaic Idealize.ShloMosaic.TcCoe
open Cert.Tiles (ext2 all2 mem_of still move)

variable (m : (ℓ : Loc nD τ sig) → Buf (Elt Ideal) ℓ) (c : Dev nD)

/-- What a point stores in the input's gradient, -/
def X (t : Fin cfg0.N) : Vec Ideal S512x1024 .f32 :=
  outX (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
/-- in its rounded copy, -/
def B (t : Fin cfg0.N) : Vec Ideal S512x1024 .bf16 :=
  outB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
/-- and in the norm's gradient. -/
def G (t : Fin cfg0.N) (acc : Vec Ideal S1x1024 .f32) : Vec Ideal S1x1024 .f32 :=
  outG (iblk m c 0 t) (iblk m c 3 t) (iblk m c 4 t) (iblk m c 5 t) (iblk m c 6 t) (iblk m c 7 t) (iblk m c 8 t) (iblk m c 9 t) (iblk m c 10 t) (iblk m c 11 t) (iblk m c 12 t) acc

theorem outs_first (t : Fin cfg0.N) (h0 : t.val % 8 = 0) : outsAt0 m c t.val t.isLt = (X m c t, B m c t, G m c t (k0_pay6 (F := Ideal))) :=
  (outsAt0_A m c t h0).trans (outs_A ..)
theorem outs_next (t : Fin cfg0.N) (h0 : ¬t.val % 8 = 0) :
    outsAt0 m c t.val t.isLt = (X m c t, B m c t, G m c t (outsAt0 m c (t.val - 1) (Nat.lt_of_le_of_lt (Nat.sub_le _ _) t.isLt)).2.2) :=
  (outsAt0_B m c t h0).trans (outs_B ..)

theorem outs_12 (t : Fin cfg0.N) : (outsAt0 m c t.val t.isLt).1 = X m c t ∧ (outsAt0 m c t.val t.isLt).2.1 = B m c t := by
  by_cases h0 : t.val % 8 = 0
  · rw [outs_first m c t h0]; exact ⟨rfl, rfl⟩
  · rw [outs_next m c t h0]; exact ⟨rfl, rfl⟩

/-- The gradient of the normed block, at a point. -/
theorem dx_apply (t : Fin cfg0.N) (r : Fin 512) (k : Fin 1024) :
    k0_pay1 (F := Ideal) (k0_pay9 (iblk m c 4 t)) (k0_pay10 (iblk m c 5 t)) (k0_pay11 (iblk m c 6 t)) (k0_pay12 (iblk m c 7 t)) (k0_pay13 (iblk m c 8 t)) (k0_pay14 (iblk m c 9 t)) (k0_pay15 (iblk m c 10 t))
      (k0_pay16 (iblk m c 11 t)) (iblk m c 12 t) (iblk m c 3 t) (ix2 r k) = Cert.Inx.Dx (cW m c) (cD m c) (rowOf t r) k := by
  rw [pay1_apply]
  refine Eq.trans (Finset.sum_congr rfl fun q _ => ?_) (Cert.Inx.wide_inner (cD m c (rowOf t r)) (cW m c k))
  obtain ⟨d2, d3, d4, d5, d6, d7, d8, d9, d10⟩ := part_blocks m c t r
  rw [w_apply]
  exact congrArg (· * Win.wide (cW m c k) q) (Cert.Kernel3Ideal.Win.cat_apply (x2 := k0_pay9 (iblk m c 4 t)) (x3 := k0_pay10 (iblk m c 5 t)) (x4 := k0_pay11 (iblk m c 6 t)) (x5 := k0_pay12 (iblk m c 7 t))
    (x6 := k0_pay13 (iblk m c 8 t)) (x7 := k0_pay14 (iblk m c 9 t)) (x8 := k0_pay15 (iblk m c 10 t)) (x9 := k0_pay16 (iblk m c 11 t)) (x10 := iblk m c 12 t) _ r (Win.wide (cD m c (rowOf t r)))
    (fun p => (congrFun (shapeCast_self _ _) _).trans (d2 p)) (fun p => (congrFun (shapeCast_self _ _) _).trans (d3 p))
    (fun p => (congrFun (shapeCast_self _ _) _).trans (d4 p)) (fun p => (congrFun (shapeCast_self _ _) _).trans (d5 p))
    (fun p => (congrFun (shapeCast_self _ _) _).trans (d6 p)) (fun p => (congrFun (shapeCast_self _ _) _).trans (d7 p))
    (fun p => (congrFun (shapeCast_self _ _) _).trans (d8 p)) (fun p => (congrFun (shapeCast_self _ _) _).trans (d9 p)) d10 q)

theorem gamma_apply (t : Fin cfg0.N) (o : Fin 1) (k : Fin 1024) : k0_pay8 (F := Ideal) (iblk m c 2 t) (ix2 o k) = cG m c k :=
  (congrFun (shapeCast_self _ _) _).trans (g_apply m c t o k)

theorem scale_apply (t : Fin cfg0.N) (r : Fin 512) (o : Fin 1) : k0_pay7 (F := Ideal) (iblk m c 0 t) (ix2 r o) = Mlp.R (cH m c (rowOf t r)) :=
  (pay7_apply _ r o).trans (congrArg Mlp.R (funext fun k => h_apply m c t r k))

theorem X_apply (t : Fin cfg0.N) (r : Fin 512) (k : Fin 1024) : X m c t (ix2 r k) = Cert.Inx.Out (cH m c) (cY m c) (cG m c) (cW m c) (cD m c) (rowOf t r) k := by
  unfold X outX
  rw [pay3_apply]
  simp only [dx_apply, gamma_apply, scale_apply, h_apply, y_apply]
  rfl
theorem B_apply (t : Fin cfg0.N) (r : Fin 512) (k : Fin 1024) : B m c t (ix2 r k) = Cert.Inx.Out (cH m c) (cY m c) (cG m c) (cW m c) (cD m c) (rowOf t r) k :=
  X_apply m c t r k

/-- What a row adds to the norm's gradient at `k`. -/
def term (k : Fin 1024) (t : Fin 4096) : EReal := Cert.Inx.Dx (cW m c) (cD m c) t k * (cH m c t k * Mlp.R (cH m c t))

theorem G_apply (t : Fin cfg0.N) (acc : Vec Ideal S1x1024 .f32) (o : Fin 1) (k : Fin 1024) : G m c t acc (ix2 o k) = acc (ix2 o k) + ∑ r : Fin 512, term m c k (rowOf t r) := by
  unfold G outG
  rw [pay5_apply]
  simp only [dx_apply, scale_apply, h_apply]
  rfl

/-- The norm's gradient after point `n`. -/
theorem acc_eq (o : Fin 1) (k : Fin 1024) : ∀ (n : ℕ) (h : n < cfg0.N),
    (outsAt0 m c n h).2.2 (ix2 o k) = ∑ j ∈ Finset.range (n + 1), ∑ r : Fin 512, term m c k ⟨(j % 8) * 512 + r.val, by omega⟩
  | 0, h => by
    rw [outs_first m c ⟨0, h⟩ rfl]
    refine (G_apply m c ⟨0, h⟩ _ o k).trans ?_
    rw [pay6_apply, zero_add, Finset.sum_range_one]
  | n + 1, h => by
    have h8 := lt8 ⟨n + 1, h⟩
    rw [outs_next m c ⟨n + 1, h⟩ (by dsimp only at h8 ⊢; omega)]
    refine (G_apply m c ⟨n + 1, h⟩ _ o k).trans ?_
    rw [Finset.sum_range_succ]
    refine congrArg₂ (· + ·) (acc_eq o k n _) (Finset.sum_congr rfl fun r _ => congrArg (term m c k) (Fin.ext ?_))
    show (n + 1) * 512 + r.val = ((n + 1) % 8) * 512 + r.val
    dsimp only at h8; omega

theorem acc_total (t : Fin cfg0.N) (h : t.val % 8 = 7) (o : Fin 1) (k : Fin 1024) : (outsAt0 m c t.val t.isLt).2.2 (ix2 o k) = Cert.Inx.Gam (cH m c) (cW m c) (cD m c) k := by
  have h8 := lt8 t
  rw [acc_eq, show t.val = 7 by omega]
  show _ = ∑ t, term m c k t
  rw [Fin.sum_univ_tiles 8 512 (by decide), Finset.sum_range]
  exact Finset.sum_congr rfl fun j _ => Finset.sum_congr rfl fun r _ => congrArg (term m c k) (Fin.ext (by show (j.val % 8) * 512 + r.val = j.val * 512 + r.val; omega))

/-- The gradient of the layer's input, -/
def G13 : S4096x1024.Idx → EReal := fun i => Cert.Inx.Out (cH m c) (cY m c) (cG m c) (cW m c) (cD m c) (i 0) (i 1)
/-- and of the norm's weight. -/
def G15 : S1x1024.Idx → EReal := fun i => Cert.Inx.Gam (cH m c) (cW m c) (cD m c) (i 1)

theorem emb_13 (t : Fin cfg0.N) (r : Fin 512) (k : Fin 1024) : ((cfg0.win 13).blk t).view.emb (ix2 r k) = (ix2 (rowOf t r) k : S4096x1024.Idx) :=
  ext2 (move (ix_row t).2.2.1) (still (ix_col t).2.2.1)
theorem emb_14 (t : Fin cfg0.N) (r : Fin 512) (k : Fin 1024) : ((cfg0.win 14).blk t).view.emb (ix2 r k) = (ix2 (rowOf t r) k : S4096x1024.Idx) :=
  ext2 (move (ix_row t).2.2.2.1) (still (ix_col t).2.2.2.1)
theorem emb_15 (t : Fin cfg0.N) (o : Fin 1) (k : Fin 1024) : ((cfg0.win 15).blk t).view.emb (ix2 o k) = (ix2 o k : S1x1024.Idx) :=
  ext2 (still (ix_row t).2.2.2.2.2.2) (still (ix_col t).2.2.2.2.2.2)

theorem flushed_13 (t : Fin cfg0.N) (hf : (cfg0.win 13).flush t = true) : (dats m 0 c).flushed 13 t = ((cfg0.win 13).blk t).view.read (Elt Ideal) (G13 m c) :=
  ((flushed13 m c t).trans (congrArg ((cfg0.win 13).cut (grid0.coords t)) (outs_12 m c t).1)).trans
    (funext (all2 fun x y => (X_apply m c t x y).trans (congrArg (G13 m c) (emb_13 t x y)).symm))
theorem flushed_14 (t : Fin cfg0.N) (hf : (cfg0.win 14).flush t = true) : (dats m 0 c).flushed 14 t = ((cfg0.win 14).blk t).view.read (Elt Ideal) (G13 m c) :=
  ((flushed14 m c t).trans (congrArg ((cfg0.win 14).cut (grid0.coords t)) (outs_12 m c t).2)).trans
    (funext (all2 fun x y => (B_apply m c t x y).trans (congrArg (G13 m c) (emb_14 t x y)).symm))
theorem flushed_15 (t : Fin cfg0.N) (hf : (cfg0.win 15).flush t = true) : (dats m 0 c).flushed 15 t = ((cfg0.win 15).blk t).view.read (Elt Ideal) (G15 m c) :=
  (flushed15 m c t).trans (funext (all2 fun x y => (acc_total m c t ((flush0_15 t).mp hf) x y).trans (congrArg (G15 m c) (emb_15 t x y)).symm))

/-- The point whose row block row `t` lies in. -/
abbrev pointOf (t : Fin 4096) : Fin cfg0.N := ⟨t.val / 512, lt_of_lt_of_eq (by omega) N_0.symm⟩
theorem pointOf_row (t : Fin 4096) : rowOf (pointOf t) ⟨t.val % 512, by omega⟩ = t := Fin.ext (by show t.val / 512 * 512 + t.val % 512 = t.val; omega)

theorem final_13 : (dats m 0 c).arrAt 13 cfg0.N = G13 m c :=
  (dats m 0 c).arrAt_eq_of_cover 13 (G13 m c) (flushed_13 m c) (all2 fun t k =>
    ⟨pointOf t, flush0_13 _, mem_of _ ((emb_13 (pointOf t) ⟨t.val % 512, by omega⟩ k).trans (congrArg (ix2 · k) (pointOf_row t)))⟩)
theorem final_14 : (dats m 0 c).arrAt 14 cfg0.N = G13 m c :=
  (dats m 0 c).arrAt_eq_of_cover 14 (G13 m c) (flushed_14 m c) (all2 fun t k =>
    ⟨pointOf t, flush0_14 _, mem_of _ ((emb_14 (pointOf t) ⟨t.val % 512, by omega⟩ k).trans (congrArg (ix2 · k) (pointOf_row t)))⟩)
/-- The grid's last point, where the norm's gradient is written out. -/
def last : Fin cfg0.N := ⟨7, lt_of_lt_of_eq (by decide) N_0.symm⟩
theorem last_mod : last.val % 8 = 7 := rfl
theorem final_15 : (dats m 0 c).arrAt 15 cfg0.N = G15 m c :=
  (dats m 0 c).arrAt_eq_of_cover 15 (G15 m c) (flushed_15 m c) (all2 fun o k =>
    ⟨last, (flush0_15 last).mpr last_mod, mem_of _ (emb_15 last o k)⟩)

end Cert.Kernel4Ideal.Inx
-- ==== Proof.Inx.Ref.lean ====
module

public import proofs.«01_k».proof.Proof.Gen.Reference4Ideal.Run
public import proofs.«01_k».proof.Proof.RefTerms
public import proofs.«01_k».proof.Proof.Inx.Math

@[expose] public section

set_option maxRecDepth 16384

noncomputable section

/-! # The reference's three results, in the gradient of the projection's input: the hidden layer's norm terms over another gradient -/

namespace Cert.Reference4Ideal.Val

open Cert Cert.Reference4Ideal Cert.Reference4Ideal.Gen Cert.Reference4Ideal.Value
open Cert.ReferenceIdeal.Val (tOut tG tXh tGam tOut_apply tGam_apply)
open Idealize.ShloMosaic Idealize.ShloMosaic.TcCoe

variable (m : (ℓ : Loc nD τ sig) → Buf (Elt Ideal) ℓ) (c : Dev nD)

def aH : FVec Ideal S4096x1024 .f32 := m ((c.tc : Thread nD τ).loc main_arg0)
def aG : FVec Ideal S1024 .f32 := m ((c.tc : Thread nD τ).loc main_arg1)
def aW : FVec Ideal S1024x2832 .f32 := m ((c.tc : Thread nD τ).loc main_arg2)
def aY : FVec Ideal S4096x1024 .f32 := m ((c.tc : Thread nD τ).loc main_arg3)
def aD : FVec Ideal S4096x2832 .f32 := m ((c.tc : Thread nD τ).loc main_arg4)
abbrev cH : Fin 4096 → Fin 1024 → EReal := fun t k => aH m c (ix2 t k)
abbrev cG : Fin 1024 → EReal := fun k => aG m c (ix1 k)
abbrev cW : Fin 1024 → Fin 2832 → EReal := fun k p => aW m c (ix2 k p)
abbrev cY : Fin 4096 → Fin 1024 → EReal := fun t k => aY m c (ix2 t k)
abbrev cD : Fin 4096 → Fin 2832 → EReal := fun t p => aD m c (ix2 t p)

/-- The gradient of the normed input. -/
def tDx (w : FVec Ideal S1024x2832 .f32) (d : FVec Ideal S4096x2832 .f32) : FVec Ideal S4096x1024 .f32 :=
  Host.dotGeneral dot_S4096x2832_S1024x2832_S4096x1024_1_1_0_0_n_n none d w

theorem tDx_apply (w d) (t : Fin 4096) (k : Fin 1024) : tDx w d (ix2 t k) = ∑ p : Fin 2832, d (ix2 t p) * w (ix2 k p) := by
  pointwise [tDx]

def out0 : FVec Ideal S4096x1024 .f32 := tOut (aH m c) (mulf (tDx (aW m c) (aD m c)) (tG (aG m c))) (aY m c)
def out1 : FVec Ideal S4096x1024 .bf16 := truncf .bf16 (out0 m c) bitsLt_bf16_f32
def out2 : FVec Ideal S1x1024 .f32 := tGam (tXh (aH m c)) (tDx (aW m c) (aD m c))

theorem out0_apply (t : Fin 4096) (k : Fin 1024) : out0 m c (ix2 t k) = Cert.Inx.Out (cH m c) (cY m c) (cG m c) (cW m c) (cD m c) t k := by
  unfold out0
  rw [tOut_apply]
  simp only [tDx_apply]
  rfl
theorem out1_apply (t : Fin 4096) (k : Fin 1024) : out1 m c (ix2 t k) = Cert.Inx.Out (cH m c) (cY m c) (cG m c) (cW m c) (cD m c) t k :=
  out0_apply m c t k
theorem out2_apply (o : Fin 1) (k : Fin 1024) : out2 m c (ix2 o k) = Cert.Inx.Gam (cH m c) (cW m c) (cD m c) k := by
  unfold out2
  rw [tGam_apply]
  simp only [tDx_apply, Cert.ReferenceIdeal.Val.tXh_apply]
  exact Cert.Inx.gam_comm (cH m c) (cW m c) (cD m c) k

/-- The reference's run with its results at these terms. -/
theorem run_named (ρ : Dev nD → PrngReg) :
    θ_run (defs (F := Ideal)) (onTc (τ := τ) (main (F := Ideal))) ⟨m, fun _ => 0, ρ⟩ fun r => ∀ c : Dev nD,
      r.2.mem ((c.tc : Thread nD τ).loc main_v38) = out0 m c
      ∧ r.2.mem ((c.tc : Thread nD τ).loc main_v39) = out1 m c
      ∧ r.2.mem ((c.tc : Thread nD τ).loc main_v40) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run (F := Ideal) m ρ

end Cert.Reference4Ideal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Finals
public import proofs.«01_k».proof.Proof.Transfer
public import proofs.«01_k».proof.Proof.RefTerms
public import proofs.«01_k».proof.Proof.Fwd.Finals
public import proofs.«01_k».proof.Proof.Fwd.Transfer
public import proofs.«01_k».proof.Proof.Fwd.Ref
public import proofs.«01_k».proof.Proof.Win.Chain
public import proofs.«01_k».proof.Proof.Win.Ref
public import proofs.«01_k».proof.Proof.Inx.Finals
public import proofs.«01_k».proof.Proof.Inx.Ref
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.SL.Sem Idealize.ShloMosaic.TcCoe

/-- The kernel's text and its idealization's are one, so the run over any float values is the frame of both. -/
theorem frame_kernel : Cert.quiescent_Kernel := fun m ρ _ => by
  rw [Cert.Transfer.defs_eq, Cert.Transfer.main_eq]
  exact Cert.KernelIdeal.Body.quiescent (F := Bits) m ρ

theorem frame_ideal : Cert.quiescent_KernelIdeal := fun m ρ _ => Cert.KernelIdeal.Body.quiescent (F := Ideal) m ρ

/-- The reference is host operations in a row, none of which writes an argument; it declares no semaphore. -/
theorem frame_reference : Cert.quiescent_ReferenceIdeal := fun m ρ _ =>
  (θ_run Cert.ReferenceIdeal.defs _ _).mono (fun r h => ⟨fun c => ⟨(h c).2.2.2.2.1, (h c).2.2.2.2.2.1, (h c).2.2.2.2.2.2.1, (h c).2.2.2.2.2.2.2.1, (h c).2.2.2.2.2.2.2.2⟩,
      sem_eq_zero_of_no_sems (by decide) r.2⟩)
    (Cert.ReferenceIdeal.Value.run (F := Ideal) m ρ)

section Value
open Cert.KernelIdeal.Body

/-- The kernel's run with its four results at the mathematics' functions of the arguments. -/
theorem run_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25_0) = G8 m c
      ∧ r.2.mem ((c.tc : Thread Cert.KernelIdeal.nD Cert.KernelIdeal.τ).loc Cert.KernelIdeal.main_v25_1) = G9 m c
      ∧ r.2.mem ((c.tc : Thread Cert.KernelIdeal.nD Cert.KernelIdeal.τ).loc Cert.KernelIdeal.main_v25_2) = G10 m c
      ∧ r.2.mem ((c.tc : Thread Cert.KernelIdeal.nD Cert.KernelIdeal.τ).loc Cert.KernelIdeal.main_v25_3) = G11 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨((h.1 c).1 8).trans (final_8 m c), ((h.1 c).1 9).trans (final_9 m c), ((h.1 c).1 10).trans (final_10 m c), ((h.1 c).1 11).trans (final_11 m c), h.2.1 c⟩)
    (θ_run_and (run_main m ρ) (quiescent m ρ))

/-- The kernel's results are the reference's. -/
theorem algebraic : Cert.algebraic_KernelIdeal_ReferenceIdeal := by
  intro m ρ m' ρ' _ hagree
  refine ⟨G8 m, G9 m, G10 m, G11 m, run_value m ρ, ?_⟩
  refine (θ_run Cert.ReferenceIdeal.defs _ _).mono (fun r h c => ?_) (Cert.ReferenceIdeal.Value.run (F := Ideal) m' ρ')
  obtain ⟨h0, h1, h2, h3, ha⟩ := h c
  have eH : Cert.ReferenceIdeal.Val.cH m' c = cH m c := congrArg (fun a : FVec Ideal _ .f32 => fun t k => a (ix2 t k)) (hagree c).1
  have eG : Cert.ReferenceIdeal.Val.cG m' c = cG m c := congrArg (fun a : FVec Ideal _ .f32 => fun k => a (ix1 k)) (hagree c).2.1
  have eWu : Cert.ReferenceIdeal.Val.cWu m' c = cWu m c := congrArg (fun a : FVec Ideal _ .f32 => fun t k => a (ix2 t k)) (hagree c).2.2.1
  have eWd : Cert.ReferenceIdeal.Val.cWd m' c = cWd m c := congrArg (fun a : FVec Ideal _ .f32 => fun t k => a (ix2 t k)) (hagree c).2.2.2.1
  have eY : Cert.ReferenceIdeal.Val.cY m' c = cY m c := congrArg (fun a : FVec Ideal _ .f32 => fun t k => a (ix2 t k)) (hagree c).2.2.2.2
  refine ⟨h0.trans ?_, h1.trans ?_, h2.trans ?_, h3.trans ?_, ha⟩
  · funext i; idx_vars i
    refine (Cert.ReferenceIdeal.Val.out0_apply m' c i0 i1).trans ?_
    rw [eH, eG, eWu, eWd, eY]; rfl
  · funext i; idx_vars i
    refine (Cert.ReferenceIdeal.Val.out1_apply m' c i0 i1 i2 i3).trans ?_
    rw [eH, eG, eWu, eWd, eY]; rfl
  · funext i; idx_vars i
    refine (Cert.ReferenceIdeal.Val.out2_apply m' c i0 i1 i2 i3).trans ?_
    rw [eH, eG, eWu, eY]; rfl
  · funext i; idx_vars i
    refine (Cert.ReferenceIdeal.Val.out3_apply m' c i0 i1).trans ?_
    rw [eH, eG, eWu, eWd, eY]; rfl

end Value

/-! ## The output projection and the hidden layer, forward -/

theorem frame_kernel2 : Cert.quiescent_Kernel2 := fun m ρ _ => by
  rw [Cert.Fwd.Transfer.defs_eq, Cert.Fwd.Transfer.main_eq]
  exact Cert.Kernel2Ideal.Fwd.quiescent (F := Bits) m ρ

theorem frame_ideal2 : Cert.quiescent_Kernel2Ideal := fun m ρ _ => Cert.Kernel2Ideal.Fwd.quiescent (F := Ideal) m ρ

theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

section Forward
open Cert.Kernel2Ideal.Fwd

/-- The kernel's run with its four results at the mathematics' functions of the arguments. -/
theorem run_value2 (m : (ℓ : Loc Cert.Kernel2Ideal.nD Cert.Kernel2Ideal.τ Cert.Kernel2Ideal.sig) → Buf (Elt Ideal) ℓ) (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩ (fun r => ∀ c : Dev Cert.Kernel2Ideal.nD,
      r.2.mem ((c.tc : Thread Cert.Kernel2Ideal.nD Cert.Kernel2Ideal.τ).loc Cert.Kernel2Ideal.main_v10_0) = G8 m c
      ∧ r.2.mem ((c.tc : Thread Cert.Kernel2Ideal.nD Cert.Kernel2Ideal.τ).loc Cert.Kernel2Ideal.main_v10_1) = G9 m c
      ∧ r.2.mem ((c.tc : Thread Cert.Kernel2Ideal.nD Cert.Kernel2Ideal.τ).loc Cert.Kernel2Ideal.main_v10_2) = G10 m c
      ∧ r.2.mem ((c.tc : Thread Cert.Kernel2Ideal.nD Cert.Kernel2Ideal.τ).loc Cert.Kernel2Ideal.main_v10_3) = G11 m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)) :=
  (θ_run Cert.Kernel2Ideal.defs _ _).mono
    (fun _ h c => ⟨((h.1 c).1 8).trans (final_8 m c), ((h.1 c).1 9).trans (final_9 m c), ((h.1 c).1 10).trans (final_10 m c), ((h.1 c).1 11).trans (final_11 m c), h.2.1 c⟩)
    (θ_run_and (run_main m ρ) (quiescent m ρ))

/-- The kernel's results are the reference's. -/
theorem algebraic2 : Cert.algebraic_Kernel2Ideal_Reference2Ideal := by
  intro m ρ m' ρ' _ hagree
  refine ⟨G8 m, G9 m, G10 m, G11 m, run_value2 m ρ, ?_⟩
  refine (θ_run Cert.Reference2Ideal.defs _ _).mono (fun r h c => ?_) (Cert.Reference2Ideal.Val.run_named m' ρ')
  obtain ⟨h0, h1, h2, h3, ha⟩ := h c
  have eH : Cert.Reference2Ideal.Val.cH m' c = cH m c := congrArg (fun a : FVec Ideal _ .f32 => fun t k => a (ix2 t k)) (hagree c).1
  have eOg : Cert.Reference2Ideal.Val.cOg m' c = cOg m c := congrArg (fun a : FVec Ideal _ .f32 => fun t k => a (ix2 t k)) (hagree c).2.1
  have eOc : Cert.Reference2Ideal.Val.cOc m' c = cOc m c := congrArg (fun a : FVec Ideal _ .f32 => fun t k => a (ix2 t k)) (hagree c).2.2.1
  have eOa : Cert.Reference2Ideal.Val.cOa m' c = cOa m c := congrArg (fun a : FVec Ideal _ .f32 => fun t k => a (ix2 t k)) (hagree c).2.2.2.1
  have eWo : Cert.Reference2Ideal.Val.cWo m' c = cWo m c := congrArg (fun a : FVec Ideal _ .f32 => fun t k => a (ix2 t k)) (hagree c).2.2.2.2.1
  have eG : Cert.Reference2Ideal.Val.cG m' c = cG m c := congrArg (fun a : FVec Ideal _ .f32 => fun k => a (ix1 k)) (hagree c).2.2.2.2.2.1
  have eWu : Cert.Reference2Ideal.Val.cWu m' c = cWu m c := congrArg (fun a : FVec Ideal _ .f32 => fun t k => a (ix2 t k)) (hagree c).2.2.2.2.2.2.1
  have eWd : Cert.Reference2Ideal.Val.cWd m' c = cWd m c := congrArg (fun a : FVec Ideal _ .f32 => fun t k => a (ix2 t k)) (hagree c).2.2.2.2.2.2.2
  refine ⟨h0.trans ?_, h1.trans ?_, h2.trans ?_, h3.trans ?_, ha⟩
  · funext i; idx_vars i
    refine (Cert.Reference2Ideal.Val.out0_apply m' c i0 i1).trans ?_
    rw [eH, eOg, eOc, eOa, eWo]; rfl
  · funext i; idx_vars i
    refine (Cert.Reference2Ideal.Val.tXt_apply _ i0 i1).trans ((Cert.Reference2Ideal.Val.normed_apply m' c i1 i0).trans ?_)
    rw [eH, eOg, eOc, eOa, eWo, eG]; rfl
  · funext i; idx_vars i
    refine (Cert.Reference2Ideal.Val.out2_apply m' c i0 i1).trans ?_
    rw [eH, eOg, eOc, eOa, eWo, eG, eWu, eWd]; rfl
  · funext i; idx_vars i
    refine (Cert.Reference2Ideal.Val.tAb_apply _ i0 i1).trans ((Cert.Reference2Ideal.Val.acts_apply m' c i0 i1).trans ?_)
    rw [eH, eOg, eOc, eOa, eWo, eG, eWu]; rfl

end Forward

/-! ## The gradient of the input projection's weight -/

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's. -/
theorem algebraic3 : Cert.algebraic_Kernel3Ideal_Reference3Ideal := by
  intro m ρ m' ρ' _ hagree
  refine ⟨Cert.Kernel3Ideal.Value.G11 m, Cert.Kernel3Ideal.Value.run (F := Ideal) m ρ, ?_⟩
  refine (θ_run Cert.Reference3Ideal.defs _ _).mono (fun r h c => ?_) (Cert.Reference3Ideal.Value.run (F := Ideal) m' ρ')
  obtain ⟨h0, ha⟩ := h c
  have eH : Cert.Reference3Ideal.Val.cH m' c = Cert.Kernel3Ideal.Win.cH m c := congrArg (fun a : FVec Ideal _ .f32 => fun t k => a (ix2 t k)) (hagree c).1
  have eG : Cert.Reference3Ideal.Val.cG m' c = Cert.Kernel3Ideal.Win.cG m c := congrArg (fun a : FVec Ideal _ .f32 => fun k => a (ix1 k)) (hagree c).2.1
  have eD : Cert.Reference3Ideal.Val.cD m' c = Cert.Kernel3Ideal.Win.cD m c := congrArg (fun a : FVec Ideal _ .f32 => fun t k => a (ix2 t k)) (hagree c).2.2.2
  refine ⟨h0.trans ?_, ha⟩
  funext i; idx_vars i
  refine (Cert.Reference3Ideal.Val.out0_apply m' c i0 i1).trans ?_
  rw [eH, eG, eD]; exact (Cert.Kernel3Ideal.Win.result m c i0 i1).symm

/-! ## The gradient of the input projection's input -/

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

section Input
open Cert.Kernel4Ideal.Inx

/-- The kernel's results are the reference's. -/
theorem algebraic4 : Cert.algebraic_Kernel4Ideal_Reference4Ideal := by
  intro m ρ m' ρ' _ hagree
  refine ⟨G13 m, G13 m, G15 m, (θ_run Cert.Kernel4Ideal.defs _ _).mono (fun _ h c =>
    ⟨(h c).1.trans (final_13 m c), (h c).2.1.trans (final_14 m c), (h c).2.2.1.trans (final_15 m c), (h c).2.2.2⟩) (Cert.Kernel4Ideal.Value.run_blocks (F := Ideal) m ρ), ?_⟩
  refine (θ_run Cert.Reference4Ideal.defs _ _).mono (fun r h c => ?_) (Cert.Reference4Ideal.Val.run_named m' ρ')
  obtain ⟨h0, h1, h2, ha⟩ := h c
  have eH : Cert.Reference4Ideal.Val.cH m' c = cH m c := congrArg (fun a : FVec Ideal _ .f32 => fun t k => a (ix2 t k)) (hagree c).1
  have eG : Cert.Reference4Ideal.Val.cG m' c = cG m c := congrArg (fun a : FVec Ideal _ .f32 => fun k => a (ix1 k)) (hagree c).2.1
  have eW : Cert.Reference4Ideal.Val.cW m' c = cW m c := congrArg (fun a : FVec Ideal _ .f32 => fun t k => a (ix2 t k)) (hagree c).2.2.1
  have eY : Cert.Reference4Ideal.Val.cY m' c = cY m c := congrArg (fun a : FVec Ideal _ .f32 => fun t k => a (ix2 t k)) (hagree c).2.2.2.1
  have eD : Cert.Reference4Ideal.Val.cD m' c = cD m c := congrArg (fun a : FVec Ideal _ .f32 => fun t k => a (ix2 t k)) (hagree c).2.2.2.2
  refine ⟨h0.trans ?_, h1.trans ?_, h2.trans ?_, ha⟩
  · funext i; idx_vars i
    refine (Cert.Reference4Ideal.Val.out0_apply m' c i0 i1).trans ?_
    rw [eH, eG, eW, eY, eD]; rfl
  · funext i; idx_vars i
    refine (Cert.Reference4Ideal.Val.out1_apply m' c i0 i1).trans ?_
    rw [eH, eG, eW, eY, eD]; rfl
  · funext i; idx_vars i
    refine (Cert.Reference4Ideal.Val.out2_apply m' c i0 i1).trans ?_
    rw [eH, eW, eD]; rfl

end Input

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    frame_kernel, frame_ideal, frame_reference, frame_kernel2, frame_ideal2, frame_reference2, frame_kernel3, frame_ideal3, frame_reference3,
    frame_kernel4, frame_ideal4, frame_reference4, trivial, algebraic, trivial, algebraic2, trivial, algebraic3, trivial, algebraic4⟩

end Cert.Proof

end
